-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 1024, 64, 128]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 1024, 64, 128]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x8192 : Shape := ⟨2, ![1024, 8192]⟩
abbrev S1x1024x8x128 : Shape := ⟨4, ![1, 1024, 8, 128]⟩
abbrev S8192x1024 : Shape := ⟨2, ![8192, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x1024x8x128 : S_.BroadcastsInDim S1x1024x8x128 (![] : Fin 0 → Fin S1x1024x8x128.rank)
  reducesTo_S1x1024x8x128_S_d0_1_2_3 : S1x1024x8x128.ReducesTo [0, 1, 2, 3] S_

variable [Facts]

def fn {F : FTy → Type} [FloatOps F] (main_arg0 : FVec F S1x1024x1024 .f32) (main_arg1 : FVec F S1024x8192 .f32) (main_arg2 : FVec F S1x1024x8x128 .f32) (main_arg3 : FVec F S1x1024x8x128 .f32) (main_arg4 : FVec F S8192x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x1024x8x128 .f32 := Host.absf main_arg2
  let main_cst_2 : FVec F S_ .f32 := constant S_ .f32 0x7F800000#32
  let main_v10 : FVec F S1x1024x8x128 .f32 := broadcastInDim S1x1024x8x128 ![] bcast_S_S1x1024x8x128 main_cst_2
  let main_v11 : IVec S1x1024x8x128 1 := cmpf .olt main_v9 main_v10
  let main_c_3 : IVec S_ 1 := constantI S_ 1 1#1
  let main_v12 : IVec S_ 1 := (fun x v => Host.reduce IntOp.andi x v reducesTo_S1x1024x8x128_S_d0_1_2_3 h_S_) main_v11 main_c_3
  let main_v13 : IVec S_ 1 := andi main_v8 main_v12
  main_v13
-- ==== Pre_finite_ReferenceIdeal.lean ====
abbrev S1x1024x1024 : Shape := ⟨3, ![1, 1024, 1024]⟩
abbrev S1024x8192 : Shape := ⟨2, ![1024, 8192]⟩
abbrev S1x1024x64x128 : Shape := ⟨4, ![1, 1024, 64, 128]⟩
abbrev S8192x1024 : Shape := ⟨2, ![8192, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x1024x64x128 : S_.BroadcastsInDim S1x1024x64x128 (![] : Fin 0 → Fin S1x1024x64x128.rank)
  reducesTo_S1x1024x64x128_S_d0_1_2_3 : S1x1024x64x128.ReducesTo [0, 1, 2, 3] S_

variable [Facts]

def fn {F : FTy → Type} [FloatOps F] (main_arg0 : FVec F S1x1024x1024 .f32) (main_arg1 : FVec F S1024x8192 .f32) (main_arg2 : FVec F S1x1024x64x128 .f32) (main_arg3 : FVec F S1x1024x64x128 .f32) (main_arg4 : FVec F S8192x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x1024x64x128 .f32 := Host.absf main_arg2
  let main_cst_2 : FVec F S_ .f32 := constant S_ .f32 0x7F800000#32
  let main_v10 : FVec F S1x1024x64x128 .f32 := broadcastInDim S1x1024x64x128 ![] bcast_S_S1x1024x64x128 main_cst_2
  let main_v11 : IVec S1x1024x64x128 1 := cmpf .olt main_v9 main_v10
  let main_c_3 : IVec S_ 1 := constantI S_ 1 1#1
  let main_v12 : IVec S_ 1 := (fun x v => Host.reduce IntOp.andi x v reducesTo_S1x1024x64x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x8192 : Shape := ⟨2, ![1024, 8192]⟩
abbrev S1x1024x8x128 : Shape := ⟨4, ![1, 1024, 8, 128]⟩
abbrev S8192x1024 : Shape := ⟨2, ![8192, 1024]⟩
abbrev S3x512x1024 : Shape := ⟨3, ![3, 512, 1024]⟩
abbrev S1024x1024 : Shape := ⟨2, ![1024, 1024]⟩
abbrev S4 : Shape := ⟨1, ![4]⟩
abbrev S3x3 : Shape := ⟨2, ![3, 3]⟩
abbrev S1 : Shape := ⟨1, ![1]⟩
abbrev S_ : Shape := ⟨0, ![]⟩
abbrev S256x256 : Shape := ⟨2, ![256, 256]⟩
abbrev S256x512 : Shape := ⟨2, ![256, 512]⟩
abbrev S256x768 : Shape := ⟨2, ![256, 768]⟩
abbrev S256x1024 : Shape := ⟨2, ![256, 1024]⟩
abbrev S1x1024x1x128 : Shape := ⟨4, ![1, 1024, 1, 128]⟩
abbrev S1024x128 : Shape := ⟨2, ![1024, 128]⟩
abbrev S256x128 : Shape := ⟨2, ![256, 128]⟩
abbrev S256 : Shape := ⟨1, ![256]⟩
abbrev S256x1 : Shape := ⟨2, ![256, 1]⟩
abbrev S512x128 : Shape := ⟨2, ![512, 128]⟩
abbrev S768x128 : Shape := ⟨2, ![768, 128]⟩
abbrev S512x1024 : Shape := ⟨2, ![512, 1024]⟩
abbrev S1024x384 : Shape := ⟨2, ![1024, 384]⟩
abbrev S512x384 : Shape := ⟨2, ![512, 384]⟩
abbrev S1x512x384 : Shape := ⟨3, ![1, 512, 384]⟩
abbrev S1x1 : Shape := ⟨2, ![1, 1]⟩
abbrev S1024x256 : Shape := ⟨2, ![1024, 256]⟩
abbrev S512x256 : Shape := ⟨2, ![512, 256]⟩
abbrev S1x512x256 : Shape := ⟨3, ![1, 512, 256]⟩
abbrev S1x256x384 : Shape := ⟨3, ![1, 256, 384]⟩
abbrev S256x384 : Shape := ⟨2, ![256, 384]⟩
abbrev S1x256x256 : Shape := ⟨3, ![1, 256, 256]⟩
abbrev S1x128x384 : Shape := ⟨3, ![1, 128, 384]⟩
abbrev S128x384 : Shape := ⟨2, ![128, 384]⟩
abbrev S1x128x256 : Shape := ⟨3, ![1, 128, 256]⟩
abbrev S128x256 : Shape := ⟨2, ![128, 256]⟩

abbrev nBuf : Space → Nat
  | .hbm => 6
  | .vmem => 8
  | .smem => 0
  | _ => 0

abbrev bufTy : (tb : Table) → Fin (tcTables nBuf tb) → BufTy
  | .hbm, ⟨0, _⟩ => ⟨S1x1024x1024, .f32⟩
  | .hbm, ⟨1, _⟩ => ⟨S1024x8192, .f32⟩
  | .hbm, ⟨2, _⟩ => ⟨S1x1024x8x128, .f32⟩
  | .hbm, ⟨3, _⟩ => ⟨S1x1024x8x128, .f32⟩
  | .hbm, ⟨4, _⟩ => ⟨S8192x1024, .f32⟩
  | .hbm, ⟨5, _⟩ => ⟨S1x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S3x512x1024, .f32⟩
  | .local _ .vmem, ⟨3, _⟩ => ⟨S1024x1024, .f32⟩
  | .local _ .vmem, ⟨4, _⟩ => ⟨S1024x1024, .f32⟩
  | .local _ .vmem, ⟨5, _⟩ => ⟨S1x1024x8x128, .f32⟩
  | .local _ .vmem, ⟨6, _⟩ => ⟨S1x1024x8x128, .f32⟩
  | .local _ .vmem, ⟨7, _⟩ => ⟨S1024x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v3 : BitVec 32 := Scalar.muli v2 c1024_i32
  ![0, v3.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_0 : BitVec 32 := 1024#32
  let v7 : BitVec 32 := Scalar.muli v2 c1024_i32_0
  let c0_i32_3 : BitVec 32 := 0#32
  ![v7.toNat, 0]
def k0_dev1 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v71 : BitVec 32 := Scalar.xori v2 c1_i32_29
  let c1_i32_31 : BitVec 32 := 1#32
  let v72 : BitVec 32 := Scalar.muli v71 c1_i32_31
  let v73 : BitVec 32 := Scalar.addi c0_i32_32 v72
  v73.toNat
def k0_dev2 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_33 : BitVec 32 := 3#32
  let v74 : BitVec 32 := Scalar.xori v2 c3_i32_33
  let c1_i32_35 : BitVec 32 := 1#32
  let v75 : BitVec 32 := Scalar.muli v74 c1_i32_35
  let v76 : BitVec 32 := Scalar.addi c0_i32_36 v75
  v76.toNat
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_37 : BitVec 32 := 4#32
  let v77 : BitVec 32 := Scalar.xori v2 c4_i32_37
  let c1_i32_39 : BitVec 32 := 1#32
  let v78 : BitVec 32 := Scalar.muli v77 c1_i32_39
  let v79 : BitVec 32 := Scalar.addi c0_i32_40 v78
  v79.toNat
def k0_off3 (d0 : Dev nD) : Fin 2 → Nat :=
  let c1_i32_353 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4 : BitVec 32 := 2#32
  let c0_i32_5 : BitVec 32 := 0#32
  let v15 : BitVec 1 := Scalar.cmpi .eq c2_i32_4 c0_i32_5
  let c1_i32_6 : BitVec 32 := 1#32
  let v16 : BitVec 32 := Scalar.select v15 c1_i32_6 c2_i32_4
  let v17 : BitVec 32 := Scalar.remsi v2 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v69 : BitVec 32 := Scalar.xori v24 v51
  let v804 : BitVec 32 := Scalar.subi c1_i32_353 v69
  let c512_i32 : BitVec 32 := 512#32
  let v805 : BitVec 32 := Scalar.muli v804 c512_i32
  let v806 : Index := Scalar.indexCast v805
  let c0_354 : Index := 0#32
  ![v806.toNat, 0]
def k0_off4 (d0 : Dev nD) : Fin 3 → Nat :=
  let c0_358 : Index := 0#32
  let c1_i32_353 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4 : BitVec 32 := 2#32
  let c0_i32_5 : BitVec 32 := 0#32
  let v15 : BitVec 1 := Scalar.cmpi .eq c2_i32_4 c0_i32_5
  let c1_i32_6 : BitVec 32 := 1#32
  let v16 : BitVec 32 := Scalar.select v15 c1_i32_6 c2_i32_4
  let v17 : BitVec 32 := Scalar.remsi v2 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v69 : BitVec 32 := Scalar.xori v24 v51
  let v804 : BitVec 32 := Scalar.subi c1_i32_353 v69
  let c512_i32 : BitVec 32 := 512#32
  let v805 : BitVec 32 := Scalar.muli v804 c512_i32
  let v810 : Index := Scalar.indexCast v805
  let c0_359 : Index := 0#32
  ![0, v810.toNat, 0]
def k0_off5 (d0 : Dev nD) : Fin 3 → Nat :=
  let c0_i32_364 : BitVec 32 := 0#32
  let c0_i32_362 : BitVec 32 := 0#32
  let c1_i32_360 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4 : BitVec 32 := 2#32
  let c0_i32_5 : BitVec 32 := 0#32
  let v15 : BitVec 1 := Scalar.cmpi .eq c2_i32_4 c0_i32_5
  let c1_i32_6 : BitVec 32 := 1#32
  let v16 : BitVec 32 := Scalar.select v15 c1_i32_6 c2_i32_4
  let v17 : BitVec 32 := Scalar.remsi v2 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v69 : BitVec 32 := Scalar.xori v24 v51
  let v814 : BitVec 32 := Scalar.subi c1_i32_360 v69
  let c512_i32_361 : BitVec 32 := 512#32
  let v815 : BitVec 32 := Scalar.muli v814 c512_i32_361
  let v816 : BitVec 32 := Scalar.addi c0_i32_362 v815
  let c0_i32_374 : BitVec 32 := 0#32
  ![0, v816.toNat, 0]
def k0_dev4 (d0 : Dev nD) : Nat :=
  let c0_i32_371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_363 : BitVec 32 := 1#32
  let v817 : BitVec 32 := Scalar.xori v2 c1_i32_363
  let c1_i32_370 : BitVec 32 := 1#32
  let v818 : BitVec 32 := Scalar.muli v817 c1_i32_370
  let v819 : BitVec 32 := Scalar.addi c0_i32_371 v818
  v819.toNat
def k0_off6 (d0 : Dev nD) : Fin 2 → Nat :=
  let c1_i32_375 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v828 : BitVec 32 := Scalar.subi c1_i32_375 v51
  let c512_i32_376 : BitVec 32 := 512#32
  let v829 : BitVec 32 := Scalar.muli v828 c512_i32_376
  let v830 : Index := Scalar.indexCast v829
  let c0_377 : Index := 0#32
  ![v830.toNat, 0]
def k0_off7 (d0 : Dev nD) : Fin 3 → Nat :=
  let c0_381 : Index := 0#32
  let c1_i32_375 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v828 : BitVec 32 := Scalar.subi c1_i32_375 v51
  let c512_i32_376 : BitVec 32 := 512#32
  let v829 : BitVec 32 := Scalar.muli v828 c512_i32_376
  let v834 : Index := Scalar.indexCast v829
  let c384_382 : Index := 384#32
  ![0, v834.toNat, 384]
def k0_off8 (d0 : Dev nD) : Fin 3 → Nat :=
  let c0_i32_387 : BitVec 32 := 0#32
  let c0_i32_385 : BitVec 32 := 0#32
  let c1_i32_383 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v838 : BitVec 32 := Scalar.subi c1_i32_383 v51
  let c512_i32_384 : BitVec 32 := 512#32
  let v839 : BitVec 32 := Scalar.muli v838 c512_i32_384
  let v840 : BitVec 32 := Scalar.addi c0_i32_385 v839
  let c384_i32_396 : BitVec 32 := 384#32
  ![0, v840.toNat, 384]
def k0_dev5 (d0 : Dev nD) : Nat :=
  let c0_i32_394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_386 : BitVec 32 := 3#32
  let v841 : BitVec 32 := Scalar.xori v2 c3_i32_386
  let c1_i32_393 : BitVec 32 := 1#32
  let v842 : BitVec 32 := Scalar.muli v841 c1_i32_393
  let v843 : BitVec 32 := Scalar.addi c0_i32_394 v842
  v843.toNat
def k0_off9 (d0 : Dev nD) : Fin 2 → Nat :=
  let c1_i32_397 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_23 : BitVec 32 := 0#32
  let v53 : BitVec 1 := Scalar.cmpi .sgt v2 c0_i32_23
  let v54 : BitVec 32 := Scalar.extui v53
  let c0_i32_24 : BitVec 32 := 0#32
  let v55 : BitVec 1 := Scalar.cmpi .slt v2 c0_i32_24
  let v56 : BitVec 32 := Scalar.extui v55
  let v57 : BitVec 32 := Scalar.subi v54 v56
  let c4_i32 : BitVec 32 := 4#32
  let c0_i32_25 : BitVec 32 := 0#32
  let v58 : BitVec 1 := Scalar.cmpi .sgt c4_i32 c0_i32_25
  let v59 : BitVec 32 := Scalar.extui v58
  let c0_i32_26 : BitVec 32 := 0#32
  let v60 : BitVec 1 := Scalar.cmpi .slt c4_i32 c0_i32_26
  let v61 : BitVec 32 := Scalar.extui v60
  let v62 : BitVec 32 := Scalar.subi v59 v61
  let v63 : BitVec 1 := Scalar.cmpi .ne v57 v62
  let v64 : BitVec 32 := Scalar.remsi v2 c4_i32
  let c0_i32_27 : BitVec 32 := 0#32
  let v65 : BitVec 1 := Scalar.cmpi .ne v64 c0_i32_27
  let v66 : BitVec 1 := Scalar.andi v63 v65
  let v52 : BitVec 32 := Scalar.divsi v2 c4_i32
  let c1_i32_28 : BitVec 32 := 1#32
  let v67 : BitVec 32 := Scalar.subi v52 c1_i32_28
  let v68 : BitVec 32 := Scalar.select v66 v67 v52
  let v852 : BitVec 32 := Scalar.subi c1_i32_397 v68
  let c512_i32_398 : BitVec 32 := 512#32
  let v853 : BitVec 32 := Scalar.muli v852 c512_i32_398
  let v854 : Index := Scalar.indexCast v853
  let c0_399 : Index := 0#32
  ![v854.toNat, 0]
def k0_off10 (d0 : Dev nD) : Fin 3 → Nat :=
  let c0_403 : Index := 0#32
  let c1_i32_397 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_23 : BitVec 32 := 0#32
  let v53 : BitVec 1 := Scalar.cmpi .sgt v2 c0_i32_23
  let v54 : BitVec 32 := Scalar.extui v53
  let c0_i32_24 : BitVec 32 := 0#32
  let v55 : BitVec 1 := Scalar.cmpi .slt v2 c0_i32_24
  let v56 : BitVec 32 := Scalar.extui v55
  let v57 : BitVec 32 := Scalar.subi v54 v56
  let c4_i32 : BitVec 32 := 4#32
  let c0_i32_25 : BitVec 32 := 0#32
  let v58 : BitVec 1 := Scalar.cmpi .sgt c4_i32 c0_i32_25
  let v59 : BitVec 32 := Scalar.extui v58
  let c0_i32_26 : BitVec 32 := 0#32
  let v60 : BitVec 1 := Scalar.cmpi .slt c4_i32 c0_i32_26
  let v61 : BitVec 32 := Scalar.extui v60
  let v62 : BitVec 32 := Scalar.subi v59 v61
  let v63 : BitVec 1 := Scalar.cmpi .ne v57 v62
  let v64 : BitVec 32 := Scalar.remsi v2 c4_i32
  let c0_i32_27 : BitVec 32 := 0#32
  let v65 : BitVec 1 := Scalar.cmpi .ne v64 c0_i32_27
  let v66 : BitVec 1 := Scalar.andi v63 v65
  let v52 : BitVec 32 := Scalar.divsi v2 c4_i32
  let c1_i32_28 : BitVec 32 := 1#32
  let v67 : BitVec 32 := Scalar.subi v52 c1_i32_28
  let v68 : BitVec 32 := Scalar.select v66 v67 v52
  let v852 : BitVec 32 := Scalar.subi c1_i32_397 v68
  let c512_i32_398 : BitVec 32 := 512#32
  let v853 : BitVec 32 := Scalar.muli v852 c512_i32_398
  let v858 : Index := Scalar.indexCast v853
  let c768_404 : Index := 768#32
  ![0, v858.toNat, 768]
def k0_off11 (d0 : Dev nD) : Fin 3 → Nat :=
  let c0_i32_409 : BitVec 32 := 0#32
  let c0_i32_407 : BitVec 32 := 0#32
  let c1_i32_405 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_23 : BitVec 32 := 0#32
  let v53 : BitVec 1 := Scalar.cmpi .sgt v2 c0_i32_23
  let v54 : BitVec 32 := Scalar.extui v53
  let c0_i32_24 : BitVec 32 := 0#32
  let v55 : BitVec 1 := Scalar.cmpi .slt v2 c0_i32_24
  let v56 : BitVec 32 := Scalar.extui v55
  let v57 : BitVec 32 := Scalar.subi v54 v56
  let c4_i32 : BitVec 32 := 4#32
  let c0_i32_25 : BitVec 32 := 0#32
  let v58 : BitVec 1 := Scalar.cmpi .sgt c4_i32 c0_i32_25
  let v59 : BitVec 32 := Scalar.extui v58
  let c0_i32_26 : BitVec 32 := 0#32
  let v60 : BitVec 1 := Scalar.cmpi .slt c4_i32 c0_i32_26
  let v61 : BitVec 32 := Scalar.extui v60
  let v62 : BitVec 32 := Scalar.subi v59 v61
  let v63 : BitVec 1 := Scalar.cmpi .ne v57 v62
  let v64 : BitVec 32 := Scalar.remsi v2 c4_i32
  let c0_i32_27 : BitVec 32 := 0#32
  let v65 : BitVec 1 := Scalar.cmpi .ne v64 c0_i32_27
  let v66 : BitVec 1 := Scalar.andi v63 v65
  let v52 : BitVec 32 := Scalar.divsi v2 c4_i32
  let c1_i32_28 : BitVec 32 := 1#32
  let v67 : BitVec 32 := Scalar.subi v52 c1_i32_28
  let v68 : BitVec 32 := Scalar.select v66 v67 v52
  let v862 : BitVec 32 := Scalar.subi c1_i32_405 v68
  let c512_i32_406 : BitVec 32 := 512#32
  let v863 : BitVec 32 := Scalar.muli v862 c512_i32_406
  let v864 : BitVec 32 := Scalar.addi c0_i32_407 v863
  let c768_i32_418 : BitVec 32 := 768#32
  ![0, v864.toNat, 768]
def k0_dev6 (d0 : Dev nD) : Nat :=
  let c0_i32_416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_408 : BitVec 32 := 4#32
  let v865 : BitVec 32 := Scalar.xori v2 c4_i32_408
  let c1_i32_415 : BitVec 32 := 1#32
  let v866 : BitVec 32 := Scalar.muli v865 c1_i32_415
  let v867 : BitVec 32 := Scalar.addi c0_i32_416 v866
  v867.toNat
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4 : BitVec 32 := 2#32
  let c0_i32_5 : BitVec 32 := 0#32
  let v15 : BitVec 1 := Scalar.cmpi .eq c2_i32_4 c0_i32_5
  let c1_i32_6 : BitVec 32 := 1#32
  let v16 : BitVec 32 := Scalar.select v15 c1_i32_6 c2_i32_4
  let v17 : BitVec 32 := Scalar.remsi v2 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v69 : BitVec 32 := Scalar.xori v24 v51
  let c512_i32_419 : BitVec 32 := 512#32
  let v876 : BitVec 32 := Scalar.muli v69 c512_i32_419
  let v877 : Index := Scalar.indexCast v876
  let c0_420 : Index := 0#32
  ![v877.toNat, 0]
def k0_off13 (d0 : Dev nD) : Fin 3 → Nat :=
  let c0_424 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4 : BitVec 32 := 2#32
  let c0_i32_5 : BitVec 32 := 0#32
  let v15 : BitVec 1 := Scalar.cmpi .eq c2_i32_4 c0_i32_5
  let c1_i32_6 : BitVec 32 := 1#32
  let v16 : BitVec 32 := Scalar.select v15 c1_i32_6 c2_i32_4
  let v17 : BitVec 32 := Scalar.remsi v2 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v69 : BitVec 32 := Scalar.xori v24 v51
  let c512_i32_419 : BitVec 32 := 512#32
  let v876 : BitVec 32 := Scalar.muli v69 c512_i32_419
  let v881 : Index := Scalar.indexCast v876
  let c0_425 : Index := 0#32
  ![0, v881.toNat, 0]
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let c512_i32_426 : BitVec 32 := 512#32
  let v885 : BitVec 32 := Scalar.muli v51 c512_i32_426
  let v886 : Index := Scalar.indexCast v885
  let c0_427 : Index := 0#32
  ![v886.toNat, 0]
def k0_off15 (d0 : Dev nD) : Fin 3 → Nat :=
  let c0_431 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let c512_i32_426 : BitVec 32 := 512#32
  let v885 : BitVec 32 := Scalar.muli v51 c512_i32_426
  let v890 : Index := Scalar.indexCast v885
  let c384_432 : Index := 384#32
  ![0, v890.toNat, 384]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_23 : BitVec 32 := 0#32
  let v53 : BitVec 1 := Scalar.cmpi .sgt v2 c0_i32_23
  let v54 : BitVec 32 := Scalar.extui v53
  let c0_i32_24 : BitVec 32 := 0#32
  let v55 : BitVec 1 := Scalar.cmpi .slt v2 c0_i32_24
  let v56 : BitVec 32 := Scalar.extui v55
  let v57 : BitVec 32 := Scalar.subi v54 v56
  let c4_i32 : BitVec 32 := 4#32
  let c0_i32_25 : BitVec 32 := 0#32
  let v58 : BitVec 1 := Scalar.cmpi .sgt c4_i32 c0_i32_25
  let v59 : BitVec 32 := Scalar.extui v58
  let c0_i32_26 : BitVec 32 := 0#32
  let v60 : BitVec 1 := Scalar.cmpi .slt c4_i32 c0_i32_26
  let v61 : BitVec 32 := Scalar.extui v60
  let v62 : BitVec 32 := Scalar.subi v59 v61
  let v63 : BitVec 1 := Scalar.cmpi .ne v57 v62
  let v64 : BitVec 32 := Scalar.remsi v2 c4_i32
  let c0_i32_27 : BitVec 32 := 0#32
  let v65 : BitVec 1 := Scalar.cmpi .ne v64 c0_i32_27
  let v66 : BitVec 1 := Scalar.andi v63 v65
  let v52 : BitVec 32 := Scalar.divsi v2 c4_i32
  let c1_i32_28 : BitVec 32 := 1#32
  let v67 : BitVec 32 := Scalar.subi v52 c1_i32_28
  let v68 : BitVec 32 := Scalar.select v66 v67 v52
  let c512_i32_433 : BitVec 32 := 512#32
  let v894 : BitVec 32 := Scalar.muli v68 c512_i32_433
  let v895 : Index := Scalar.indexCast v894
  let c0_434 : Index := 0#32
  ![v895.toNat, 0]
def k0_off17 (d0 : Dev nD) : Fin 3 → Nat :=
  let c0_438 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_23 : BitVec 32 := 0#32
  let v53 : BitVec 1 := Scalar.cmpi .sgt v2 c0_i32_23
  let v54 : BitVec 32 := Scalar.extui v53
  let c0_i32_24 : BitVec 32 := 0#32
  let v55 : BitVec 1 := Scalar.cmpi .slt v2 c0_i32_24
  let v56 : BitVec 32 := Scalar.extui v55
  let v57 : BitVec 32 := Scalar.subi v54 v56
  let c4_i32 : BitVec 32 := 4#32
  let c0_i32_25 : BitVec 32 := 0#32
  let v58 : BitVec 1 := Scalar.cmpi .sgt c4_i32 c0_i32_25
  let v59 : BitVec 32 := Scalar.extui v58
  let c0_i32_26 : BitVec 32 := 0#32
  let v60 : BitVec 1 := Scalar.cmpi .slt c4_i32 c0_i32_26
  let v61 : BitVec 32 := Scalar.extui v60
  let v62 : BitVec 32 := Scalar.subi v59 v61
  let v63 : BitVec 1 := Scalar.cmpi .ne v57 v62
  let v64 : BitVec 32 := Scalar.remsi v2 c4_i32
  let c0_i32_27 : BitVec 32 := 0#32
  let v65 : BitVec 1 := Scalar.cmpi .ne v64 c0_i32_27
  let v66 : BitVec 1 := Scalar.andi v63 v65
  let v52 : BitVec 32 := Scalar.divsi v2 c4_i32
  let c1_i32_28 : BitVec 32 := 1#32
  let v67 : BitVec 32 := Scalar.subi v52 c1_i32_28
  let v68 : BitVec 32 := Scalar.select v66 v67 v52
  let c512_i32_433 : BitVec 32 := 512#32
  let v894 : BitVec 32 := Scalar.muli v68 c512_i32_433
  let v899 : Index := Scalar.indexCast v894
  let c768_439 : Index := 768#32
  ![0, v899.toNat, 768]
def k0_off18 (d0 : Dev nD) : Fin 3 → Nat :=
  let c0_463 : Index := 0#32
  let c0_i32_462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4 : BitVec 32 := 2#32
  let c0_i32_5 : BitVec 32 := 0#32
  let v15 : BitVec 1 := Scalar.cmpi .eq c2_i32_4 c0_i32_5
  let c1_i32_6 : BitVec 32 := 1#32
  let v16 : BitVec 32 := Scalar.select v15 c1_i32_6 c2_i32_4
  let v17 : BitVec 32 := Scalar.remsi v2 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v69 : BitVec 32 := Scalar.xori v24 v51
  let c512_i32_461 : BitVec 32 := 512#32
  let v917 : BitVec 32 := Scalar.muli v69 c512_i32_461
  let v918 : BitVec 32 := Scalar.addi c0_i32_462 v917
  let v919 : Index := Scalar.indexCast v918
  let c0_464 : Index := 0#32
  ![0, v919.toNat, 0]
def k0_off19 (d0 : Dev nD) : Fin 3 → Nat :=
  let c0_i32_474 : BitVec 32 := 0#32
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4 : BitVec 32 := 2#32
  let c0_i32_5 : BitVec 32 := 0#32
  let v15 : BitVec 1 := Scalar.cmpi .eq c2_i32_4 c0_i32_5
  let c1_i32_6 : BitVec 32 := 1#32
  let v16 : BitVec 32 := Scalar.select v15 c1_i32_6 c2_i32_4
  let v17 : BitVec 32 := Scalar.remsi v2 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v69 : BitVec 32 := Scalar.xori v24 v51
  let c512_i32_470 : BitVec 32 := 512#32
  let v929 : BitVec 32 := Scalar.muli v69 c512_i32_470
  let v930 : BitVec 32 := Scalar.addi c0_i32_471 v929
  let c1_i32_472 : BitVec 32 := 1#32
  let v931 : BitVec 32 := Scalar.subi c1_i32_472 v51
  let c256_i32 : BitVec 32 := 256#32
  let v932 : BitVec 32 := Scalar.muli v931 c256_i32
  let v933 : BitVec 32 := Scalar.addi v930 v932
  let c0_i32_484 : BitVec 32 := 0#32
  ![0, v933.toNat, 0]
def k0_dev7 (d0 : Dev nD) : Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_473 : BitVec 32 := 3#32
  let v934 : BitVec 32 := Scalar.xori v2 c3_i32_473
  let c1_i32_480 : BitVec 32 := 1#32
  let v935 : BitVec 32 := Scalar.muli v934 c1_i32_480
  let v936 : BitVec 32 := Scalar.addi c0_i32_481 v935
  v936.toNat
def k0_off20 (d0 : Dev nD) : Fin 3 → Nat :=
  let c0_508 : Index := 0#32
  let c0_i32_507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let c512_i32_506 : BitVec 32 := 512#32
  let v959 : BitVec 32 := Scalar.muli v51 c512_i32_506
  let v960 : BitVec 32 := Scalar.addi c0_i32_507 v959
  let v961 : Index := Scalar.indexCast v960
  let c384_509 : Index := 384#32
  ![0, v961.toNat, 384]
def k0_off21 (d0 : Dev nD) : Fin 3 → Nat :=
  let c0_i32_520 : BitVec 32 := 0#32
  let c0_i32_516 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let c512_i32_515 : BitVec 32 := 512#32
  let v971 : BitVec 32 := Scalar.muli v51 c512_i32_515
  let v972 : BitVec 32 := Scalar.addi c0_i32_516 v971
  let c1_i32_517 : BitVec 32 := 1#32
  let c0_i32_23 : BitVec 32 := 0#32
  let v53 : BitVec 1 := Scalar.cmpi .sgt v2 c0_i32_23
  let v54 : BitVec 32 := Scalar.extui v53
  let c0_i32_24 : BitVec 32 := 0#32
  let v55 : BitVec 1 := Scalar.cmpi .slt v2 c0_i32_24
  let v56 : BitVec 32 := Scalar.extui v55
  let v57 : BitVec 32 := Scalar.subi v54 v56
  let c4_i32 : BitVec 32 := 4#32
  let c0_i32_25 : BitVec 32 := 0#32
  let v58 : BitVec 1 := Scalar.cmpi .sgt c4_i32 c0_i32_25
  let v59 : BitVec 32 := Scalar.extui v58
  let c0_i32_26 : BitVec 32 := 0#32
  let v60 : BitVec 1 := Scalar.cmpi .slt c4_i32 c0_i32_26
  let v61 : BitVec 32 := Scalar.extui v60
  let v62 : BitVec 32 := Scalar.subi v59 v61
  let v63 : BitVec 1 := Scalar.cmpi .ne v57 v62
  let v64 : BitVec 32 := Scalar.remsi v2 c4_i32
  let c0_i32_27 : BitVec 32 := 0#32
  let v65 : BitVec 1 := Scalar.cmpi .ne v64 c0_i32_27
  let v66 : BitVec 1 := Scalar.andi v63 v65
  let v52 : BitVec 32 := Scalar.divsi v2 c4_i32
  let c1_i32_28 : BitVec 32 := 1#32
  let v67 : BitVec 32 := Scalar.subi v52 c1_i32_28
  let v68 : BitVec 32 := Scalar.select v66 v67 v52
  let v973 : BitVec 32 := Scalar.subi c1_i32_517 v68
  let c256_i32_518 : BitVec 32 := 256#32
  let v974 : BitVec 32 := Scalar.muli v973 c256_i32_518
  let v975 : BitVec 32 := Scalar.addi v972 v974
  let c384_i32_530 : BitVec 32 := 384#32
  ![0, v975.toNat, 384]
def k0_dev8 (d0 : Dev nD) : Nat :=
  let c0_i32_527 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_519 : BitVec 32 := 4#32
  let v976 : BitVec 32 := Scalar.xori v2 c4_i32_519
  let c1_i32_526 : BitVec 32 := 1#32
  let v977 : BitVec 32 := Scalar.muli v976 c1_i32_526
  let v978 : BitVec 32 := Scalar.addi c0_i32_527 v977
  v978.toNat
def k0_off22 (d0 : Dev nD) : Fin 3 → Nat :=
  let c0_554 : Index := 0#32
  let c0_i32_553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_23 : BitVec 32 := 0#32
  let v53 : BitVec 1 := Scalar.cmpi .sgt v2 c0_i32_23
  let v54 : BitVec 32 := Scalar.extui v53
  let c0_i32_24 : BitVec 32 := 0#32
  let v55 : BitVec 1 := Scalar.cmpi .slt v2 c0_i32_24
  let v56 : BitVec 32 := Scalar.extui v55
  let v57 : BitVec 32 := Scalar.subi v54 v56
  let c4_i32 : BitVec 32 := 4#32
  let c0_i32_25 : BitVec 32 := 0#32
  let v58 : BitVec 1 := Scalar.cmpi .sgt c4_i32 c0_i32_25
  let v59 : BitVec 32 := Scalar.extui v58
  let c0_i32_26 : BitVec 32 := 0#32
  let v60 : BitVec 1 := Scalar.cmpi .slt c4_i32 c0_i32_26
  let v61 : BitVec 32 := Scalar.extui v60
  let v62 : BitVec 32 := Scalar.subi v59 v61
  let v63 : BitVec 1 := Scalar.cmpi .ne v57 v62
  let v64 : BitVec 32 := Scalar.remsi v2 c4_i32
  let c0_i32_27 : BitVec 32 := 0#32
  let v65 : BitVec 1 := Scalar.cmpi .ne v64 c0_i32_27
  let v66 : BitVec 1 := Scalar.andi v63 v65
  let v52 : BitVec 32 := Scalar.divsi v2 c4_i32
  let c1_i32_28 : BitVec 32 := 1#32
  let v67 : BitVec 32 := Scalar.subi v52 c1_i32_28
  let v68 : BitVec 32 := Scalar.select v66 v67 v52
  let c512_i32_552 : BitVec 32 := 512#32
  let v1001 : BitVec 32 := Scalar.muli v68 c512_i32_552
  let v1002 : BitVec 32 := Scalar.addi c0_i32_553 v1001
  let v1003 : Index := Scalar.indexCast v1002
  let c768_555 : Index := 768#32
  ![0, v1003.toNat, 768]
def k0_off23 (d0 : Dev nD) : Fin 3 → Nat :=
  let c0_i32_566 : BitVec 32 := 0#32
  let c0_i32_562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_23 : BitVec 32 := 0#32
  let v53 : BitVec 1 := Scalar.cmpi .sgt v2 c0_i32_23
  let v54 : BitVec 32 := Scalar.extui v53
  let c0_i32_24 : BitVec 32 := 0#32
  let v55 : BitVec 1 := Scalar.cmpi .slt v2 c0_i32_24
  let v56 : BitVec 32 := Scalar.extui v55
  let v57 : BitVec 32 := Scalar.subi v54 v56
  let c4_i32 : BitVec 32 := 4#32
  let c0_i32_25 : BitVec 32 := 0#32
  let v58 : BitVec 1 := Scalar.cmpi .sgt c4_i32 c0_i32_25
  let v59 : BitVec 32 := Scalar.extui v58
  let c0_i32_26 : BitVec 32 := 0#32
  let v60 : BitVec 1 := Scalar.cmpi .slt c4_i32 c0_i32_26
  let v61 : BitVec 32 := Scalar.extui v60
  let v62 : BitVec 32 := Scalar.subi v59 v61
  let v63 : BitVec 1 := Scalar.cmpi .ne v57 v62
  let v64 : BitVec 32 := Scalar.remsi v2 c4_i32
  let c0_i32_27 : BitVec 32 := 0#32
  let v65 : BitVec 1 := Scalar.cmpi .ne v64 c0_i32_27
  let v66 : BitVec 1 := Scalar.andi v63 v65
  let v52 : BitVec 32 := Scalar.divsi v2 c4_i32
  let c1_i32_28 : BitVec 32 := 1#32
  let v67 : BitVec 32 := Scalar.subi v52 c1_i32_28
  let v68 : BitVec 32 := Scalar.select v66 v67 v52
  let c512_i32_561 : BitVec 32 := 512#32
  let v1013 : BitVec 32 := Scalar.muli v68 c512_i32_561
  let v1014 : BitVec 32 := Scalar.addi c0_i32_562 v1013
  let c1_i32_563 : BitVec 32 := 1#32
  let c2_i32_4 : BitVec 32 := 2#32
  let c0_i32_5 : BitVec 32 := 0#32
  let v15 : BitVec 1 := Scalar.cmpi .eq c2_i32_4 c0_i32_5
  let c1_i32_6 : BitVec 32 := 1#32
  let v16 : BitVec 32 := Scalar.select v15 c1_i32_6 c2_i32_4
  let v17 : BitVec 32 := Scalar.remsi v2 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v69 : BitVec 32 := Scalar.xori v24 v51
  let v1015 : BitVec 32 := Scalar.subi c1_i32_563 v69
  let c256_i32_564 : BitVec 32 := 256#32
  let v1016 : BitVec 32 := Scalar.muli v1015 c256_i32_564
  let v1017 : BitVec 32 := Scalar.addi v1014 v1016
  let c768_i32_576 : BitVec 32 := 768#32
  ![0, v1017.toNat, 768]
def k0_dev9 (d0 : Dev nD) : Nat :=
  let c0_i32_573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_565 : BitVec 32 := 1#32
  let v1018 : BitVec 32 := Scalar.xori v2 c1_i32_565
  let c1_i32_572 : BitVec 32 := 1#32
  let v1019 : BitVec 32 := Scalar.muli v1018 c1_i32_572
  let v1020 : BitVec 32 := Scalar.addi c0_i32_573 v1019
  v1020.toNat
def k0_off24 (d0 : Dev nD) : Fin 3 → Nat :=
  let c0_601 : Index := 0#32
  let c0_i32_599 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4 : BitVec 32 := 2#32
  let c0_i32_5 : BitVec 32 := 0#32
  let v15 : BitVec 1 := Scalar.cmpi .eq c2_i32_4 c0_i32_5
  let c1_i32_6 : BitVec 32 := 1#32
  let v16 : BitVec 32 := Scalar.select v15 c1_i32_6 c2_i32_4
  let v17 : BitVec 32 := Scalar.remsi v2 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v69 : BitVec 32 := Scalar.xori v24 v51
  let c512_i32_598 : BitVec 32 := 512#32
  let v1043 : BitVec 32 := Scalar.muli v69 c512_i32_598
  let v1044 : BitVec 32 := Scalar.addi c0_i32_599 v1043
  let c256_i32_600 : BitVec 32 := 256#32
  let v1045 : BitVec 32 := Scalar.muli v51 c256_i32_600
  let v1046 : BitVec 32 := Scalar.addi v1044 v1045
  let v1047 : Index := Scalar.indexCast v1046
  let c0_602 : Index := 0#32
  ![0, v1047.toNat, 0]
def k0_off25 (d0 : Dev nD) : Fin 3 → Nat :=
  let c0_i32_613 : BitVec 32 := 0#32
  let c0_i32_609 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4 : BitVec 32 := 2#32
  let c0_i32_5 : BitVec 32 := 0#32
  let v15 : BitVec 1 := Scalar.cmpi .eq c2_i32_4 c0_i32_5
  let c1_i32_6 : BitVec 32 := 1#32
  let v16 : BitVec 32 := Scalar.select v15 c1_i32_6 c2_i32_4
  let v17 : BitVec 32 := Scalar.remsi v2 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v69 : BitVec 32 := Scalar.xori v24 v51
  let c512_i32_608 : BitVec 32 := 512#32
  let v1057 : BitVec 32 := Scalar.muli v69 c512_i32_608
  let v1058 : BitVec 32 := Scalar.addi c0_i32_609 v1057
  let c256_i32_610 : BitVec 32 := 256#32
  let v1059 : BitVec 32 := Scalar.muli v51 c256_i32_610
  let v1060 : BitVec 32 := Scalar.addi v1058 v1059
  let c1_i32_611 : BitVec 32 := 1#32
  let c0_i32_23 : BitVec 32 := 0#32
  let v53 : BitVec 1 := Scalar.cmpi .sgt v2 c0_i32_23
  let v54 : BitVec 32 := Scalar.extui v53
  let c0_i32_24 : BitVec 32 := 0#32
  let v55 : BitVec 1 := Scalar.cmpi .slt v2 c0_i32_24
  let v56 : BitVec 32 := Scalar.extui v55
  let v57 : BitVec 32 := Scalar.subi v54 v56
  let c4_i32 : BitVec 32 := 4#32
  let c0_i32_25 : BitVec 32 := 0#32
  let v58 : BitVec 1 := Scalar.cmpi .sgt c4_i32 c0_i32_25
  let v59 : BitVec 32 := Scalar.extui v58
  let c0_i32_26 : BitVec 32 := 0#32
  let v60 : BitVec 1 := Scalar.cmpi .slt c4_i32 c0_i32_26
  let v61 : BitVec 32 := Scalar.extui v60
  let v62 : BitVec 32 := Scalar.subi v59 v61
  let v63 : BitVec 1 := Scalar.cmpi .ne v57 v62
  let v64 : BitVec 32 := Scalar.remsi v2 c4_i32
  let c0_i32_27 : BitVec 32 := 0#32
  let v65 : BitVec 1 := Scalar.cmpi .ne v64 c0_i32_27
  let v66 : BitVec 1 := Scalar.andi v63 v65
  let v52 : BitVec 32 := Scalar.divsi v2 c4_i32
  let c1_i32_28 : BitVec 32 := 1#32
  let v67 : BitVec 32 := Scalar.subi v52 c1_i32_28
  let v68 : BitVec 32 := Scalar.select v66 v67 v52
  let v1061 : BitVec 32 := Scalar.subi c1_i32_611 v68
  let c128_i32 : BitVec 32 := 128#32
  let v1062 : BitVec 32 := Scalar.muli v1061 c128_i32
  let v1063 : BitVec 32 := Scalar.addi v1060 v1062
  let c0_i32_623 : BitVec 32 := 0#32
  ![0, v1063.toNat, 0]
def k0_dev10 (d0 : Dev nD) : Nat :=
  let c0_i32_620 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_612 : BitVec 32 := 4#32
  let v1064 : BitVec 32 := Scalar.xori v2 c4_i32_612
  let c1_i32_619 : BitVec 32 := 1#32
  let v1065 : BitVec 32 := Scalar.muli v1064 c1_i32_619
  let v1066 : BitVec 32 := Scalar.addi c0_i32_620 v1065
  v1066.toNat
def k0_off26 (d0 : Dev nD) : Fin 3 → Nat :=
  let c0_648 : Index := 0#32
  let c0_i32_646 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let c512_i32_645 : BitVec 32 := 512#32
  let v1089 : BitVec 32 := Scalar.muli v51 c512_i32_645
  let v1090 : BitVec 32 := Scalar.addi c0_i32_646 v1089
  let c0_i32_23 : BitVec 32 := 0#32
  let v53 : BitVec 1 := Scalar.cmpi .sgt v2 c0_i32_23
  let v54 : BitVec 32 := Scalar.extui v53
  let c0_i32_24 : BitVec 32 := 0#32
  let v55 : BitVec 1 := Scalar.cmpi .slt v2 c0_i32_24
  let v56 : BitVec 32 := Scalar.extui v55
  let v57 : BitVec 32 := Scalar.subi v54 v56
  let c4_i32 : BitVec 32 := 4#32
  let c0_i32_25 : BitVec 32 := 0#32
  let v58 : BitVec 1 := Scalar.cmpi .sgt c4_i32 c0_i32_25
  let v59 : BitVec 32 := Scalar.extui v58
  let c0_i32_26 : BitVec 32 := 0#32
  let v60 : BitVec 1 := Scalar.cmpi .slt c4_i32 c0_i32_26
  let v61 : BitVec 32 := Scalar.extui v60
  let v62 : BitVec 32 := Scalar.subi v59 v61
  let v63 : BitVec 1 := Scalar.cmpi .ne v57 v62
  let v64 : BitVec 32 := Scalar.remsi v2 c4_i32
  let c0_i32_27 : BitVec 32 := 0#32
  let v65 : BitVec 1 := Scalar.cmpi .ne v64 c0_i32_27
  let v66 : BitVec 1 := Scalar.andi v63 v65
  let v52 : BitVec 32 := Scalar.divsi v2 c4_i32
  let c1_i32_28 : BitVec 32 := 1#32
  let v67 : BitVec 32 := Scalar.subi v52 c1_i32_28
  let v68 : BitVec 32 := Scalar.select v66 v67 v52
  let c256_i32_647 : BitVec 32 := 256#32
  let v1091 : BitVec 32 := Scalar.muli v68 c256_i32_647
  let v1092 : BitVec 32 := Scalar.addi v1090 v1091
  let v1093 : Index := Scalar.indexCast v1092
  let c384_649 : Index := 384#32
  ![0, v1093.toNat, 384]
def k0_off27 (d0 : Dev nD) : Fin 3 → Nat :=
  let c0_i32_661 : BitVec 32 := 0#32
  let c0_i32_656 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let c512_i32_655 : BitVec 32 := 512#32
  let v1103 : BitVec 32 := Scalar.muli v51 c512_i32_655
  let v1104 : BitVec 32 := Scalar.addi c0_i32_656 v1103
  let c0_i32_23 : BitVec 32 := 0#32
  let v53 : BitVec 1 := Scalar.cmpi .sgt v2 c0_i32_23
  let v54 : BitVec 32 := Scalar.extui v53
  let c0_i32_24 : BitVec 32 := 0#32
  let v55 : BitVec 1 := Scalar.cmpi .slt v2 c0_i32_24
  let v56 : BitVec 32 := Scalar.extui v55
  let v57 : BitVec 32 := Scalar.subi v54 v56
  let c4_i32 : BitVec 32 := 4#32
  let c0_i32_25 : BitVec 32 := 0#32
  let v58 : BitVec 1 := Scalar.cmpi .sgt c4_i32 c0_i32_25
  let v59 : BitVec 32 := Scalar.extui v58
  let c0_i32_26 : BitVec 32 := 0#32
  let v60 : BitVec 1 := Scalar.cmpi .slt c4_i32 c0_i32_26
  let v61 : BitVec 32 := Scalar.extui v60
  let v62 : BitVec 32 := Scalar.subi v59 v61
  let v63 : BitVec 1 := Scalar.cmpi .ne v57 v62
  let v64 : BitVec 32 := Scalar.remsi v2 c4_i32
  let c0_i32_27 : BitVec 32 := 0#32
  let v65 : BitVec 1 := Scalar.cmpi .ne v64 c0_i32_27
  let v66 : BitVec 1 := Scalar.andi v63 v65
  let v52 : BitVec 32 := Scalar.divsi v2 c4_i32
  let c1_i32_28 : BitVec 32 := 1#32
  let v67 : BitVec 32 := Scalar.subi v52 c1_i32_28
  let v68 : BitVec 32 := Scalar.select v66 v67 v52
  let c256_i32_657 : BitVec 32 := 256#32
  let v1105 : BitVec 32 := Scalar.muli v68 c256_i32_657
  let v1106 : BitVec 32 := Scalar.addi v1104 v1105
  let c1_i32_658 : BitVec 32 := 1#32
  let c2_i32_4 : BitVec 32 := 2#32
  let c0_i32_5 : BitVec 32 := 0#32
  let v15 : BitVec 1 := Scalar.cmpi .eq c2_i32_4 c0_i32_5
  let c1_i32_6 : BitVec 32 := 1#32
  let v16 : BitVec 32 := Scalar.select v15 c1_i32_6 c2_i32_4
  let v17 : BitVec 32 := Scalar.remsi v2 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let v69 : BitVec 32 := Scalar.xori v24 v51
  let v1107 : BitVec 32 := Scalar.subi c1_i32_658 v69
  let c128_i32_659 : BitVec 32 := 128#32
  let v1108 : BitVec 32 := Scalar.muli v1107 c128_i32_659
  let v1109 : BitVec 32 := Scalar.addi v1106 v1108
  let c384_i32_671 : BitVec 32 := 384#32
  ![0, v1109.toNat, 384]
def k0_dev11 (d0 : Dev nD) : Nat :=
  let c0_i32_668 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_660 : BitVec 32 := 1#32
  let v1110 : BitVec 32 := Scalar.xori v2 c1_i32_660
  let c1_i32_667 : BitVec 32 := 1#32
  let v1111 : BitVec 32 := Scalar.muli v1110 c1_i32_667
  let v1112 : BitVec 32 := Scalar.addi c0_i32_668 v1111
  v1112.toNat
def k0_off28 (d0 : Dev nD) : Fin 3 → Nat :=
  let c0_696 : Index := 0#32
  let c0_i32_694 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_23 : BitVec 32 := 0#32
  let v53 : BitVec 1 := Scalar.cmpi .sgt v2 c0_i32_23
  let v54 : BitVec 32 := Scalar.extui v53
  let c0_i32_24 : BitVec 32 := 0#32
  let v55 : BitVec 1 := Scalar.cmpi .slt v2 c0_i32_24
  let v56 : BitVec 32 := Scalar.extui v55
  let v57 : BitVec 32 := Scalar.subi v54 v56
  let c4_i32 : BitVec 32 := 4#32
  let c0_i32_25 : BitVec 32 := 0#32
  let v58 : BitVec 1 := Scalar.cmpi .sgt c4_i32 c0_i32_25
  let v59 : BitVec 32 := Scalar.extui v58
  let c0_i32_26 : BitVec 32 := 0#32
  let v60 : BitVec 1 := Scalar.cmpi .slt c4_i32 c0_i32_26
  let v61 : BitVec 32 := Scalar.extui v60
  let v62 : BitVec 32 := Scalar.subi v59 v61
  let v63 : BitVec 1 := Scalar.cmpi .ne v57 v62
  let v64 : BitVec 32 := Scalar.remsi v2 c4_i32
  let c0_i32_27 : BitVec 32 := 0#32
  let v65 : BitVec 1 := Scalar.cmpi .ne v64 c0_i32_27
  let v66 : BitVec 1 := Scalar.andi v63 v65
  let v52 : BitVec 32 := Scalar.divsi v2 c4_i32
  let c1_i32_28 : BitVec 32 := 1#32
  let v67 : BitVec 32 := Scalar.subi v52 c1_i32_28
  let v68 : BitVec 32 := Scalar.select v66 v67 v52
  let c512_i32_693 : BitVec 32 := 512#32
  let v1135 : BitVec 32 := Scalar.muli v68 c512_i32_693
  let v1136 : BitVec 32 := Scalar.addi c0_i32_694 v1135
  let c2_i32_4 : BitVec 32 := 2#32
  let c0_i32_5 : BitVec 32 := 0#32
  let v15 : BitVec 1 := Scalar.cmpi .eq c2_i32_4 c0_i32_5
  let c1_i32_6 : BitVec 32 := 1#32
  let v16 : BitVec 32 := Scalar.select v15 c1_i32_6 c2_i32_4
  let v17 : BitVec 32 := Scalar.remsi v2 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v69 : BitVec 32 := Scalar.xori v24 v51
  let c256_i32_695 : BitVec 32 := 256#32
  let v1137 : BitVec 32 := Scalar.muli v69 c256_i32_695
  let v1138 : BitVec 32 := Scalar.addi v1136 v1137
  let v1139 : Index := Scalar.indexCast v1138
  let c768_697 : Index := 768#32
  ![0, v1139.toNat, 768]
def k0_off29 (d0 : Dev nD) : Fin 3 → Nat :=
  let c0_i32_709 : BitVec 32 := 0#32
  let c0_i32_704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_23 : BitVec 32 := 0#32
  let v53 : BitVec 1 := Scalar.cmpi .sgt v2 c0_i32_23
  let v54 : BitVec 32 := Scalar.extui v53
  let c0_i32_24 : BitVec 32 := 0#32
  let v55 : BitVec 1 := Scalar.cmpi .slt v2 c0_i32_24
  let v56 : BitVec 32 := Scalar.extui v55
  let v57 : BitVec 32 := Scalar.subi v54 v56
  let c4_i32 : BitVec 32 := 4#32
  let c0_i32_25 : BitVec 32 := 0#32
  let v58 : BitVec 1 := Scalar.cmpi .sgt c4_i32 c0_i32_25
  let v59 : BitVec 32 := Scalar.extui v58
  let c0_i32_26 : BitVec 32 := 0#32
  let v60 : BitVec 1 := Scalar.cmpi .slt c4_i32 c0_i32_26
  let v61 : BitVec 32 := Scalar.extui v60
  let v62 : BitVec 32 := Scalar.subi v59 v61
  let v63 : BitVec 1 := Scalar.cmpi .ne v57 v62
  let v64 : BitVec 32 := Scalar.remsi v2 c4_i32
  let c0_i32_27 : BitVec 32 := 0#32
  let v65 : BitVec 1 := Scalar.cmpi .ne v64 c0_i32_27
  let v66 : BitVec 1 := Scalar.andi v63 v65
  let v52 : BitVec 32 := Scalar.divsi v2 c4_i32
  let c1_i32_28 : BitVec 32 := 1#32
  let v67 : BitVec 32 := Scalar.subi v52 c1_i32_28
  let v68 : BitVec 32 := Scalar.select v66 v67 v52
  let c512_i32_703 : BitVec 32 := 512#32
  let v1149 : BitVec 32 := Scalar.muli v68 c512_i32_703
  let v1150 : BitVec 32 := Scalar.addi c0_i32_704 v1149
  let c2_i32_4 : BitVec 32 := 2#32
  let c0_i32_5 : BitVec 32 := 0#32
  let v15 : BitVec 1 := Scalar.cmpi .eq c2_i32_4 c0_i32_5
  let c1_i32_6 : BitVec 32 := 1#32
  let v16 : BitVec 32 := Scalar.select v15 c1_i32_6 c2_i32_4
  let v17 : BitVec 32 := Scalar.remsi v2 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v69 : BitVec 32 := Scalar.xori v24 v51
  let c256_i32_705 : BitVec 32 := 256#32
  let v1151 : BitVec 32 := Scalar.muli v69 c256_i32_705
  let v1152 : BitVec 32 := Scalar.addi v1150 v1151
  let c1_i32_706 : BitVec 32 := 1#32
  let v1153 : BitVec 32 := Scalar.subi c1_i32_706 v51
  let c128_i32_707 : BitVec 32 := 128#32
  let v1154 : BitVec 32 := Scalar.muli v1153 c128_i32_707
  let v1155 : BitVec 32 := Scalar.addi v1152 v1154
  let c768_i32_719 : BitVec 32 := 768#32
  ![0, v1155.toNat, 768]
def k0_dev12 (d0 : Dev nD) : Nat :=
  let c0_i32_716 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_708 : BitVec 32 := 3#32
  let v1156 : BitVec 32 := Scalar.xori v2 c3_i32_708
  let c1_i32_715 : BitVec 32 := 1#32
  let v1157 : BitVec 32 := Scalar.muli v1156 c1_i32_715
  let v1158 : BitVec 32 := Scalar.addi c0_i32_716 v1157
  v1158.toNat
def k0_off30 (d0 : Dev nD) : Fin 3 → Nat :=
  let c0_745 : Index := 0#32
  let c0_i32_742 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4 : BitVec 32 := 2#32
  let c0_i32_5 : BitVec 32 := 0#32
  let v15 : BitVec 1 := Scalar.cmpi .eq c2_i32_4 c0_i32_5
  let c1_i32_6 : BitVec 32 := 1#32
  let v16 : BitVec 32 := Scalar.select v15 c1_i32_6 c2_i32_4
  let v17 : BitVec 32 := Scalar.remsi v2 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v69 : BitVec 32 := Scalar.xori v24 v51
  let c512_i32_741 : BitVec 32 := 512#32
  let v1181 : BitVec 32 := Scalar.muli v69 c512_i32_741
  let v1182 : BitVec 32 := Scalar.addi c0_i32_742 v1181
  let c256_i32_743 : BitVec 32 := 256#32
  let v1183 : BitVec 32 := Scalar.muli v51 c256_i32_743
  let v1184 : BitVec 32 := Scalar.addi v1182 v1183
  let c0_i32_23 : BitVec 32 := 0#32
  let v53 : BitVec 1 := Scalar.cmpi .sgt v2 c0_i32_23
  let v54 : BitVec 32 := Scalar.extui v53
  let c0_i32_24 : BitVec 32 := 0#32
  let v55 : BitVec 1 := Scalar.cmpi .slt v2 c0_i32_24
  let v56 : BitVec 32 := Scalar.extui v55
  let v57 : BitVec 32 := Scalar.subi v54 v56
  let c4_i32 : BitVec 32 := 4#32
  let c0_i32_25 : BitVec 32 := 0#32
  let v58 : BitVec 1 := Scalar.cmpi .sgt c4_i32 c0_i32_25
  let v59 : BitVec 32 := Scalar.extui v58
  let c0_i32_26 : BitVec 32 := 0#32
  let v60 : BitVec 1 := Scalar.cmpi .slt c4_i32 c0_i32_26
  let v61 : BitVec 32 := Scalar.extui v60
  let v62 : BitVec 32 := Scalar.subi v59 v61
  let v63 : BitVec 1 := Scalar.cmpi .ne v57 v62
  let v64 : BitVec 32 := Scalar.remsi v2 c4_i32
  let c0_i32_27 : BitVec 32 := 0#32
  let v65 : BitVec 1 := Scalar.cmpi .ne v64 c0_i32_27
  let v66 : BitVec 1 := Scalar.andi v63 v65
  let v52 : BitVec 32 := Scalar.divsi v2 c4_i32
  let c1_i32_28 : BitVec 32 := 1#32
  let v67 : BitVec 32 := Scalar.subi v52 c1_i32_28
  let v68 : BitVec 32 := Scalar.select v66 v67 v52
  let c128_i32_744 : BitVec 32 := 128#32
  let v1185 : BitVec 32 := Scalar.muli v68 c128_i32_744
  let v1186 : BitVec 32 := Scalar.addi v1184 v1185
  let v1187 : Index := Scalar.indexCast v1186
  let c0_746 : Index := 0#32
  ![0, v1187.toNat, 0]
def k0_off31 (d0 : Dev nD) : Fin 3 → Nat :=
  let c0_i32_758 : BitVec 32 := 0#32
  let c0_i32_753 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4 : BitVec 32 := 2#32
  let c0_i32_5 : BitVec 32 := 0#32
  let v15 : BitVec 1 := Scalar.cmpi .eq c2_i32_4 c0_i32_5
  let c1_i32_6 : BitVec 32 := 1#32
  let v16 : BitVec 32 := Scalar.select v15 c1_i32_6 c2_i32_4
  let v17 : BitVec 32 := Scalar.remsi v2 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v69 : BitVec 32 := Scalar.xori v24 v51
  let c512_i32_752 : BitVec 32 := 512#32
  let v1197 : BitVec 32 := Scalar.muli v69 c512_i32_752
  let v1198 : BitVec 32 := Scalar.addi c0_i32_753 v1197
  let c256_i32_754 : BitVec 32 := 256#32
  let v1199 : BitVec 32 := Scalar.muli v51 c256_i32_754
  let v1200 : BitVec 32 := Scalar.addi v1198 v1199
  let c0_i32_23 : BitVec 32 := 0#32
  let v53 : BitVec 1 := Scalar.cmpi .sgt v2 c0_i32_23
  let v54 : BitVec 32 := Scalar.extui v53
  let c0_i32_24 : BitVec 32 := 0#32
  let v55 : BitVec 1 := Scalar.cmpi .slt v2 c0_i32_24
  let v56 : BitVec 32 := Scalar.extui v55
  let v57 : BitVec 32 := Scalar.subi v54 v56
  let c4_i32 : BitVec 32 := 4#32
  let c0_i32_25 : BitVec 32 := 0#32
  let v58 : BitVec 1 := Scalar.cmpi .sgt c4_i32 c0_i32_25
  let v59 : BitVec 32 := Scalar.extui v58
  let c0_i32_26 : BitVec 32 := 0#32
  let v60 : BitVec 1 := Scalar.cmpi .slt c4_i32 c0_i32_26
  let v61 : BitVec 32 := Scalar.extui v60
  let v62 : BitVec 32 := Scalar.subi v59 v61
  let v63 : BitVec 1 := Scalar.cmpi .ne v57 v62
  let v64 : BitVec 32 := Scalar.remsi v2 c4_i32
  let c0_i32_27 : BitVec 32 := 0#32
  let v65 : BitVec 1 := Scalar.cmpi .ne v64 c0_i32_27
  let v66 : BitVec 1 := Scalar.andi v63 v65
  let v52 : BitVec 32 := Scalar.divsi v2 c4_i32
  let c1_i32_28 : BitVec 32 := 1#32
  let v67 : BitVec 32 := Scalar.subi v52 c1_i32_28
  let v68 : BitVec 32 := Scalar.select v66 v67 v52
  let c128_i32_755 : BitVec 32 := 128#32
  let v1201 : BitVec 32 := Scalar.muli v68 c128_i32_755
  let v1202 : BitVec 32 := Scalar.addi v1200 v1201
  let c0_i32_765 : BitVec 32 := 0#32
  ![0, v1202.toNat, 0]
def k0_dev13 (d0 : Dev nD) : Nat :=
  let c0_i32_764 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_756 : BitVec 32 := 4#32
  let v1203 : BitVec 32 := Scalar.xori v2 c4_i32_756
  let c1_i32_763 : BitVec 32 := 1#32
  let v1204 : BitVec 32 := Scalar.muli v1203 c1_i32_763
  let v1205 : BitVec 32 := Scalar.addi c0_i32_764 v1204
  v1205.toNat
def k0_off32 (d0 : Dev nD) : Fin 3 → Nat :=
  let c0_792 : Index := 0#32
  let c0_i32_789 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let c512_i32_788 : BitVec 32 := 512#32
  let v1228 : BitVec 32 := Scalar.muli v51 c512_i32_788
  let v1229 : BitVec 32 := Scalar.addi c0_i32_789 v1228
  let c0_i32_23 : BitVec 32 := 0#32
  let v53 : BitVec 1 := Scalar.cmpi .sgt v2 c0_i32_23
  let v54 : BitVec 32 := Scalar.extui v53
  let c0_i32_24 : BitVec 32 := 0#32
  let v55 : BitVec 1 := Scalar.cmpi .slt v2 c0_i32_24
  let v56 : BitVec 32 := Scalar.extui v55
  let v57 : BitVec 32 := Scalar.subi v54 v56
  let c4_i32 : BitVec 32 := 4#32
  let c0_i32_25 : BitVec 32 := 0#32
  let v58 : BitVec 1 := Scalar.cmpi .sgt c4_i32 c0_i32_25
  let v59 : BitVec 32 := Scalar.extui v58
  let c0_i32_26 : BitVec 32 := 0#32
  let v60 : BitVec 1 := Scalar.cmpi .slt c4_i32 c0_i32_26
  let v61 : BitVec 32 := Scalar.extui v60
  let v62 : BitVec 32 := Scalar.subi v59 v61
  let v63 : BitVec 1 := Scalar.cmpi .ne v57 v62
  let v64 : BitVec 32 := Scalar.remsi v2 c4_i32
  let c0_i32_27 : BitVec 32 := 0#32
  let v65 : BitVec 1 := Scalar.cmpi .ne v64 c0_i32_27
  let v66 : BitVec 1 := Scalar.andi v63 v65
  let v52 : BitVec 32 := Scalar.divsi v2 c4_i32
  let c1_i32_28 : BitVec 32 := 1#32
  let v67 : BitVec 32 := Scalar.subi v52 c1_i32_28
  let v68 : BitVec 32 := Scalar.select v66 v67 v52
  let c256_i32_790 : BitVec 32 := 256#32
  let v1230 : BitVec 32 := Scalar.muli v68 c256_i32_790
  let v1231 : BitVec 32 := Scalar.addi v1229 v1230
  let c2_i32_4 : BitVec 32 := 2#32
  let c0_i32_5 : BitVec 32 := 0#32
  let v15 : BitVec 1 := Scalar.cmpi .eq c2_i32_4 c0_i32_5
  let c1_i32_6 : BitVec 32 := 1#32
  let v16 : BitVec 32 := Scalar.select v15 c1_i32_6 c2_i32_4
  let v17 : BitVec 32 := Scalar.remsi v2 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let v69 : BitVec 32 := Scalar.xori v24 v51
  let c128_i32_791 : BitVec 32 := 128#32
  let v1232 : BitVec 32 := Scalar.muli v69 c128_i32_791
  let v1233 : BitVec 32 := Scalar.addi v1231 v1232
  let v1234 : Index := Scalar.indexCast v1233
  let c384_793 : Index := 384#32
  ![0, v1234.toNat, 384]
def k0_off33 (d0 : Dev nD) : Fin 3 → Nat :=
  let c0_i32_805 : BitVec 32 := 0#32
  let c0_i32_800 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let c512_i32_799 : BitVec 32 := 512#32
  let v1244 : BitVec 32 := Scalar.muli v51 c512_i32_799
  let v1245 : BitVec 32 := Scalar.addi c0_i32_800 v1244
  let c0_i32_23 : BitVec 32 := 0#32
  let v53 : BitVec 1 := Scalar.cmpi .sgt v2 c0_i32_23
  let v54 : BitVec 32 := Scalar.extui v53
  let c0_i32_24 : BitVec 32 := 0#32
  let v55 : BitVec 1 := Scalar.cmpi .slt v2 c0_i32_24
  let v56 : BitVec 32 := Scalar.extui v55
  let v57 : BitVec 32 := Scalar.subi v54 v56
  let c4_i32 : BitVec 32 := 4#32
  let c0_i32_25 : BitVec 32 := 0#32
  let v58 : BitVec 1 := Scalar.cmpi .sgt c4_i32 c0_i32_25
  let v59 : BitVec 32 := Scalar.extui v58
  let c0_i32_26 : BitVec 32 := 0#32
  let v60 : BitVec 1 := Scalar.cmpi .slt c4_i32 c0_i32_26
  let v61 : BitVec 32 := Scalar.extui v60
  let v62 : BitVec 32 := Scalar.subi v59 v61
  let v63 : BitVec 1 := Scalar.cmpi .ne v57 v62
  let v64 : BitVec 32 := Scalar.remsi v2 c4_i32
  let c0_i32_27 : BitVec 32 := 0#32
  let v65 : BitVec 1 := Scalar.cmpi .ne v64 c0_i32_27
  let v66 : BitVec 1 := Scalar.andi v63 v65
  let v52 : BitVec 32 := Scalar.divsi v2 c4_i32
  let c1_i32_28 : BitVec 32 := 1#32
  let v67 : BitVec 32 := Scalar.subi v52 c1_i32_28
  let v68 : BitVec 32 := Scalar.select v66 v67 v52
  let c256_i32_801 : BitVec 32 := 256#32
  let v1246 : BitVec 32 := Scalar.muli v68 c256_i32_801
  let v1247 : BitVec 32 := Scalar.addi v1245 v1246
  let c2_i32_4 : BitVec 32 := 2#32
  let c0_i32_5 : BitVec 32 := 0#32
  let v15 : BitVec 1 := Scalar.cmpi .eq c2_i32_4 c0_i32_5
  let c1_i32_6 : BitVec 32 := 1#32
  let v16 : BitVec 32 := Scalar.select v15 c1_i32_6 c2_i32_4
  let v17 : BitVec 32 := Scalar.remsi v2 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let v69 : BitVec 32 := Scalar.xori v24 v51
  let c128_i32_802 : BitVec 32 := 128#32
  let v1248 : BitVec 32 := Scalar.muli v69 c128_i32_802
  let v1249 : BitVec 32 := Scalar.addi v1247 v1248
  let c384_i32_812 : BitVec 32 := 384#32
  ![0, v1249.toNat, 384]
def k0_dev14 (d0 : Dev nD) : Nat :=
  let c0_i32_811 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_803 : BitVec 32 := 1#32
  let v1250 : BitVec 32 := Scalar.xori v2 c1_i32_803
  let c1_i32_810 : BitVec 32 := 1#32
  let v1251 : BitVec 32 := Scalar.muli v1250 c1_i32_810
  let v1252 : BitVec 32 := Scalar.addi c0_i32_811 v1251
  v1252.toNat
def k0_off34 (d0 : Dev nD) : Fin 3 → Nat :=
  let c0_839 : Index := 0#32
  let c0_i32_836 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_23 : BitVec 32 := 0#32
  let v53 : BitVec 1 := Scalar.cmpi .sgt v2 c0_i32_23
  let v54 : BitVec 32 := Scalar.extui v53
  let c0_i32_24 : BitVec 32 := 0#32
  let v55 : BitVec 1 := Scalar.cmpi .slt v2 c0_i32_24
  let v56 : BitVec 32 := Scalar.extui v55
  let v57 : BitVec 32 := Scalar.subi v54 v56
  let c4_i32 : BitVec 32 := 4#32
  let c0_i32_25 : BitVec 32 := 0#32
  let v58 : BitVec 1 := Scalar.cmpi .sgt c4_i32 c0_i32_25
  let v59 : BitVec 32 := Scalar.extui v58
  let c0_i32_26 : BitVec 32 := 0#32
  let v60 : BitVec 1 := Scalar.cmpi .slt c4_i32 c0_i32_26
  let v61 : BitVec 32 := Scalar.extui v60
  let v62 : BitVec 32 := Scalar.subi v59 v61
  let v63 : BitVec 1 := Scalar.cmpi .ne v57 v62
  let v64 : BitVec 32 := Scalar.remsi v2 c4_i32
  let c0_i32_27 : BitVec 32 := 0#32
  let v65 : BitVec 1 := Scalar.cmpi .ne v64 c0_i32_27
  let v66 : BitVec 1 := Scalar.andi v63 v65
  let v52 : BitVec 32 := Scalar.divsi v2 c4_i32
  let c1_i32_28 : BitVec 32 := 1#32
  let v67 : BitVec 32 := Scalar.subi v52 c1_i32_28
  let v68 : BitVec 32 := Scalar.select v66 v67 v52
  let c512_i32_835 : BitVec 32 := 512#32
  let v1275 : BitVec 32 := Scalar.muli v68 c512_i32_835
  let v1276 : BitVec 32 := Scalar.addi c0_i32_836 v1275
  let c2_i32_4 : BitVec 32 := 2#32
  let c0_i32_5 : BitVec 32 := 0#32
  let v15 : BitVec 1 := Scalar.cmpi .eq c2_i32_4 c0_i32_5
  let c1_i32_6 : BitVec 32 := 1#32
  let v16 : BitVec 32 := Scalar.select v15 c1_i32_6 c2_i32_4
  let v17 : BitVec 32 := Scalar.remsi v2 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v69 : BitVec 32 := Scalar.xori v24 v51
  let c256_i32_837 : BitVec 32 := 256#32
  let v1277 : BitVec 32 := Scalar.muli v69 c256_i32_837
  let v1278 : BitVec 32 := Scalar.addi v1276 v1277
  let c128_i32_838 : BitVec 32 := 128#32
  let v1279 : BitVec 32 := Scalar.muli v51 c128_i32_838
  let v1280 : BitVec 32 := Scalar.addi v1278 v1279
  let v1281 : Index := Scalar.indexCast v1280
  let c768_840 : Index := 768#32
  ![0, v1281.toNat, 768]
def k0_off35 (d0 : Dev nD) : Fin 3 → Nat :=
  let c0_i32_852 : BitVec 32 := 0#32
  let c0_i32_847 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_23 : BitVec 32 := 0#32
  let v53 : BitVec 1 := Scalar.cmpi .sgt v2 c0_i32_23
  let v54 : BitVec 32 := Scalar.extui v53
  let c0_i32_24 : BitVec 32 := 0#32
  let v55 : BitVec 1 := Scalar.cmpi .slt v2 c0_i32_24
  let v56 : BitVec 32 := Scalar.extui v55
  let v57 : BitVec 32 := Scalar.subi v54 v56
  let c4_i32 : BitVec 32 := 4#32
  let c0_i32_25 : BitVec 32 := 0#32
  let v58 : BitVec 1 := Scalar.cmpi .sgt c4_i32 c0_i32_25
  let v59 : BitVec 32 := Scalar.extui v58
  let c0_i32_26 : BitVec 32 := 0#32
  let v60 : BitVec 1 := Scalar.cmpi .slt c4_i32 c0_i32_26
  let v61 : BitVec 32 := Scalar.extui v60
  let v62 : BitVec 32 := Scalar.subi v59 v61
  let v63 : BitVec 1 := Scalar.cmpi .ne v57 v62
  let v64 : BitVec 32 := Scalar.remsi v2 c4_i32
  let c0_i32_27 : BitVec 32 := 0#32
  let v65 : BitVec 1 := Scalar.cmpi .ne v64 c0_i32_27
  let v66 : BitVec 1 := Scalar.andi v63 v65
  let v52 : BitVec 32 := Scalar.divsi v2 c4_i32
  let c1_i32_28 : BitVec 32 := 1#32
  let v67 : BitVec 32 := Scalar.subi v52 c1_i32_28
  let v68 : BitVec 32 := Scalar.select v66 v67 v52
  let c512_i32_846 : BitVec 32 := 512#32
  let v1291 : BitVec 32 := Scalar.muli v68 c512_i32_846
  let v1292 : BitVec 32 := Scalar.addi c0_i32_847 v1291
  let c2_i32_4 : BitVec 32 := 2#32
  let c0_i32_5 : BitVec 32 := 0#32
  let v15 : BitVec 1 := Scalar.cmpi .eq c2_i32_4 c0_i32_5
  let c1_i32_6 : BitVec 32 := 1#32
  let v16 : BitVec 32 := Scalar.select v15 c1_i32_6 c2_i32_4
  let v17 : BitVec 32 := Scalar.remsi v2 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v69 : BitVec 32 := Scalar.xori v24 v51
  let c256_i32_848 : BitVec 32 := 256#32
  let v1293 : BitVec 32 := Scalar.muli v69 c256_i32_848
  let v1294 : BitVec 32 := Scalar.addi v1292 v1293
  let c128_i32_849 : BitVec 32 := 128#32
  let v1295 : BitVec 32 := Scalar.muli v51 c128_i32_849
  let v1296 : BitVec 32 := Scalar.addi v1294 v1295
  let c768_i32_859 : BitVec 32 := 768#32
  ![0, v1296.toNat, 768]
def k0_dev15 (d0 : Dev nD) : Nat :=
  let c0_i32_858 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_850 : BitVec 32 := 3#32
  let v1297 : BitVec 32 := Scalar.xori v2 c3_i32_850
  let c1_i32_857 : BitVec 32 := 1#32
  let v1298 : BitVec 32 := Scalar.muli v1297 c1_i32_857
  let v1299 : BitVec 32 := Scalar.addi c0_i32_858 v1298
  v1299.toNat
def k0_off36 (d0 : Dev nD) : Fin 3 → Nat :=
  let c0_i32_885 : BitVec 32 := 0#32
  let c0_i32_881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4 : BitVec 32 := 2#32
  let c0_i32_5 : BitVec 32 := 0#32
  let v15 : BitVec 1 := Scalar.cmpi .eq c2_i32_4 c0_i32_5
  let c1_i32_6 : BitVec 32 := 1#32
  let v16 : BitVec 32 := Scalar.select v15 c1_i32_6 c2_i32_4
  let v17 : BitVec 32 := Scalar.remsi v2 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v69 : BitVec 32 := Scalar.xori v24 v51
  let c512_i32_880 : BitVec 32 := 512#32
  let v1322 : BitVec 32 := Scalar.muli v69 c512_i32_880
  let v1323 : BitVec 32 := Scalar.addi c0_i32_881 v1322
  let c256_i32_882 : BitVec 32 := 256#32
  let v1324 : BitVec 32 := Scalar.muli v51 c256_i32_882
  let v1325 : BitVec 32 := Scalar.addi v1323 v1324
  let c0_i32_892 : BitVec 32 := 0#32
  ![0, v1325.toNat, 0]
def k0_dev16 (d0 : Dev nD) : Nat :=
  let c0_i32_891 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_883 : BitVec 32 := 3#32
  let v1326 : BitVec 32 := Scalar.xori v2 c3_i32_883
  let c1_i32_890 : BitVec 32 := 1#32
  let v1327 : BitVec 32 := Scalar.muli v1326 c1_i32_890
  let v1328 : BitVec 32 := Scalar.addi c0_i32_891 v1327
  v1328.toNat
def k0_off37 (d0 : Dev nD) : Fin 3 → Nat :=
  let c0_i32_918 : BitVec 32 := 0#32
  let c0_i32_914 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let c512_i32_913 : BitVec 32 := 512#32
  let v1351 : BitVec 32 := Scalar.muli v51 c512_i32_913
  let v1352 : BitVec 32 := Scalar.addi c0_i32_914 v1351
  let c0_i32_23 : BitVec 32 := 0#32
  let v53 : BitVec 1 := Scalar.cmpi .sgt v2 c0_i32_23
  let v54 : BitVec 32 := Scalar.extui v53
  let c0_i32_24 : BitVec 32 := 0#32
  let v55 : BitVec 1 := Scalar.cmpi .slt v2 c0_i32_24
  let v56 : BitVec 32 := Scalar.extui v55
  let v57 : BitVec 32 := Scalar.subi v54 v56
  let c4_i32 : BitVec 32 := 4#32
  let c0_i32_25 : BitVec 32 := 0#32
  let v58 : BitVec 1 := Scalar.cmpi .sgt c4_i32 c0_i32_25
  let v59 : BitVec 32 := Scalar.extui v58
  let c0_i32_26 : BitVec 32 := 0#32
  let v60 : BitVec 1 := Scalar.cmpi .slt c4_i32 c0_i32_26
  let v61 : BitVec 32 := Scalar.extui v60
  let v62 : BitVec 32 := Scalar.subi v59 v61
  let v63 : BitVec 1 := Scalar.cmpi .ne v57 v62
  let v64 : BitVec 32 := Scalar.remsi v2 c4_i32
  let c0_i32_27 : BitVec 32 := 0#32
  let v65 : BitVec 1 := Scalar.cmpi .ne v64 c0_i32_27
  let v66 : BitVec 1 := Scalar.andi v63 v65
  let v52 : BitVec 32 := Scalar.divsi v2 c4_i32
  let c1_i32_28 : BitVec 32 := 1#32
  let v67 : BitVec 32 := Scalar.subi v52 c1_i32_28
  let v68 : BitVec 32 := Scalar.select v66 v67 v52
  let c256_i32_915 : BitVec 32 := 256#32
  let v1353 : BitVec 32 := Scalar.muli v68 c256_i32_915
  let v1354 : BitVec 32 := Scalar.addi v1352 v1353
  let c384_i32_925 : BitVec 32 := 384#32
  ![0, v1354.toNat, 384]
def k0_dev17 (d0 : Dev nD) : Nat :=
  let c0_i32_924 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_916 : BitVec 32 := 4#32
  let v1355 : BitVec 32 := Scalar.xori v2 c4_i32_916
  let c1_i32_923 : BitVec 32 := 1#32
  let v1356 : BitVec 32 := Scalar.muli v1355 c1_i32_923
  let v1357 : BitVec 32 := Scalar.addi c0_i32_924 v1356
  v1357.toNat
def k0_off38 (d0 : Dev nD) : Fin 3 → Nat :=
  let c0_i32_951 : BitVec 32 := 0#32
  let c0_i32_947 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_23 : BitVec 32 := 0#32
  let v53 : BitVec 1 := Scalar.cmpi .sgt v2 c0_i32_23
  let v54 : BitVec 32 := Scalar.extui v53
  let c0_i32_24 : BitVec 32 := 0#32
  let v55 : BitVec 1 := Scalar.cmpi .slt v2 c0_i32_24
  let v56 : BitVec 32 := Scalar.extui v55
  let v57 : BitVec 32 := Scalar.subi v54 v56
  let c4_i32 : BitVec 32 := 4#32
  let c0_i32_25 : BitVec 32 := 0#32
  let v58 : BitVec 1 := Scalar.cmpi .sgt c4_i32 c0_i32_25
  let v59 : BitVec 32 := Scalar.extui v58
  let c0_i32_26 : BitVec 32 := 0#32
  let v60 : BitVec 1 := Scalar.cmpi .slt c4_i32 c0_i32_26
  let v61 : BitVec 32 := Scalar.extui v60
  let v62 : BitVec 32 := Scalar.subi v59 v61
  let v63 : BitVec 1 := Scalar.cmpi .ne v57 v62
  let v64 : BitVec 32 := Scalar.remsi v2 c4_i32
  let c0_i32_27 : BitVec 32 := 0#32
  let v65 : BitVec 1 := Scalar.cmpi .ne v64 c0_i32_27
  let v66 : BitVec 1 := Scalar.andi v63 v65
  let v52 : BitVec 32 := Scalar.divsi v2 c4_i32
  let c1_i32_28 : BitVec 32 := 1#32
  let v67 : BitVec 32 := Scalar.subi v52 c1_i32_28
  let v68 : BitVec 32 := Scalar.select v66 v67 v52
  let c512_i32_946 : BitVec 32 := 512#32
  let v1380 : BitVec 32 := Scalar.muli v68 c512_i32_946
  let v1381 : BitVec 32 := Scalar.addi c0_i32_947 v1380
  let c2_i32_4 : BitVec 32 := 2#32
  let c0_i32_5 : BitVec 32 := 0#32
  let v15 : BitVec 1 := Scalar.cmpi .eq c2_i32_4 c0_i32_5
  let c1_i32_6 : BitVec 32 := 1#32
  let v16 : BitVec 32 := Scalar.select v15 c1_i32_6 c2_i32_4
  let v17 : BitVec 32 := Scalar.remsi v2 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v69 : BitVec 32 := Scalar.xori v24 v51
  let c256_i32_948 : BitVec 32 := 256#32
  let v1382 : BitVec 32 := Scalar.muli v69 c256_i32_948
  let v1383 : BitVec 32 := Scalar.addi v1381 v1382
  let c768_i32_958 : BitVec 32 := 768#32
  ![0, v1383.toNat, 768]
def k0_dev18 (d0 : Dev nD) : Nat :=
  let c0_i32_957 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_949 : BitVec 32 := 1#32
  let v1384 : BitVec 32 := Scalar.xori v2 c1_i32_949
  let c1_i32_956 : BitVec 32 := 1#32
  let v1385 : BitVec 32 := Scalar.muli v1384 c1_i32_956
  let v1386 : BitVec 32 := Scalar.addi c0_i32_957 v1385
  v1386.toNat
def k0_off39 (d0 : Dev nD) : Fin 3 → Nat :=
  let c0_i32_983 : BitVec 32 := 0#32
  let c0_i32_980 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4 : BitVec 32 := 2#32
  let c0_i32_5 : BitVec 32 := 0#32
  let v15 : BitVec 1 := Scalar.cmpi .eq c2_i32_4 c0_i32_5
  let c1_i32_6 : BitVec 32 := 1#32
  let v16 : BitVec 32 := Scalar.select v15 c1_i32_6 c2_i32_4
  let v17 : BitVec 32 := Scalar.remsi v2 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v69 : BitVec 32 := Scalar.xori v24 v51
  let c512_i32_979 : BitVec 32 := 512#32
  let v1409 : BitVec 32 := Scalar.muli v69 c512_i32_979
  let v1410 : BitVec 32 := Scalar.addi c0_i32_980 v1409
  let c0_i32_990 : BitVec 32 := 0#32
  ![0, v1410.toNat, 0]
def k0_dev19 (d0 : Dev nD) : Nat :=
  let c0_i32_989 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_981 : BitVec 32 := 1#32
  let v1411 : BitVec 32 := Scalar.xori v2 c1_i32_981
  let c1_i32_988 : BitVec 32 := 1#32
  let v1412 : BitVec 32 := Scalar.muli v1411 c1_i32_988
  let v1413 : BitVec 32 := Scalar.addi c0_i32_989 v1412
  v1413.toNat
def k0_off40 (d0 : Dev nD) : Fin 3 → Nat :=
  let c0_i32_1015 : BitVec 32 := 0#32
  let c0_i32_1012 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v26 : BitVec 1 := Scalar.cmpi .sgt v2 c0_i32_11
  let v27 : BitVec 32 := Scalar.extui v26
  let c0_i32_12 : BitVec 32 := 0#32
  let v28 : BitVec 1 := Scalar.cmpi .slt v2 c0_i32_12
  let v29 : BitVec 32 := Scalar.extui v28
  let v30 : BitVec 32 := Scalar.subi v27 v29
  let c2_i32_10 : BitVec 32 := 2#32
  let c0_i32_13 : BitVec 32 := 0#32
  let v31 : BitVec 1 := Scalar.cmpi .sgt c2_i32_10 c0_i32_13
  let v32 : BitVec 32 := Scalar.extui v31
  let c0_i32_14 : BitVec 32 := 0#32
  let v33 : BitVec 1 := Scalar.cmpi .slt c2_i32_10 c0_i32_14
  let v34 : BitVec 32 := Scalar.extui v33
  let v35 : BitVec 32 := Scalar.subi v32 v34
  let v36 : BitVec 1 := Scalar.cmpi .ne v30 v35
  let v37 : BitVec 32 := Scalar.remsi v2 c2_i32_10
  let c0_i32_15 : BitVec 32 := 0#32
  let v38 : BitVec 1 := Scalar.cmpi .ne v37 c0_i32_15
  let v39 : BitVec 1 := Scalar.andi v36 v38
  let v25 : BitVec 32 := Scalar.divsi v2 c2_i32_10
  let c1_i32_16 : BitVec 32 := 1#32
  let v40 : BitVec 32 := Scalar.subi v25 c1_i32_16
  let v41 : BitVec 32 := Scalar.select v39 v40 v25
  let c2_i32_17 : BitVec 32 := 2#32
  let c0_i32_18 : BitVec 32 := 0#32
  let v42 : BitVec 1 := Scalar.cmpi .eq c2_i32_17 c0_i32_18
  let c1_i32_19 : BitVec 32 := 1#32
  let v43 : BitVec 32 := Scalar.select v42 c1_i32_19 c2_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let c512_i32_1011 : BitVec 32 := 512#32
  let v1436 : BitVec 32 := Scalar.muli v51 c512_i32_1011
  let v1437 : BitVec 32 := Scalar.addi c0_i32_1012 v1436
  let c384_i32_1022 : BitVec 32 := 384#32
  ![0, v1437.toNat, 384]
def k0_dev20 (d0 : Dev nD) : Nat :=
  let c0_i32_1021 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1013 : BitVec 32 := 3#32
  let v1438 : BitVec 32 := Scalar.xori v2 c3_i32_1013
  let c1_i32_1020 : BitVec 32 := 1#32
  let v1439 : BitVec 32 := Scalar.muli v1438 c1_i32_1020
  let v1440 : BitVec 32 := Scalar.addi c0_i32_1021 v1439
  v1440.toNat
def k0_off41 (d0 : Dev nD) : Fin 3 → Nat :=
  let c0_i32_1047 : BitVec 32 := 0#32
  let c0_i32_1044 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_23 : BitVec 32 := 0#32
  let v53 : BitVec 1 := Scalar.cmpi .sgt v2 c0_i32_23
  let v54 : BitVec 32 := Scalar.extui v53
  let c0_i32_24 : BitVec 32 := 0#32
  let v55 : BitVec 1 := Scalar.cmpi .slt v2 c0_i32_24
  let v56 : BitVec 32 := Scalar.extui v55
  let v57 : BitVec 32 := Scalar.subi v54 v56
  let c4_i32 : BitVec 32 := 4#32
  let c0_i32_25 : BitVec 32 := 0#32
  let v58 : BitVec 1 := Scalar.cmpi .sgt c4_i32 c0_i32_25
  let v59 : BitVec 32 := Scalar.extui v58
  let c0_i32_26 : BitVec 32 := 0#32
  let v60 : BitVec 1 := Scalar.cmpi .slt c4_i32 c0_i32_26
  let v61 : BitVec 32 := Scalar.extui v60
  let v62 : BitVec 32 := Scalar.subi v59 v61
  let v63 : BitVec 1 := Scalar.cmpi .ne v57 v62
  let v64 : BitVec 32 := Scalar.remsi v2 c4_i32
  let c0_i32_27 : BitVec 32 := 0#32
  let v65 : BitVec 1 := Scalar.cmpi .ne v64 c0_i32_27
  let v66 : BitVec 1 := Scalar.andi v63 v65
  let v52 : BitVec 32 := Scalar.divsi v2 c4_i32
  let c1_i32_28 : BitVec 32 := 1#32
  let v67 : BitVec 32 := Scalar.subi v52 c1_i32_28
  let v68 : BitVec 32 := Scalar.select v66 v67 v52
  let c512_i32_1043 : BitVec 32 := 512#32
  let v1463 : BitVec 32 := Scalar.muli v68 c512_i32_1043
  let v1464 : BitVec 32 := Scalar.addi c0_i32_1044 v1463
  let c768_i32_1054 : BitVec 32 := 768#32
  ![0, v1464.toNat, 768]
def k0_dev21 (d0 : Dev nD) : Nat :=
  let c0_i32_1053 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1045 : BitVec 32 := 4#32
  let v1465 : BitVec 32 := Scalar.xori v2 c4_i32_1045
  let c1_i32_1052 : BitVec 32 := 1#32
  let v1466 : BitVec 32 := Scalar.muli v1465 c1_i32_1052
  let v1467 : BitVec 32 := Scalar.addi c0_i32_1053 v1466
  v1467.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1x1024x1024 : Shape := ⟨3, ![1, 1024, 1024]⟩
abbrev S1024x8192 : Shape := ⟨2, ![1024, 8192]⟩
abbrev S1x1024x64x128 : Shape := ⟨4, ![1, 1024, 64, 128]⟩
abbrev S8192x1024 : Shape := ⟨2, ![8192, 1024]⟩
abbrev S1x1024x8192 : Shape := ⟨3, ![1, 1024, 8192]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x64x1024x1024 : Shape := ⟨4, ![1, 64, 1024, 1024]⟩
abbrev S1x1x1024x1024 : Shape := ⟨4, ![1, 1, 1024, 1024]⟩
abbrev S1x64x1024 : Shape := ⟨3, ![1, 64, 1024]⟩
abbrev S1x64x1024x1 : Shape := ⟨4, ![1, 64, 1024, 1]⟩
abbrev S1x1x1024x1 : Shape := ⟨4, ![1, 1, 1024, 1]⟩
abbrev S1x64x128x1024 : Shape := ⟨4, ![1, 64, 128, 1024]⟩

abbrev nBuf : Space → Nat
  | .hbm => 89
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x8192, .f32⟩
  | .hbm, ⟨2, _⟩ => ⟨S1x1024x64x128, .f32⟩
  | .hbm, ⟨3, _⟩ => ⟨S1x1024x64x128, .f32⟩
  | .hbm, ⟨4, _⟩ => ⟨S8192x1024, .f32⟩
  | .hbm, ⟨5, _⟩ => ⟨S1x1024x8192, .f32⟩
  | .hbm, ⟨6, _⟩ => ⟨S1x1024x64x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S1x64x1024x1024, .f32⟩
  | .hbm, ⟨51, _⟩ => ⟨S_, .f32⟩
  | .hbm, ⟨52, _⟩ => ⟨S1x64x1024x1024, .f32⟩
  | .hbm, ⟨53, _⟩ => ⟨S1x64x1024x1024, .f32⟩
  | .hbm, ⟨54, _⟩ => ⟨S1x1x1024x1024, .i1⟩
  | .hbm, ⟨55, _⟩ => ⟨S_, .f32⟩
  | .hbm, ⟨56, _⟩ => ⟨S_, .f32⟩
  | .hbm, ⟨57, _⟩ => ⟨S1x64x1024x1024, .i1⟩
  | .hbm, ⟨58, _⟩ => ⟨S1x64x1024x1024, .f32⟩
  | .hbm, ⟨59, _⟩ => ⟨S1x64x1024x1024, .f32⟩
  | .hbm, ⟨60, _⟩ => ⟨S_, .f32⟩
  | .hbm, ⟨61, _⟩ => ⟨S1x64x1024, .f32⟩
  | .hbm, ⟨62, _⟩ => ⟨S1x64x1024x1, .f32⟩
  | .hbm, ⟨63, _⟩ => ⟨S1x64x1024x1024, .f32⟩
  | .hbm, ⟨64, _⟩ => ⟨S1x64x1024x1024, .f32⟩
  | .hbm, ⟨65, _⟩ => ⟨S1x64x1024x1024, .f32⟩
  | .hbm, ⟨66, _⟩ => ⟨S_, .i1⟩
  | .hbm, ⟨67, _⟩ => ⟨S1024, .i1⟩
  | .hbm, ⟨68, _⟩ => ⟨S1x1x1024x1, .i1⟩
  | .hbm, ⟨69, _⟩ => ⟨S_, .f32⟩
  | .hbm, ⟨70, _⟩ => ⟨S1x64x1024, .f32⟩
  | .hbm, ⟨71, _⟩ => ⟨S1x64x1024x1, .f32⟩
  | .hbm, ⟨72, _⟩ => ⟨S_, .f32⟩
  | .hbm, ⟨73, _⟩ => ⟨S_, .f32⟩
  | .hbm, ⟨74, _⟩ => ⟨S1x64x1024x1, .i1⟩
  | .hbm, ⟨75, _⟩ => ⟨S1x64x1024x1, .f32⟩
  | .hbm, ⟨76, _⟩ => ⟨S1x64x1024x1, .f32⟩
  | .hbm, ⟨77, _⟩ => ⟨S1x64x1024x1024, .f32⟩
  | .hbm, ⟨78, _⟩ => ⟨S1x64x1024x1024, .f32⟩
  | .hbm, ⟨79, _⟩ => ⟨S1x1x1024x1, .i1⟩
  | .hbm, ⟨80, _⟩ => ⟨S_, .f32⟩
  | .hbm, ⟨81, _⟩ => ⟨S_, .f32⟩
  | .hbm, ⟨82, _⟩ => ⟨S1x64x1024x1024, .i1⟩
  | .hbm, ⟨83, _⟩ => ⟨S1x64x1024x1024, .f32⟩
  | .hbm, ⟨84, _⟩ => ⟨S1x64x1024x1024, .f32⟩
  | .hbm, ⟨85, _⟩ => ⟨S1x64x128x1024, .f32⟩
  | .hbm, ⟨86, _⟩ => ⟨S1x1024x64x128, .f32⟩
  | .hbm, ⟨87, _⟩ => ⟨S1x1024x8192, .f32⟩
  | .hbm, ⟨88, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Geometry.lean ====
/-
# `Geometry`: devices, strips, boxes

The mesh of eight devices is the cube `{0,1}³` in Gray order: the three masks `1`, `3`, `4` xored to a device's number are
its three directions. The output's columns are cut in three strips; strip `p` is reduced along the directions
`p, p+1, p+2` (mod 3), half of the rows that are left at each level. This module names the rows a device keeps and sends
at each level, its partner, and the boxes of a rank-three array, and says what the views of the kernel cover.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Strips

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The cube -/

/-- The number xored to a device's to step along a direction. -/
def mask : Fin 3 → ℕ := ![1, 3, 4]

set_option backward.proofsInPublic true in
/-- The neighbour of a device along a direction. -/
def flip (c : Dev nD) (q : Fin 3) : Dev nD := ⟨(c.val ^^^ mask q) % 8, Nat.mod_lt _ (by decide)⟩

/-- The partner of a device for strip `p` at level `l`. -/
def prt (c : Dev nD) (p l : Fin 3) : Dev nD := flip c (p + l)

theorem flip_flip : ∀ (c : Dev nD) (q : Fin 3), flip (flip c q) q = c := by decide +kernel
theorem prt_prt (c : Dev nD) (p l : Fin 3) : prt (prt c p l) p l = c := flip_flip _ _

/-- Stepping along a direction is its own inverse. -/
def flipEquiv (q : Fin 3) : Dev nD ≃ Dev nD := ⟨(flip · q), (flip · q), (flip_flip · q), (flip_flip · q)⟩

/-- The coordinate of a device the masks change: `1` alone the first, `1` and `3` the second apart, `4` the third. -/
def bit (c : Dev nD) (q : Fin 3) : ℕ :=
  (![(c.val % 2 + c.val / 2 % 2) % 2, c.val / 2 % 2, c.val / 4] : Fin 3 → ℕ) q

/-! ## Rows and columns -/

/-- The rows moved at a level, and the rows left after it. -/
def half (l : Fin 3) : ℕ := (![512, 256, 128] : Fin 3 → ℕ) l
/-- The first column of a strip, and its width. -/
def c0 (p : Fin 3) : ℕ := (![0, 384, 768] : Fin 3 → ℕ) p
def cw (p : Fin 3) : ℕ := (![384, 384, 256] : Fin 3 → ℕ) p

/-- The first of the rows a device keeps after level `l` of strip `p`. -/
def kst (c : Dev nD) (p l : Fin 3) : ℕ :=
  (![bit c p * 512, bit c p * 512 + bit c (p + 1) * 256, bit c p * 512 + bit c (p + 1) * 256 + bit c (p + 2) * 128] : Fin 3 → ℕ) l
/-- The first of the rows left before level `l`. -/
def kpr (c : Dev nD) (p l : Fin 3) : ℕ :=
  (![0, bit c p * 512, bit c p * 512 + bit c (p + 1) * 256] : Fin 3 → ℕ) l
/-- The first of the rows a device sends at level `l`: what its partner keeps. -/
def sst (c : Dev nD) (p l : Fin 3) : ℕ := kst (prt c p l) p l

theorem sst_prt (c : Dev nD) (p l : Fin 3) : sst (prt c p l) p l = kst c p l := by unfold sst; rw [prt_prt]

/-- At each level the rows left are cut in two halves, one kept and one sent. -/
theorem split_rows : ∀ (c : Dev nD) (p l : Fin 3),
    (sst c p l = kpr c p l ∧ kst c p l = kpr c p l + half l) ∨ (kst c p l = kpr c p l ∧ sst c p l = kpr c p l + half l) := by
  decide +kernel
theorem kst_inb : ∀ (c : Dev nD) (p l : Fin 3), kst c p l + half l ≤ 1024 := by decide +kernel
theorem sst_inb (c : Dev nD) (p l : Fin 3) : sst c p l + half l ≤ 1024 := kst_inb _ _ _
theorem c0_inb : ∀ p : Fin 3, c0 p + cw p ≤ 1024 := by decide
theorem half_inb : ∀ l : Fin 3, half l ≤ 512 := by decide
theorem half_pos : ∀ l : Fin 3, 0 < half l := by decide
theorem cw_pos : ∀ p : Fin 3, 0 < cw p := by decide

/-! ## The kernel's arithmetic -/

theorem dev1_eq : ∀ c : Dev nD, (⟨k0_dev1 c, k0_dev1_lt c⟩ : Dev nD) = flip c 0 := by decide +kernel
theorem dev2_eq : ∀ c : Dev nD, (⟨k0_dev2 c, k0_dev2_lt c⟩ : Dev nD) = flip c 1 := by decide +kernel
theorem dev3_eq : ∀ c : Dev nD, (⟨k0_dev3 c, k0_dev3_lt c⟩ : Dev nD) = flip c 2 := by decide +kernel

/-! ## Boxes -/

/-- The elements of an array whose coordinates lie in a box. -/
def boxOf {s : Shape} (off size : Fin s.rank → ℕ) : Finset s.Idx :=
  Finset.univ.filter fun i => ∀ a, off a ≤ (i a : ℕ) ∧ (i a : ℕ) < off a + size a

theorem mem_boxOf {s : Shape} {off size : Fin s.rank → ℕ} {i : s.Idx} :
    i ∈ boxOf off size ↔ ∀ a, off a ≤ (i a : ℕ) ∧ (i a : ℕ) < off a + size a := by
  unfold boxOf; rw [Finset.mem_filter]; exact ⟨fun h => h.2, fun h => ⟨Finset.mem_univ _, h⟩⟩

theorem unit_set {s : Shape} (off size : Fin s.rank → ℕ) (inb) : (Rect.unit (s := s) off size inb).set = boxOf off size :=
  Finset.ext fun i => by rw [Rect.mem_set_unit, mem_boxOf]

theorem boxOf_congr {s : Shape} {off off' size size' : Fin s.rank → ℕ} (h : off = off') (h' : size = size') :
    (boxOf off size : Finset s.Idx) = boxOf off' size' := by rw [h, h']

/-- A box of the output: rows `r …`, columns of strip `p`. -/
def obox (r h : ℕ) (p : Fin 3) : Finset S1x1024x1024.Idx := boxOf (s := S1x1024x1024) ![0, r, c0 p] ![1, h, cw p]
/-- The part of the landing buffer a strip's level uses. -/
def cbox (l p : Fin 3) : Finset S3x512x1024.Idx := boxOf (s := S3x512x1024) ![l.val, 0, c0 p] ![1, half l, cw p]

theorem mem_obox {r h : ℕ} {p : Fin 3} {i : S1x1024x1024.Idx} :
    i ∈ obox r h p ↔ (r ≤ (i 1 : ℕ) ∧ (i 1 : ℕ) < r + h) ∧ (c0 p ≤ (i 2 : ℕ) ∧ (i 2 : ℕ) < c0 p + cw p) := by
  unfold obox; rw [mem_boxOf]
  constructor
  · intro H; exact ⟨H 1, H 2⟩
  · intro H a
    fin_cases a
    · exact ⟨Nat.zero_le _, (i 0).isLt⟩
    · exact H.1
    · exact H.2

theorem mem_cbox {l p : Fin 3} {i : S3x512x1024.Idx} :
    i ∈ cbox l p ↔ (i 0 : ℕ) = l.val ∧ (i 1 : ℕ) < half l ∧ (c0 p ≤ (i 2 : ℕ) ∧ (i 2 : ℕ) < c0 p + cw p) := by
  unfold cbox; rw [mem_boxOf]
  constructor
  · intro H
    have h0 : l.val ≤ (i 0 : ℕ) ∧ (i 0 : ℕ) < l.val + 1 := H 0
    have h1 : 0 ≤ (i 1 : ℕ) ∧ (i 1 : ℕ) < 0 + half l := H 1
    exact ⟨by omega, by omega, H 2⟩
  · intro H a
    fin_cases a
    · show l.val ≤ (i 0 : ℕ) ∧ (i 0 : ℕ) < l.val + 1
      omega
    · show 0 ≤ (i 1 : ℕ) ∧ (i 1 : ℕ) < 0 + half l
      omega
    · exact H.2.2

theorem strip_cases (p p' : Fin 3) (x : ℕ) (h : c0 p ≤ x ∧ x < c0 p + cw p) (h' : c0 p' ≤ x ∧ x < c0 p' + cw p') : p = p' := by
  fin_cases p <;> fin_cases p' <;> first | rfl | (exfalso; simp [c0, cw] at h h'; omega)

/-- The rows left before a level are those kept and those sent. -/
theorem obox_split (c : Dev nD) (p l : Fin 3) :
    obox (kpr c p l) (2 * half l) p = obox (sst c p l) (half l) p ∪ obox (kst c p l) (half l) p := by
  ext i
  rw [Finset.mem_union, mem_obox, mem_obox, mem_obox]
  have := split_rows c p l
  omega
theorem obox_disj (c : Dev nD) (p l : Fin 3) : Disjoint (obox (sst c p l) (half l) p) (obox (kst c p l) (half l) p) := by
  rw [Finset.disjoint_left]
  intro i h h'
  rw [mem_obox] at h h'
  have := split_rows c p l
  have := half_pos l
  omega

theorem cbox_disj (x y : Fin 3 × Fin 3) (h : x ≠ y) : Disjoint (cbox x.1 x.2) (cbox y.1 y.2) := by
  rw [Finset.disjoint_left]
  intro i hi hj
  rw [mem_cbox] at hi hj
  exact h (Prod.ext (Fin.ext (hi.1.symm.trans hj.1)) (strip_cases _ _ _ hi.2.2 hj.2.2))

theorem ostrip_disj (x y : Fin 3) (h : x ≠ y) : Disjoint (obox 0 1024 x) (obox 0 1024 y) := by
  rw [Finset.disjoint_left]
  intro i hi hj
  rw [mem_obox] at hi hj
  exact h (strip_cases _ _ _ hi.2 hj.2)

/-- The strip a column lies in. -/
def stripOf (x : ℕ) : Fin 3 := if x < 384 then 0 else if x < 768 then 1 else 2
theorem stripOf_spec {x : ℕ} (hx : x < 1024) : c0 (stripOf x) ≤ x ∧ x < c0 (stripOf x) + cw (stripOf x) := by
  unfold stripOf
  split_ifs with h h' <;> simp [c0, cw] <;> omega
theorem stripOf_eq {x : ℕ} {p : Fin 3} (hx : x < 1024) (h : c0 p ≤ x ∧ x < c0 p + cw p) : stripOf x = p :=
  strip_cases _ _ _ (stripOf_spec hx) h

theorem ostrip_univ : (Finset.univ : Finset S1x1024x1024.Idx) = Finset.univ.biUnion fun p : Fin 3 => obox 0 1024 p := by
  symm
  rw [Finset.eq_univ_iff_forall]
  intro i
  rw [Finset.mem_biUnion]
  have h1 : (i 1 : ℕ) < 1024 := (i 1).isLt
  have h2 : (i 2 : ℕ) < 1024 := (i 2).isLt
  exact ⟨stripOf (i 2), Finset.mem_univ _, mem_obox.mpr ⟨⟨Nat.zero_le _, by omega⟩, stripOf_spec h2⟩⟩

/-! ## Views -/

section Views

variable {F : FTy → Type} {sp : Space} {s : Shape} {e : EltTy}

/-- A slice of a whole buffer with its unit axes dropped covers the slice's box. -/
theorem set_sq (b : Ref sig .tc) {off size : Fin b.ty.shape.rank → ℕ} (inb) (h) (s' : Shape) (hq) :
    (((Memref.whole b).slice (Rect.unit (s := b.ty.shape) off size inb) h).squeeze s' hq).view.set = boxOf off size := by
  rw [Memref.set_view_squeeze, ← unit_set off size inb]
  exact View.set_slice_whole b _

/-- What a transfer between two slices of one shape, their unit axes dropped, leaves at the destination's slice: what the
    source's slice reads. -/
theorem read_write_sq {Val : EltTy → Type} {sp sp' : Space} {sm s' : Shape} {e : EltTy} (v : View sig .tc sp sm e) (v' : View sig .tc sp' sm e)
    (h h' : s'.numel = sm.numel) (fs : v.ty.Contents Val) (fd : v'.ty.Contents Val) :
    v'.read Val ((v'.reshape s' h').write Val fd ((v.reshape s' h).read Val fs) Finset.univ) = v.read Val fs := by
  rw [View.write_reshape_univ, View.read_write_univ]
  funext x
  rw [View.read_apply, View.read_apply]
  have : (v.reshape s' h).emb ((Shape.reshapeEquiv h').symm x) = v.emb x := by simp
  rw [this]

end Views

end Cert.Strips
end
-- ==== Proof.Sched.lean ====
/-
# `Sched`: who pays whom what

One round per semaphore. A device's barrier cell has three duties of one unit, one per direction: the neighbour along
direction `q` pays duty `q` and hands over the three parts of its landing buffer that device will write to. Each of the four
local copies has a cell whose one duty is paid by the copy. Each exchange of a strip's level has a send and a receive cell
for the reduce-scatter and for the all-gather. A reduce-scatter transfer lands with the source's rows handed on: the same
rows come back by the all-gather.
-/
module

public import proofs.«01_k».proof.Proof.Geometry

@[expose] public section

noncomputable section

namespace Cert.Strips

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The semaphores -/

/-- The kernel's own semaphores: four of the local copies, and for each strip and level the send and receive of the
    reduce-scatter (kinds 0, 1) and of the all-gather (kinds 2, 3); -/
abbrev OI : Type := Fin 4 ⊕ (Fin 4 × Fin 3 × Fin 3)
/-- those and the barrier. -/
abbrev CI : Type := Option OI

abbrev arr : Fin 4 → DmaSems sig S3x3
  | 0 => cc0_scratch7 | 1 => cc0_scratch8 | 2 => cc0_scratch9 | 3 => cc0_scratch10

theorem pl_inb (p l : Fin 3) : ∀ a, (![p.val, l.val] : Fin 2 → ℕ) a + S1x1.size a ≤ S3x3.size a := by revert p l; decide
theorem i_inb (i : Fin 4) : ∀ a, (![i.val] : Fin 1 → ℕ) a + S1.size a ≤ S4.size a := by revert i; decide

/-- The semaphore of a strip and level in an array of them, and of a local copy, as the kernel picks them out. -/
abbrev semAt (A : DmaSems sig S3x3) (p l : Fin 3) : DmaSem sig :=
  ((A.slice (Rect.unit (s := S3x3) ![p.val, l.val] S1x1.size (pl_inb p l))).squeeze S_ squeezes_S1x1_S_).sem
abbrev cpAt (i : Fin 4) : DmaSem sig :=
  ((cc0_scratch6.slice (Rect.unit (s := S4) ![i.val] S1.size (i_inb i))).squeeze S_ squeezes_S1_S_).sem

abbrev barS : Sem sig := (SemArray.scalar (sig.barrier 0 rfl) : Sems sig S_).sem

abbrev osem : OI → SemLoc sig
  | .inl i => .dma (cpAt i)
  | .inr (k, p, l) => .dma (semAt (arr k) p l)
abbrev csem : CI → SemLoc sig
  | none => .reg barS
  | some o => osem o
abbrev kcell (ck : Dev nD × CI) : GSem nD τ sig := ((ck.1 : Thread nD τ), csem ck.2)
abbrev cell (c : Dev nD) (k : CI) : GSem nD τ sig := ((c : Thread nD τ), csem k)

set_option backward.proofsInPublic true in
/-- Which of the cells a semaphore is. -/
def dec : SemLoc sig → Option CI
  | .reg _ => some none
  | .dma q =>
    if q.val < 2 then none
    else if q.val < 6 then some (some (.inl ⟨(q.val - 2) % 4, Nat.mod_lt _ (by decide)⟩))
    else some (some (.inr (⟨(q.val - 6) / 9 % 4, Nat.mod_lt _ (by decide)⟩, ⟨(q.val - 6) % 9 / 3 % 3, Nat.mod_lt _ (by decide)⟩, ⟨(q.val - 6) % 3, Nat.mod_lt _ (by decide)⟩)))

theorem dec_csem : ∀ k : CI, dec (csem k) = some k := by decide +kernel
theorem csem_injective : Function.Injective csem := fun k k' h => by
  have := (dec_csem k).symm.trans ((congrArg dec h).trans (dec_csem k'))
  exact Option.some.inj this
theorem cell_injective {c c' : Dev nD} {k k' : CI} (h : cell c k = cell c' k') : c = c' ∧ k = k' :=
  ⟨congrArg (fun g : GSem nD τ sig => g.1.1) h, csem_injective (congrArg Prod.snd h)⟩

/-! ## Contents -/

abbrev OIdx : Type := S1x1024x1024.Idx

/-- The index of a row and a column (the row brought into range). -/
def oidx (r : ℕ) (j : ℕ) : OIdx := fun a => match a with
  | 0 => ⟨0, Nat.one_pos⟩ | 1 => ⟨r % 1024, Nat.mod_lt _ (by decide)⟩ | 2 => ⟨j % 1024, Nat.mod_lt _ (by decide)⟩

theorem oidx_eq (i : OIdx) (r j : ℕ) (h1 : (i 1 : ℕ) = r) (h2 : (i 2 : ℕ) = j) : oidx r j = i := by
  funext a
  apply Fin.ext
  fin_cases a
  · have : (i 0 : ℕ) < 1 := (i 0).isLt
    show 0 = (i 0 : ℕ); omega
  · have : (i 1 : ℕ) < 1024 := (i 1).isLt
    show r % 1024 = (i 1 : ℕ); omega
  · have : (i 2 : ℕ) < 1024 := (i 2).isLt
    show j % 1024 = (i 2 : ℕ); omega

variable (P : Dev nD → OIdx → F .f32)

/-- A device's partial sums after the first `n` levels, from its product `P`: at each level the partner's are added. -/
def R (P : Dev nD → OIdx → F .f32) : ℕ → Dev nD → OIdx → F .f32
  | 0, c, i => P c i
  | n + 1, c, i => FloatOps.addf (R P n c i) (R P n (flip c (stripOf (i 2) + Fin.ofNat 3 n)) i)

/-- What lands in a device's landing buffer: its partners' partial sums at the rows it keeps. -/
def landed (c : Dev nD) : S3x512x1024.Idx → F .f32 := fun i =>
  R P (i 0).val (prt c (stripOf (i 2)) (i 0)) (oidx (kst c (stripOf (i 2)) (i 0) + (i 1).val) (i 2))

set_option backward.proofsInPublic true in
/-- The device that keeps the rows whose halves, quarters and eighths are `x`, `y`, `z`. -/
def own3 (p : Fin 3) (x y z : ℕ) : Dev nD :=
  let b : Fin 3 → ℕ := fun q => (![x, y, z] : Fin 3 → ℕ) (q - p)
  ⟨(4 * b 2 + 2 * b 1 + (b 0 + b 1) % 2) % 8, Nat.mod_lt _ (by decide)⟩
/-- The device whose rows a row of a strip are among when all three levels are done. -/
def owner (p : Fin 3) (r : ℕ) : Dev nD := own3 p (r / 512 % 2) (r / 256 % 2) (r / 128 % 2)

theorem owner_kst' : ∀ (c : Dev nD) (p : Fin 3), owner p (kst c p 2 / 128 * 128) = c ∧ kst c p 2 % 128 = 0 := by decide +kernel
theorem owner_div (p : Fin 3) (r : ℕ) : owner p r = owner p (r / 128 * 128) := by
  have h1 : r / 512 % 2 = r / 128 * 128 / 512 % 2 := by omega
  have h2 : r / 256 % 2 = r / 128 * 128 / 256 % 2 := by omega
  have h3 : r / 128 % 2 = r / 128 * 128 / 128 % 2 := by omega
  show own3 p _ _ _ = own3 p _ _ _
  rw [h1, h2, h3]
theorem owner_kst (c : Dev nD) (p : Fin 3) (r : ℕ) (h : kst c p 2 ≤ r ∧ r < kst c p 2 + 128) : owner p r = c := by
  have h' := owner_kst' c p
  rw [owner_div, show r / 128 = kst c p 2 / 128 by omega]; exact h'.1

/-- The whole sum, the same on every device. -/
def FIN : OIdx → F .f32 := fun i => R P 3 (owner (stripOf (i 2)) (i 1)) i

theorem R_succ (c : Dev nD) (p l : Fin 3) (i : OIdx) (h : c0 p ≤ (i 2 : ℕ) ∧ (i 2 : ℕ) < c0 p + cw p) :
    R P (l.val + 1) c i = FloatOps.addf (R P l.val c i) (R P l.val (prt c p l) i) := by
  have h2 : (i 2 : ℕ) < 1024 := (i 2).isLt
  show FloatOps.addf (R P l.val c i) (R P l.val (flip c (stripOf (i 2) + Fin.ofNat 3 l.val)) i) = _
  rw [stripOf_eq h2 h, show Fin.ofNat 3 l.val = l from by apply Fin.ext; show l.val % 3 = l.val; omega]; rfl

theorem FIN_kst (c : Dev nD) (p : Fin 3) (i : OIdx) (h : i ∈ obox (kst c p 2) (half 2) p) : FIN P i = R P 3 c i := by
  rw [mem_obox] at h
  have h2 : (i 2 : ℕ) < 1024 := (i 2).isLt
  unfold FIN
  rw [stripOf_eq h2 h.2, owner_kst c p _ h.1]

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

abbrev wqM (c : Dev nD) : Memref sig .tc .hbm S1024x1024 .f32 :=
  (Memref.whole main_arg1).slice (Rect.unit (s := S1024x8192) (k0_off1 c) S1024x1024.size (k0_off1_inb c)) (fun _ => rfl)
abbrev woM (c : Dev nD) : Memref sig .tc .hbm S1024x1024 .f32 :=
  (Memref.whole main_arg4).slice (Rect.unit (s := S8192x1024) (k0_off2 c) S1024x1024.size (k0_off2_inb c)) (fun _ => rfl)

/-- A device's part of the query weights: the columns it works on; -/
def WQ (c : Dev nD) : (cc0_scratch2 : Ref sig .tc).ty.Contents (Elt F) := (wqM c).view.read (Elt F) (m ((c : Thread nD τ).loc main_arg1))
/-- its keys and values; -/
def KC (c : Dev nD) : (cc0_scratch3 : Ref sig .tc).ty.Contents (Elt F) := m ((c : Thread nD τ).loc main_arg2)
def VC (c : Dev nD) : (cc0_scratch4 : Ref sig .tc).ty.Contents (Elt F) := m ((c : Thread nD τ).loc main_arg3)
/-- its rows of the output weights. -/
def WO (c : Dev nD) : (cc0_scratch5 : Ref sig .tc).ty.Contents (Elt F) := (woM c).view.read (Elt F) (m ((c : Thread nD τ).loc main_arg4))

/-! ## Parts of buffers -/

/-- A part of a device's output staging buffer, of its landing buffer. -/
def outP (c : Dev nD) (S : Finset OIdx) (f : OIdx → F .f32) : sProp 𝕄 :=
  (c : Thread nD τ).loc cc0_stg1_0 ↦[S]{fullShare} f
def comP (c : Dev nD) (S : Finset S3x512x1024.Idx) (f : S3x512x1024.Idx → F .f32) : sProp 𝕄 :=
  (c : Thread nD τ).loc cc0_scratch0 ↦[S]{fullShare} f

omit [FloatOps F] in
instance outP_storable (c S f) : BI.Storable (upEmb : UEmb _ 𝕄) (outP (F := F) c S f) := by unfold outP; infer_instance
omit [FloatOps F] in
instance comP_storable (c S f) : BI.Storable (upEmb : UEmb _ 𝕄) (comP (F := F) c S f) := by unfold comP; infer_instance

/-- What the neighbour of `c` along direction `q` hands it at the barrier: the parts of its landing buffer `c` writes to. -/
def barPay (c : Dev nD) (q : Fin 3) : sProp 𝕄 :=
  bigSep Finset.univ fun p : Fin 3 => iprop(∃ f, comP (flip c q) (cbox (q - p) p) f)
/-- What a reduce-scatter transfer to `c` lands: the partner's sums in its part of the landing buffer, and the partner's rows
    they came from. -/
def rsPay (c : Dev nD) (p l : Fin 3) : sProp 𝕄 :=
  iprop(comP c (cbox l p) (landed P c) ∗ ∃ f, outP (prt c p l) (obox (kst c p l) (half l) p) f)
/-- What an all-gather transfer at step `t` gives back, and what it lands. -/
def agsPay (c : Dev nD) (p t : Fin 3) : sProp 𝕄 := outP c (obox (kst c p (Fin.rev t)) (half (Fin.rev t)) p) (FIN P)
def agPay (c : Dev nD) (p t : Fin 3) : sProp 𝕄 := outP c (obox (sst c p (Fin.rev t)) (half (Fin.rev t)) p) (FIN P)

/-- What a local copy leaves: its destination filled and its source back. -/
def cpPay (c : Dev nD) : Fin 4 → sProp 𝕄
  | 0 => iprop(((c : Thread nD τ).loc cc0_scratch3 ↦{fullShare} KC m c) ∗ ((c : Thread nD τ).loc main_arg2 ↦{fullShare} m ((c : Thread nD τ).loc main_arg2)))
  | 1 => iprop(((c : Thread nD τ).loc cc0_scratch4 ↦{fullShare} VC m c) ∗ ((c : Thread nD τ).loc main_arg3 ↦{fullShare} m ((c : Thread nD τ).loc main_arg3)))
  | 2 => iprop(((c : Thread nD τ).loc cc0_scratch5 ↦{fullShare} WO m c) ∗ ((c : Thread nD τ).loc main_arg4 ↦[(woM c).view.set]{fullShare} m ((c : Thread nD τ).loc main_arg4)))
  | 3 => iprop(((c : Thread nD τ).loc cc0_scratch2 ↦{fullShare} WQ m c) ∗ ((c : Thread nD τ).loc main_arg1 ↦[(wqM c).view.set]{fullShare} m ((c : Thread nD τ).loc main_arg1)))

/-! ## Amounts -/

/-- The amount of a strip's transfer at a level, of a local copy. -/
def amtX (p l : Fin 3) : ℕ := sig.dmaCredit .tc (Kind.tc.table .vmem) (cc0_stg1_0 : Ref sig .tc).idx ⟨2, ![half l, cw p]⟩ .f32
def amtC : Fin 4 → ℕ
  | 0 => (Memref.whole cc0_scratch3 : Memref sig .tc .vmem _ _).view.dmaCredit
  | 1 => (Memref.whole cc0_scratch4 : Memref sig .tc .vmem _ _).view.dmaCredit
  | 2 => (Memref.whole cc0_scratch5 : Memref sig .tc .vmem _ _).view.dmaCredit
  | 3 => (Memref.whole cc0_scratch2 : Memref sig .tc .vmem _ _).view.dmaCredit
/-- The level an exchange of kind `k` numbered `t` moves the rows of: all-gather steps run backwards. -/
def lvl (k : Fin 4) (t : Fin 3) : Fin 3 := if k.val < 2 then t else Fin.rev t
def amtO : OI → ℕ
  | .inl i => amtC i
  | .inr (k, p, t) => amtX p (lvl k t)

theorem numel_pos2 (p l : Fin 3) : 0 < (⟨2, ![half l, cw p]⟩ : Shape).numel := by revert p l; decide
theorem amtX_pos (p l : Fin 3) : 0 < amtX p l := sig.dmaCredit_pos _ _ _ _ _ (numel_pos2 p l)
theorem amtC_pos (i : Fin 4) : 0 < amtC i := by
  fin_cases i <;> exact View.dmaCredit_pos _ (by decide)
theorem amtO_pos (o : OI) : 0 < amtO o := by
  rcases o with i | ⟨k, p, t⟩
  · exact amtC_pos i
  · exact amtX_pos _ _

/-! ## The schedule -/

def payK (c : Dev nD) : CI → Fin 3 → sProp 𝕄
  | none, q => barPay c q
  | some (.inl i), _ => cpPay m c i
  | some (.inr (0, _, _)), _ => iprop(emp)
  | some (.inr (1, p, l)), _ => rsPay P c p l
  | some (.inr (2, p, t)), _ => agsPay P c p t
  | some (.inr (3, p, t)), _ => agPay P c p t

def dutK : CI → Finset (Fin 3)
  | none => Finset.univ
  | some _ => {0}
def amtK : CI → ℕ
  | none => 1
  | some o => amtO o
theorem amtK_pos (k : CI) : 0 < amtK k := by
  rcases k with _ | o
  · exact Nat.one_pos
  · exact amtO_pos o

/-- One round: each of a device's cells has its duties at round 0 and none later. -/
def sched : Rounds.Schedule (GSem nD τ sig) (Fin 3) 𝕄 where
  duties g r := if r = 0 ∧ g.1.2 = .tc then (match dec g.2 with | some k => dutK k | none => ∅) else ∅
  unitless _ := False
  amount g _ _ := match dec g.2 with | some k => amtK k | none => 1
  payload g _ d := match dec g.2 with | some k => payK P m g.1.1 k d | none => iprop(emp)
  amount_pos g _ _ _ := by
    show 0 < (match dec g.2 with | some k => amtK k | none => 1)
    split
    · exact amtK_pos _
    · exact Nat.one_pos

instance payK_storable (c : Dev nD) (k : CI) (d : Fin 3) : BI.Storable (upEmb : UEmb _ 𝕄) (payK P m c k d) := by
  rcases k with _ | i | ⟨k, p, l⟩
  · show BI.Storable _ (barPay c d)
    unfold barPay; infer_instance
  · show BI.Storable _ (cpPay m c i)
    fin_cases i <;> (unfold cpPay; infer_instance)
  · fin_cases k
    · show BI.Storable _ (iprop(emp) : sProp 𝕄); infer_instance
    · show BI.Storable _ (rsPay P c p l); unfold rsPay; infer_instance
    · show BI.Storable _ (agsPay P c p l); unfold agsPay; infer_instance
    · show BI.Storable _ (agPay P c p l); unfold agPay; infer_instance

instance sched_storable (g : GSem nD τ sig) (r : ℕ) (d : Fin 3) : BI.Storable (upEmb : UEmb _ 𝕄) ((sched P m).payload g r d) := by
  show BI.Storable _ (match dec g.2 with | some k => payK P m g.1.1 k d | none => iprop(emp))
  split <;> infer_instance

section Facts
variable (c : Dev nD) (k : CI)

theorem duties_eq : (sched P m).duties (cell c k) 0 = dutK k := by
  show (if 0 = 0 ∧ (cell c k).1.2 = .tc then (match dec (csem k) with | some k => dutK k | none => ∅) else ∅) = _
  rw [if_pos ⟨rfl, rfl⟩, dec_csem]
theorem duties_later (g : GSem nD τ sig) : ∀ r, 1 ≤ r → (sched P m).duties g r = ∅ := fun r hr => by
  show (if r = 0 ∧ g.1.2 = .tc then _ else ∅) = _
  rw [if_neg (fun h => by omega)]
theorem amount_eq (r : ℕ) (d : Fin 3) : (sched P m).amount (cell c k) r d = amtK k := by
  show (match dec (csem k) with | some k => amtK k | none => 1) = _
  rw [dec_csem]
theorem payload_eq (r : ℕ) (d : Fin 3) : (sched P m).payload (cell c k) r d = payK P m c k d := by
  show (match dec (csem k) with | some k => payK P m c k d | none => iprop(emp)) = _
  rw [dec_csem]

theorem expect_bar : (sched P m).expect (cell c none) 0 = 3 := by
  unfold Schedule.expect Schedule.amountOf
  rw [duties_eq, Finset.sum_congr rfl fun d _ => amount_eq P m c none 0 d]; rfl
theorem expect_own (o : OI) : (sched P m).expect (cell c (some o)) 0 = amtO o := by
  unfold Schedule.expect Schedule.amountOf
  rw [duties_eq]
  show ∑ d ∈ ({0} : Finset (Fin 3)), _ = _
  rw [Finset.sum_singleton, amount_eq]; rfl
theorem rest_own (o : OI) : bigSep ((sched P m).duties (cell c (some o)) 0 \ ∅) (fun d => (sched P m).payload (cell c (some o)) 0 d) = payK P m c (some o) 0 := by
  rw [Finset.sdiff_empty, duties_eq]
  show bigSep ({0} : Finset (Fin 3)) _ = _
  rw [bigSep_singleton, payload_eq]
theorem rest_bar : bigSep ((sched P m).duties (cell c none) 0 \ ∅) (fun d => (sched P m).payload (cell c none) 0 d)
    = iprop(barPay c 0 ∗ barPay c 1 ∗ barPay c 2) := by
  rw [Finset.sdiff_empty, duties_eq]
  show bigSep (Finset.univ : Finset (Fin 3)) _ = _
  rw [bigSep_univ_eq_bigSepL [0, 1, 2] (by decide) (by decide), bigSepL_cons_cons, bigSepL_cons_cons, bigSepL_singleton, payload_eq, payload_eq, payload_eq]
  rfl
end Facts

/-! ## What each device owes; the levels -/

/-- The strip of the `j`-th transfer in program order, its level or step, whether it is one of the all-gather, and the
    device it goes to. -/
def trK (j : ℕ) : Fin 4 := if j < 9 then 1 else 3
def trP (j : ℕ) : Fin 3 := Fin.ofNat 3 j
def trT (j : ℕ) : Fin 3 := Fin.ofNat 3 (j / 3)
def trO (j : ℕ) : OI := .inr (trK j, trP j, trT j)
def trD (c : Dev nD) (j : ℕ) : Dev nD := prt c (trP j) (lvl (trK j) (trT j))

/-- What the `j`-th transfer pays; what a device still owes when the first `n` are issued. -/
def term (c : Dev nD) (j : ℕ) : CellTallies nD τ sig Unit := tallyAt (cell (trD c j) (some (trO j))) () (amtO (trO j))
def debt (c : Dev nD) (n : ℕ) : CellTallies nD τ sig Unit := ∑ j ∈ Finset.Ico n 18, term c j

theorem debt_step (c : Dev nD) {n : ℕ} (h : n < 18) : debt c n = debt c (n + 1) + term c n := by
  have : Finset.Ico n 18 = insert n (Finset.Ico (n + 1) 18) := by ext x; simp only [Finset.mem_Ico, Finset.mem_insert]; omega
  unfold debt; rw [this, Finset.sum_insert (by simp), add_comm]
theorem debt_end (c : Dev nD) : debt c 18 = 0 := by unfold debt; rw [Finset.Ico_self, Finset.sum_empty]

/-- At launch the three barrier units besides, in the order the signals pay them. -/
def debt2 (c : Dev nD) : CellTallies nD τ sig Unit := debt c 0 + tallyAt (cell (flip c 2) none) () 1
def debt1 (c : Dev nD) : CellTallies nD τ sig Unit := debt2 c + tallyAt (cell (flip c 1) none) () 1
def O₀ (c : Dev nD) : CellTallies nD τ sig Unit := debt1 c + tallyAt (cell (flip c 0) none) () 1

def L (g : GSem nD τ sig) : Finset Unit := if g.1.2 = .tc then {()} else ∅
def lvK : CI → ℕ
  | none => 1
  | some (.inr (1, p, l)) => 2 + (3 * l.val + p.val)
  | some (.inr (3, p, t)) => 11 + (3 * t.val + p.val)
  | _ => 0
/-- The barrier below every receive cell, these in the order of the transfers, everything else below. -/
def lv (g : GSem nD τ sig) (_ : Unit) : ℕ := match dec g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CI) : lv (cell c k) () = lvK k := by
  show (match dec (csem k) with | some k => lvK k | none => 0) = _
  rw [dec_csem]
theorem lv_tr : ∀ j : Fin 18, lvK (some (trO j.val)) = 2 + j.val := by decide

theorem debt_pos {c : Dev nD} {n : ℕ} {g : GSem nD τ sig} {u : Unit} (h : 0 < debt c n g u) :
    ∃ c' k, g = cell c' k ∧ 2 + n ≤ lvK k := by
  unfold debt at h
  rw [Finset.sum_apply, Finsupp.finset_sum_apply] at h
  obtain ⟨j, hj, hpos⟩ := Finset.exists_ne_zero_of_sum_ne_zero h.ne'
  rw [Finset.mem_Ico] at hj
  unfold term at hpos
  rw [tallyAt_apply] at hpos
  have hg : g = cell (trD c j) (some (trO j)) := by
    by_contra hne; rw [if_neg (fun h' => hne h'.1)] at hpos; exact hpos rfl
  exact ⟨_, _, hg, by rw [lv_tr ⟨j, hj.2⟩]; show 2 + n ≤ 2 + j; omega⟩

theorem O₀_pos {c : Dev nD} {g : GSem nD τ sig} {u : Unit} (h : 0 < O₀ c g u) : ∃ c' k, g = cell c' k ∧ 1 ≤ lvK k := by
  unfold O₀ debt1 debt2 at h
  simp only [Pi.add_apply, Finsupp.add_apply, tallyAt_apply] at h
  by_cases h0 : g = cell (flip c 0) none
  · exact ⟨_, _, h0, Nat.le_refl _⟩
  by_cases h1 : g = cell (flip c 1) none
  · exact ⟨_, _, h1, Nat.le_refl _⟩
  by_cases h2 : g = cell (flip c 2) none
  · exact ⟨_, _, h2, Nat.le_refl _⟩
  simp only [h0, h1, h2, false_and, if_false, add_zero] at h
  obtain ⟨c', k, hg, hk⟩ := debt_pos h
  exact ⟨c', k, hg, by omega⟩

omit [FloatOps F] in
/-- A device may wait on a cell of a level below those of all it owes. -/
theorem mayWait_of (c : Dev nD) (sm : SemLoc sig) (O : CellTallies nD τ sig Unit) (n : ℕ) (hs : lv ((c : Thread nD τ), sm) () ≤ n)
    (hO : ∀ g u, 0 < O g u → ∃ c' k, g = cell c' k ∧ n < lvK k) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨c', k, rfl, _⟩ := hO g u hg; exact Finset.mem_singleton_self _)
    (fun p hp => by rw [Finset.mem_singleton.mp hp]; exact hs)
    (fun g u hg => by obtain ⟨c', k, rfl, hk⟩ := hO g u hg; cases u; rw [lv_cell]; exact hk)

omit [FloatOps F] in
theorem mayWait_debt (c : Dev nD) (k : CI) (n : ℕ) (h : lvK k < 2 + n) : (levAts L lv : sProp 𝕄) ⊢ MayWait (c : Thread nD τ) (csem k) () (debt c n) :=
  mayWait_of c (csem k) _ (lvK k) (lv_cell c k).le fun g u hg => by
    obtain ⟨c', k', hg', hk⟩ := debt_pos hg; exact ⟨c', k', hg', by omega⟩

end Cert.Strips
end
-- ==== Proof.Steps.lean ====
/-
# `Steps`: the effects of the exchanges, one lemma each

Each lemma says what one effect, at any strip and level, makes of what the device holds.
-/
module

public import proofs.«01_k».proof.Proof.Sched

@[expose] public section

noncomputable section

namespace Cert.Strips

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → OIdx → F .f32) (m : (ℓ : Loc nD τ sig) → Buf (Elt F) ℓ) (K : Dev nD × CI → ℕ)

/-! ## What every device knows -/

/-- Every cell's invariant, that its round 0 is reached, and the levels. -/
def recs : sProp 𝕄 :=
  iprop(bigSep Finset.univ (fun ck : Dev nD × CI => iprop(cellInv ER (sched P m) (K ck) (kcell ck) ∗ reached ER (kcell ck) 0)) ∗ levAts L lv)

instance recs_persistent : BI.Persistent (recs P m K) := by unfold recs; infer_instance

theorem recs_at (c : Dev nD) (k : CI) :
    (bigSep Finset.univ (fun ck : Dev nD × CI => iprop(cellInv ER (sched P m) (K ck) (kcell ck) ∗ reached ER (kcell ck) 0)) : sProp 𝕄)
      ⊢ iprop(cellInv ER (sched P m) (K (c, k)) (cell c k) ∗ reached ER (cell c k) 0) := bigSep_elim (Finset.mem_univ (c, k))
theorem recs_inv (c : Dev nD) (k : CI) : recs P m K ⊢ cellInv ER (sched P m) (K (c, k)) (cell c k) := by
  unfold recs
  iintro ⟨H, -⟩
  ihave H' := (recs_at P m K c k) $$ H
  icases H' with ⟨H', -⟩
  iexact H'
theorem recs_reached (c : Dev nD) (k : CI) : recs P m K ⊢ reached ER (cell c k) 0 := by
  unfold recs
  iintro ⟨H, -⟩
  ihave H' := (recs_at P m K c k) $$ H
  icases H' with ⟨-, H'⟩
  iexact H'
theorem recs_lev : recs P m K ⊢ levAts L lv := by
  unfold recs; iintro ⟨-, H⟩; iexact H

/-- A device owes, whatever it has waited on. -/
def Ow (c : Dev nD) (O : CellTallies nD τ sig Unit) : sProp 𝕄 := iprop(∃ W, owes (c : Thread nD τ) O W)

abbrev wpc (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

/-- The wait on an own semaphore: its payload comes, and it closes. -/
theorem wait_own (c : Dev nD) (o : OI) (n : ℕ) (hlev : lvK (some o) < 2 + n) {sp sp' : Space} {s s' : Shape} {e e' : EltTy} {sem : DmaSem sig}
    {src : Memref sig .tc sp' s' e'} {dst : Memref sig .tc sp s e} {hsrc : src.view.WordExact} {hdst : dst.view.WordExact}
    (hs : SemLoc.dma sem = osem o) (hN : dst.view.dmaCredit = amtO o)
    {α : Type} {Q : α → sProp 𝕄} {k : PUnit → Prog (TpuEff nD τ sig (Elt F) Λ₀ .tc) α} :
    recs P m K ⊢ iprop(cred (tallyAt (cell c (some o)) () (amtO o)) -∗ Ow c (debt c n) -∗ atPos ER (cell c (some o)) 0 ∅ 0
      -∗ ((Ow c (debt c n) ∗ semVal (cell c (some o)) 0 ∗ payK P m c (some o) 0) -∗ wpc c (k ⟨⟩) Q)
      -∗ wpc c (.op (.waitDma2 sem src dst hsrc hdst) k) Q) := by
  have hc : cell c (some o) = ((c : Thread nD τ), SemLoc.dma sem) := by rw [hs]
  have hexp : 0 + dst.view.dmaCredit = (sched P m).expect ((c : Thread nD τ), SemLoc.dma sem) 0 := by
    rw [Nat.zero_add, hN, ← hc, expect_own]
  iintro #Hrec Hc HO Hat Hk
  unfold Ow
  icases HO with ⟨%W, HO⟩
  ihave #HI := (recs_inv P m K c (some o)) $$ Hrec
  ihave #Hlev := (recs_lev P m K) $$ Hrec
  ihave Hmw := (mayWait_debt c (some o) n hlev) $$ Hlev
  rw [← rest_own P m c o, hc, ← hN, show csem (some o) = SemLoc.dma sem from hs.symm]
  iapply (Rounds.wp_wait_rest_token 𝒱₀ ER (sched P m) (c : Thread nD τ) none (κ := K (c, some o))
      (wpE_waitDma2_eq 𝒱₀ (c : Thread nD τ) none Set.univ) (Set.mem_univ _) () (O := debt c n) (W := W) (R := 0) (m := 0) (T := ∅) hexp) $$ [Hc HO Hat Hmw]
  · isplitr; · iexact HI
    isplitl [Hc]; · iexact Hc
    isplitl [HO]; · iexact HO
    isplitl [Hmw]; · iexact Hmw
    iexact Hat
  iintro ⟨HO, Hat, -, Hpay⟩
  imod (Rounds.cell_close ER (sched P m) (Set.mem_univ (K (c, some o))) (fun h => h) (R := 0 + 1) (duties_later P m ((c : Thread nD τ), SemLoc.dma sem))) $$ [Hat] with Hz
  · isplitr; · iexact HI
    iexact Hat
  iapply Hk
  isplitl [HO]; · iexists _; iexact HO
  isplitl [Hz]; · iexact Hz
  iexact Hpay

/-! ## Values through views -/

section Values
variable {c : Dev nD} {p l : Fin 3}

abbrev oSz (p l : Fin 3) : Fin 3 → ℕ := ![1, half l, cw p]
abbrev oRect {off : Fin 3 → ℕ} (p l : Fin 3) (inb : ∀ a, off a + oSz p l a ≤ S1x1024x1024.size a) : Rect S1x1024x1024 :=
  Rect.unit (s := S1x1024x1024) off (oSz p l) inb
abbrev cRect {off : Fin 3 → ℕ} (p l : Fin 3) (inb : ∀ a, off a + oSz p l a ≤ S3x512x1024.size a) : Rect S3x512x1024 :=
  Rect.unit (s := S3x512x1024) off (oSz p l) inb
abbrev sq2 (p l : Fin 3) : Shape := ⟨2, ![half l, cw p]⟩
abbrev oW : Memref sig .tc .vmem S1x1024x1024 .f32 := Memref.whole cc0_stg1_0
abbrev cW : Memref sig .tc .vmem S3x512x1024 .f32 := Memref.whole cc0_scratch0
/-- A box of the output staging buffer, of the landing buffer, its unit axis dropped: what the transfers move. -/
abbrev oMem {off : Fin 3 → ℕ} (p l : Fin 3) (inb : ∀ a, off a + oSz p l a ≤ S1x1024x1024.size a)
    (sq : (⟨3, oSz p l⟩ : Shape).Squeezes (sq2 p l)) : Memref sig .tc .vmem (sq2 p l) .f32 :=
  ((Memref.whole cc0_stg1_0 : Memref sig .tc .vmem S1x1024x1024 .f32).slice (oRect p l inb) (fun _ => rfl)).squeeze (sq2 p l) sq
abbrev cMem {off : Fin 3 → ℕ} (p l : Fin 3) (inb : ∀ a, off a + oSz p l a ≤ S3x512x1024.size a)
    (sq : (⟨3, oSz p l⟩ : Shape).Squeezes (sq2 p l)) : Memref sig .tc .vmem (sq2 p l) .f32 :=
  ((Memref.whole cc0_scratch0 : Memref sig .tc .vmem S3x512x1024 .f32).slice (cRect p l inb) (fun _ => rfl)).squeeze (sq2 p l) sq

omit [FloatOps F] in
theorem oMem_set {r : ℕ} (inb sq) : (oMem (off := ![0, r, c0 p]) p l inb sq).view.set = obox r (half l) p := set_sq cc0_stg1_0 inb _ _ sq
omit [FloatOps F] in
theorem cMem_set (inb sq) : (cMem (off := ![l.val, 0, c0 p]) p l inb sq).view.set = cbox l p := set_sq cc0_scratch0 inb _ _ sq

omit [FloatOps F] in
theorem amt_o {r : ℕ} (inb sq) : (oMem (off := ![0, r, c0 p]) p l inb sq).view.dmaCredit = amtX p l := rfl
omit [FloatOps F] in
theorem amt_c (inb sq) : (cMem (off := ![l.val, 0, c0 p]) p l inb sq).view.dmaCredit = amtX p l := rfl

/-- What lands in the partner's landing buffer. -/
theorem landed_vals (inb inbc sq sq') (fd : S3x512x1024.Idx → F .f32) :
    ∀ i ∈ cbox l p, (cMem (off := ![l.val, 0, c0 p]) p l inbc sq').view.write (Elt F) fd
      ((oMem (off := ![0, sst c p l, c0 p]) p l inb sq).view.read (Elt F) (R P l.val c)) Finset.univ i = landed P (prt c p l) i := by
  intro i hi
  have hi' : i ∈ (cRect (off := ![l.val, 0, c0 p]) p l inbc).set := by rw [unit_set]; exact hi
  obtain ⟨x, rfl⟩ := (cRect (off := ![l.val, 0, c0 p]) p l inbc).exists_idx_of_mem hi'
  have h := congrFun (read_write_sq (Val := Elt F) ((Memref.whole cc0_stg1_0 : Memref sig .tc .vmem S1x1024x1024 .f32).slice (oRect (off := ![0, sst c p l, c0 p]) p l inb) (fun _ => rfl)).view
    ((Memref.whole cc0_scratch0 : Memref sig .tc .vmem S3x512x1024 .f32).slice (cRect (off := ![l.val, 0, c0 p]) p l inbc) (fun _ => rfl)).view
    sq.numel_eq sq'.numel_eq (R P l.val c) fd) x
  refine h.trans ?_
  show R P l.val c ((oRect p l inb).idx x) = landed P (prt c p l) ((cRect p l inbc).idx x)
  have hx0 : (x 0).val = 0 := by have : (x 0).val < 1 := (x 0).isLt; omega
  have e0 : (cRect p l inbc).idx x 0 = l := by
    apply Fin.ext; show l.val + 1 * (x 0).val = l.val; omega
  have e1 : ((cRect p l inbc).idx x 1).val = (x 1).val := by
    show 0 + 1 * (x 1).val = _; omega
  have e2 : ((cRect p l inbc).idx x 2).val = c0 p + (x 2).val := by
    show c0 p + 1 * (x 2).val = _; omega
  have hs : stripOf ((cRect p l inbc).idx x 2).val = p := stripOf_eq ((cRect p l inbc).idx x 2).isLt (by
    rw [e2]; have : (x 2).val < cw p := (x 2).isLt; omega)
  unfold landed
  rw [hs, e0, e1, prt_prt, oidx_eq ((oRect p l inb).idx x)]
  · show sst c p l + 1 * (x 1).val = sst c p l + (x 1).val; omega
  · rw [e2]; show c0 p + 1 * (x 2).val = c0 p + (x 2).val; omega

omit [FloatOps F] in
/-- A transfer to the same rows leaves the source's values. -/
theorem same_vals {r : ℕ} (inb inb' sq sq') (fs fd : OIdx → F .f32) :
    ∀ i ∈ obox r (half l) p, (oMem (off := ![0, r, c0 p]) p l inb' sq').view.write (Elt F) fd
      ((oMem (off := ![0, r, c0 p]) p l inb sq).view.read (Elt F) fs) Finset.univ i = fs i := by
  intro i hi
  have hi' : i ∈ (oRect (off := ![0, r, c0 p]) p l inb).set := by rw [unit_set]; exact hi
  obtain ⟨x, rfl⟩ := (oRect (off := ![0, r, c0 p]) p l inb).exists_idx_of_mem hi'
  exact congrFun (read_write_sq (Val := Elt F) ((Memref.whole cc0_stg1_0 : Memref sig .tc .vmem S1x1024x1024 .f32).slice (oRect (off := ![0, r, c0 p]) p l inb) (fun _ => rfl)).view
    ((Memref.whole cc0_stg1_0 : Memref sig .tc .vmem S1x1024x1024 .f32).slice (oRect (off := ![0, r, c0 p]) p l inb') (fun _ => rfl)).view
    sq.numel_eq sq'.numel_eq fs fd) x

end Values

/-! ## What a device holds of an exchange -/

abbrev oS (p l : Fin 3) : OI := .inr (0, p, l)
abbrev oR (p l : Fin 3) : OI := .inr (1, p, l)
abbrev oA (p t : Fin 3) : OI := .inr (2, p, t)
abbrev oG (p t : Fin 3) : OI := .inr (3, p, t)
abbrev tok (c : Dev nD) (o : OI) : sProp 𝕄 := dutyTok ER (cell c (some o)) 0 0
abbrev at0 (c : Dev nD) (o : OI) : sProp 𝕄 := atPos ER (cell c (some o)) 0 ∅ 0
abbrev crd (c : Dev nD) (o : OI) : sProp 𝕄 := cred (tallyAt (cell c (some o)) () (amtO o))
abbrev zer (c : Dev nD) (o : OI) : sProp 𝕄 := semVal (cell c (some o)) 0

/-- Of a level of a strip's reduce-scatter: before the transfer, when it is issued, when its send is waited for, when its
    partner's has landed, when what landed is added, and when the partner's rows are handed back. -/
def rsSt (c : Dev nD) (p l : Fin 3) : ℕ → sProp 𝕄
  | 0 => iprop(tok c (oS p l) ∗ tok (prt c p l) (oR p l) ∗ at0 c (oS p l) ∗ at0 c (oR p l) ∗ crd c (oR p l) ∗ ∃ f, comP (prt c p l) (cbox l p) f)
  | 1 => iprop(at0 c (oS p l) ∗ at0 c (oR p l) ∗ crd c (oR p l) ∗ crd c (oS p l))
  | 2 => iprop(zer c (oS p l) ∗ at0 c (oR p l) ∗ crd c (oR p l))
  | 3 => iprop(zer c (oS p l) ∗ zer c (oR p l) ∗ comP c (cbox l p) (landed P c) ∗ ∃ f, outP (prt c p l) (obox (kst c p l) (half l) p) f)
  | 4 => iprop(zer c (oS p l) ∗ zer c (oR p l) ∗ (∃ f, comP c (cbox l p) f) ∗ ∃ f, outP (prt c p l) (obox (kst c p l) (half l) p) f)
  | _ => iprop(zer c (oS p l) ∗ zer c (oR p l) ∗ ∃ f, comP c (cbox l p) f)
/-- Of a step of its all-gather: before the transfer, when it is issued, when its send is waited for, when its partner's has
    landed. -/
def agSt (c : Dev nD) (p t : Fin 3) : ℕ → sProp 𝕄
  | 0 => iprop(tok c (oA p t) ∗ tok (prt c p (Fin.rev t)) (oG p t) ∗ at0 c (oA p t) ∗ at0 c (oG p t) ∗ crd c (oG p t))
  | 1 => iprop(at0 c (oA p t) ∗ at0 c (oG p t) ∗ crd c (oG p t) ∗ crd c (oA p t))
  | 2 => iprop(zer c (oA p t) ∗ at0 c (oG p t) ∗ crd c (oG p t))
  | _ => iprop(zer c (oA p t) ∗ zer c (oG p t))

/-- A device's rows at a level: those it keeps, those it sends. -/
abbrev kept (c : Dev nD) (p l : Fin 3) (f : OIdx → F .f32) : sProp 𝕄 := outP c (obox (kst c p l) (half l) p) f
abbrev sent (c : Dev nD) (p l : Fin 3) (f : OIdx → F .f32) : sProp 𝕄 := outP c (obox (sst c p l) (half l) p) f

/-! ## The exchanges -/

theorem tr_rs : ∀ p l : Fin 3, trK (3 * l.val + p.val) = 1 ∧ trP (3 * l.val + p.val) = p ∧ trT (3 * l.val + p.val) = l ∧ 3 * l.val + p.val < 18 := by decide
theorem tr_ag : ∀ p t : Fin 3, trK (9 + (3 * t.val + p.val)) = 3 ∧ trP (9 + (3 * t.val + p.val)) = p ∧ trT (9 + (3 * t.val + p.val)) = t ∧ 9 + (3 * t.val + p.val) < 18 := by decide
theorem term_rs (c : Dev nD) (p l : Fin 3) : term c (3 * l.val + p.val) = tallyAt (cell (prt c p l) (some (oR p l))) () (amtX p l) := by
  obtain ⟨h1, h2, h3, -⟩ := tr_rs p l
  unfold term trD trO; rw [h1, h2, h3]; rfl
theorem term_ag (c : Dev nD) (p t : Fin 3) : term c (9 + (3 * t.val + p.val)) = tallyAt (cell (prt c p (Fin.rev t)) (some (oG p t))) () (amtX p (Fin.rev t)) := by
  obtain ⟨h1, h2, h3, -⟩ := tr_ag p t
  unfold term trD trO; rw [h1, h2, h3]; rfl

variable {α : Type} {Q : α → sProp (MT nD τ sig Unit (Elt F) ℕ UU ℕ)} {k : PUnit → Prog (TpuEff nD τ sig (Elt F) Λ₀ .tc) α}

theorem own_mem (c : Dev nD) (o : OI) : (0 : Fin 3) ∈ (sched P m).duties (cell c (some o)) 0 := by
  rw [duties_eq]; exact Finset.mem_singleton_self _

/-- A reduce-scatter transfer. -/
theorem rs_send' (c : Dev nD) (p l : Fin 3) {off offc : Fin 3 → ℕ} (hoff : off = ![0, sst c p l, c0 p]) (hoffc : offc = ![l.val, 0, c0 p])
    {d' : Dev nD} (hd : d' = prt c p l) {semS semR : DmaSem sig} (hS : SemLoc.dma semS = osem (oS p l)) (hR : SemLoc.dma semR = osem (oR p l))
    {inb inbc sq sq'} {hsc : (cMem (off := offc) p l inbc sq').view.ref.isScScratch = false}
    {hsrc : (oMem (off := off) p l inb sq).view.WordExact} {hdst : (cMem (off := offc) p l inbc sq').view.WordExact}
    {hsem : DmaTarget.Typed .vmem (.dma semR) (.remote (Dev.tc d' : Thread nD τ) (cMem (off := offc) p l inbc sq') (.dma semS) hsc)} :
    recs P m K ⊢ iprop(sent c p l (R P l.val c) -∗ rsSt P c p l 0 -∗ Ow c (debt c (3 * l.val + p.val))
      -∗ ((rsSt P c p l 1 ∗ Ow c (debt c (3 * l.val + p.val + 1))) -∗ wpc c (k ⟨⟩) Q)
      -∗ wpc c (.op (.enqueueDma (oMem (off := off) p l inb sq) (.remote (Dev.tc d' : Thread nD τ) (cMem (off := offc) p l inbc sq') (.dma semS) hsc) (.dma semR) hsrc hdst hsem) k) Q) := by
  subst hoff hoffc hd
  obtain ⟨-, -, -, hlt⟩ := tr_rs p l
  have hcS : cell c (some (oS p l)) = ((c : Thread nD τ), SemLoc.dma semS) := by rw [hS]
  have hcR : cell (prt c p l) (some (oR p l)) = ((Dev.tc (prt c p l) : Thread nD τ), SemLoc.dma semR) := by rw [hR]
  iintro #Hrec Ho Hst HO Hk
  simp only [rsSt]
  unfold Ow
  icases HO with ⟨%W, HO⟩
  icases Hst with ⟨HtS, HtR, HaS, HaR, HcR, ⟨%fd, Hcom⟩⟩
  ihave #HIS := (recs_inv P m K c (some (oS p l))) $$ Hrec
  ihave #HIR := (recs_inv P m K (prt c p l) (some (oR p l))) $$ Hrec
  ihave #HrS := (recs_reached P m K c (some (oS p l))) $$ Hrec
  ihave #HrR := (recs_reached P m K (prt c p l) (some (oR p l))) $$ Hrec
  unfold sent outP comP
  iapply (Rounds.wp_send_landing_pointsTo 𝒱₀ ER (sched P m) (c : Thread nD τ) none (c' := (Dev.tc (prt c p l) : Thread nD τ))
      (src := oMem (off := ![0, sst c p l, c0 p]) p l inb sq) (dst := cMem (off := ![l.val, 0, c0 p]) p l inbc sq') (sS := .dma semS) (sem := .dma semR)
      (κ₁ := K (c, some (oS p l))) (κ₂ := K (prt c p l, some (oR p l))) (q := fullShare) (fs := R P l.val c) (fd := fd)
      (r₁ := 0) (r₂ := 0) (d₁ := 0) (d₂ := 0) (O₀ := debt c (3 * l.val + p.val)) (W := W)
      (by rw [← hcS]; exact own_mem P m c _) (by rw [← hcR]; exact own_mem P m _ _) () () (amtX p l)
      rfl (by rw [← hcS, amount_eq]; rfl) (by rw [← hcR, amount_eq]; rfl) (debt c (3 * l.val + p.val + 1))
      (by rw [debt_step c hlt, term_rs, hcR])
      (by rw [← hcS, payload_eq]; exact BI.Entails.refl _)
      (by
        rw [← hcR, payload_eq]
        show _ ⊢ rsPay P (prt c p l) p l
        unfold rsPay outP comP
        rw [oMem_set, cMem_set, prt_prt, pointsTo_congr (landed_vals P (c := c) inb inbc sq sq' fd)]
        iintro ⟨Hd, Hs⟩
        isplitl [Hd]; · iexact Hd
        iexists _; iexact Hs))
    $$ [Ho Hcom HO HtS HtR]
  · rw [← hcS, ← hcR, oMem_set, cMem_set]
    isplitr; · iexact HIS
    isplitr; · iexact HIR
    isplitl [Ho]; · iexact Ho
    isplitl [Hcom]; · iexact Hcom
    isplitl [HO]; · iexact HO
    isplitl [HtS]; · iexact HtS
    isplitr; · iexact HrS
    isplitl [HtR]; · iexact HtR
    iexact HrR
  rw [← hcS]
  iintro ⟨HcS, HO⟩
  iapply Hk
  isplitl [HaS HaR HcR HcS]
  · isplitl [HaS]; · iexact HaS
    isplitl [HaR]; · iexact HaR
    isplitl [HcR]; · iexact HcR
    iexact HcS
  iexists _; iexact HO

/-- An all-gather transfer. -/
theorem ag_send' (c : Dev nD) (p t l : Fin 3) (hl : l = Fin.rev t) {off : Fin 3 → ℕ} (hoff : off = ![0, kst c p l, c0 p])
    {d' : Dev nD} (hd : d' = prt c p l) {semS semR : DmaSem sig} (hS : SemLoc.dma semS = osem (oA p t)) (hR : SemLoc.dma semR = osem (oG p t))
    {inb inb' sq sq'} {hsc : (oMem (off := off) p l inb' sq').view.ref.isScScratch = false}
    {hsrc : (oMem (off := off) p l inb sq).view.WordExact} {hdst : (oMem (off := off) p l inb' sq').view.WordExact}
    {hsem : DmaTarget.Typed .vmem (.dma semR) (.remote (Dev.tc d' : Thread nD τ) (oMem (off := off) p l inb' sq') (.dma semS) hsc)} :
    recs P m K ⊢ iprop(kept c p l (FIN P) -∗ rsSt P c p l 4 -∗ agSt c p t 0 -∗ Ow c (debt c (9 + (3 * t.val + p.val)))
      -∗ ((rsSt P c p l 5 ∗ agSt c p t 1 ∗ Ow c (debt c (9 + (3 * t.val + p.val) + 1))) -∗ wpc c (k ⟨⟩) Q)
      -∗ wpc c (.op (.enqueueDma (oMem (off := off) p l inb sq) (.remote (Dev.tc d' : Thread nD τ) (oMem (off := off) p l inb' sq') (.dma semS) hsc) (.dma semR) hsrc hdst hsem) k) Q) := by
  subst hoff hd hl
  obtain ⟨-, -, -, hlt⟩ := tr_ag p t
  have hcS : cell c (some (oA p t)) = ((c : Thread nD τ), SemLoc.dma semS) := by rw [hS]
  have hcR : cell (prt c p (Fin.rev t)) (some (oG p t)) = ((Dev.tc (prt c p (Fin.rev t)) : Thread nD τ), SemLoc.dma semR) := by rw [hR]
  iintro #Hrec Ho Hst Hag HO Hk
  simp only [rsSt, agSt]
  unfold Ow
  icases HO with ⟨%W, HO⟩
  icases Hst with ⟨Hz1, Hz2, Hcom, ⟨%fd, Hd⟩⟩
  icases Hag with ⟨HtS, HtR, HaS, HaR, HcR⟩
  ihave #HIS := (recs_inv P m K c (some (oA p t))) $$ Hrec
  ihave #HIR := (recs_inv P m K (prt c p (Fin.rev t)) (some (oG p t))) $$ Hrec
  ihave #HrS := (recs_reached P m K c (some (oA p t))) $$ Hrec
  ihave #HrR := (recs_reached P m K (prt c p (Fin.rev t)) (some (oG p t))) $$ Hrec
  unfold kept outP
  iapply (Rounds.wp_send_pointsTo 𝒱₀ ER (sched P m) (c : Thread nD τ) none (c' := (Dev.tc (prt c p (Fin.rev t)) : Thread nD τ))
      (src := oMem (off := ![0, kst c p (Fin.rev t), c0 p]) p (Fin.rev t) inb sq) (dst := oMem (off := ![0, kst c p (Fin.rev t), c0 p]) p (Fin.rev t) inb' sq') (sS := .dma semS) (sem := .dma semR)
      (κ₁ := K (c, some (oA p t))) (κ₂ := K (prt c p (Fin.rev t), some (oG p t))) (q := fullShare) (fs := FIN P) (fd := fd)
      (r₁ := 0) (r₂ := 0) (d₁ := 0) (d₂ := 0) (O₀ := debt c (9 + (3 * t.val + p.val))) (W := W)
      (by rw [← hcS]; exact own_mem P m c _) (by rw [← hcR]; exact own_mem P m _ _) () () (amtX p (Fin.rev t))
      rfl (by rw [← hcS, amount_eq]; rfl) (by rw [← hcR, amount_eq]; rfl) (debt c (9 + (3 * t.val + p.val) + 1))
      (by rw [debt_step c hlt, term_ag, hcR])
      (by
        rw [← hcS, payload_eq, oMem_set]
        show _ ⊢ agsPay P c p t
        unfold agsPay outP; exact BI.Entails.refl _)
      (by
        rw [← hcR, payload_eq, oMem_set]
        show _ ⊢ agPay P (prt c p (Fin.rev t)) p t
        unfold agPay outP
        rw [sst_prt]; rw [pointsTo_congr (same_vals inb inb' sq sq' (FIN P) fd)]))
    $$ [Ho Hd HO HtS HtR]
  · rw [← hcS, ← hcR, oMem_set]
    isplitr; · iexact HIS
    isplitr; · iexact HIR
    isplitl [Ho]; · iexact Ho
    isplitl [Hd]; · iexact Hd
    isplitl [HO]; · iexact HO
    isplitl [HtS]; · iexact HtS
    isplitr; · iexact HrS
    isplitl [HtR]; · iexact HtR
    iexact HrR
  rw [← hcS]
  iintro ⟨HcS, HO⟩
  iapply Hk
  isplitl [Hz1 Hz2 Hcom]
  · isplitl [Hz1]; · iexact Hz1
    isplitl [Hz2]; · iexact Hz2
    iexact Hcom
  isplitl [HaS HaR HcR HcS]
  · isplitl [HaS]; · iexact HaS
    isplitl [HaR]; · iexact HaR
    isplitl [HcR]; · iexact HcR
    iexact HcS
  iexists _; iexact HO

/-- The same, its numbers given. -/
theorem rs_send (c : Dev nD) (p l : Fin 3) (a N N' : ℕ) (ha : a = l.val) (hN : N = 3 * l.val + p.val) (hN' : N' = N + 1) {off offc : Fin 3 → ℕ} (hoff : off = ![0, sst c p l, c0 p]) (hoffc : offc = ![l.val, 0, c0 p])
    {d' : Dev nD} (hd : d' = prt c p l) {semS semR : DmaSem sig} (hS : SemLoc.dma semS = osem (oS p l)) (hR : SemLoc.dma semR = osem (oR p l))
    {inb inbc sq sq'} {hsc : (cMem (off := offc) p l inbc sq').view.ref.isScScratch = false}
    {hsrc : (oMem (off := off) p l inb sq).view.WordExact} {hdst : (cMem (off := offc) p l inbc sq').view.WordExact}
    {hsem : DmaTarget.Typed .vmem (.dma semR) (.remote (Dev.tc d' : Thread nD τ) (cMem (off := offc) p l inbc sq') (.dma semS) hsc)} :
    recs P m K ⊢ iprop(sent c p l (R P a c) -∗ rsSt P c p l 0 -∗ Ow c (debt c N)
      -∗ ((rsSt P c p l 1 ∗ Ow c (debt c N')) -∗ wpc c (k ⟨⟩) Q)
      -∗ wpc c (.op (.enqueueDma (oMem (off := off) p l inb sq) (.remote (Dev.tc d' : Thread nD τ) (cMem (off := offc) p l inbc sq') (.dma semS) hsc) (.dma semR) hsrc hdst hsem) k) Q) := by
  subst ha hN' hN
  exact rs_send' P m K c p l hoff hoffc hd hS hR

/-- The same, its numbers given. -/
theorem ag_send (c : Dev nD) (p t l : Fin 3) (N N' : ℕ) (hN : N = 9 + (3 * t.val + p.val)) (hN' : N' = N + 1) (hl : l = Fin.rev t) {off : Fin 3 → ℕ} (hoff : off = ![0, kst c p l, c0 p])
    {d' : Dev nD} (hd : d' = prt c p l) {semS semR : DmaSem sig} (hS : SemLoc.dma semS = osem (oA p t)) (hR : SemLoc.dma semR = osem (oG p t))
    {inb inb' sq sq'} {hsc : (oMem (off := off) p l inb' sq').view.ref.isScScratch = false}
    {hsrc : (oMem (off := off) p l inb sq).view.WordExact} {hdst : (oMem (off := off) p l inb' sq').view.WordExact}
    {hsem : DmaTarget.Typed .vmem (.dma semR) (.remote (Dev.tc d' : Thread nD τ) (oMem (off := off) p l inb' sq') (.dma semS) hsc)} :
    recs P m K ⊢ iprop(kept c p l (FIN P) -∗ rsSt P c p l 4 -∗ agSt c p t 0 -∗ Ow c (debt c N)
      -∗ ((rsSt P c p l 5 ∗ agSt c p t 1 ∗ Ow c (debt c N')) -∗ wpc c (k ⟨⟩) Q)
      -∗ wpc c (.op (.enqueueDma (oMem (off := off) p l inb sq) (.remote (Dev.tc d' : Thread nD τ) (oMem (off := off) p l inb' sq') (.dma semS) hsc) (.dma semR) hsrc hdst hsem) k) Q) := by
  subst hN' hN
  exact ag_send' P m K c p t l hl hoff hd hS hR

section Waits
variable (c : Dev nD) (p t : Fin 3) (n : ℕ) {sp sp' : Space} {s s' : Shape} {e e' : EltTy} {sem : DmaSem sig}
    {src : Memref sig .tc sp' s' e'} {dst : Memref sig .tc sp s e} {hsrc : src.view.WordExact} {hdst : dst.view.WordExact}

theorem rs_wait_send (hs : SemLoc.dma sem = osem (oS p t)) (hN : dst.view.dmaCredit = amtX p t) :
    recs P m K ⊢ iprop(rsSt P c p t 1 -∗ Ow c (debt c n) -∗ ((rsSt P c p t 2 ∗ Ow c (debt c n)) -∗ wpc c (k ⟨⟩) Q)
      -∗ wpc c (.op (.waitDma2 sem src dst hsrc hdst) k) Q) := by
  iintro #Hrec Hst HO Hk
  simp only [rsSt]
  icases Hst with ⟨HaS, HaR, HcR, HcS⟩
  iapply (wait_own P m K c (oS p t) n (by show 0 < 2 + n; omega) hs hN) $$ Hrec HcS HO HaS
  iintro ⟨HO, Hz, -⟩
  iapply Hk
  isplitr [HO]
  · isplitl [Hz]; · iexact Hz
    isplitl [HaR]; · iexact HaR
    iexact HcR
  iexact HO

theorem rs_wait_recv (hlev : lvK (some (oR p t)) < 2 + n) (hs : SemLoc.dma sem = osem (oR p t)) (hN : dst.view.dmaCredit = amtX p t) :
    recs P m K ⊢ iprop(rsSt P c p t 2 -∗ Ow c (debt c n) -∗ ((rsSt P c p t 3 ∗ Ow c (debt c n)) -∗ wpc c (k ⟨⟩) Q)
      -∗ wpc c (.op (.waitDma2 sem src dst hsrc hdst) k) Q) := by
  iintro #Hrec Hst HO Hk
  simp only [rsSt]
  icases Hst with ⟨HzS, HaR, HcR⟩
  iapply (wait_own P m K c (oR p t) n hlev hs hN) $$ Hrec HcR HO HaR
  iintro ⟨HO, Hz, Hpay⟩
  ihave Hpay := (Entails.of_eq (show payK P m c (some (oR p t)) 0 = iprop(comP c (cbox t p) (landed P c) ∗ ∃ f, outP (prt c p t) (obox (kst c p t) (half t) p) f) from rfl)) $$ Hpay
  iapply Hk
  isplitr [HO]
  · isplitl [HzS]; · iexact HzS
    isplitl [Hz]; · iexact Hz
    iexact Hpay
  iexact HO

theorem ag_wait_send (l : Fin 3) (hl : l = Fin.rev t) (hs : SemLoc.dma sem = osem (oA p t)) (hN : dst.view.dmaCredit = amtX p l) :
    recs P m K ⊢ iprop(agSt c p t 1 -∗ Ow c (debt c n) -∗ ((agSt c p t 2 ∗ kept c p l (FIN P) ∗ Ow c (debt c n)) -∗ wpc c (k ⟨⟩) Q)
      -∗ wpc c (.op (.waitDma2 sem src dst hsrc hdst) k) Q) := by
  subst hl
  iintro #Hrec Hst HO Hk
  simp only [agSt]
  icases Hst with ⟨HaS, HaR, HcR, HcS⟩
  iapply (wait_own P m K c (oA p t) n (by show 0 < 2 + n; omega) hs hN) $$ Hrec HcS HO HaS
  iintro ⟨HO, Hz, Hpay⟩
  ihave Hpay := (Entails.of_eq (show payK P m c (some (oA p t)) 0 = kept c p (Fin.rev t) (FIN P) from rfl)) $$ Hpay
  iapply Hk
  isplitr [HO Hpay]
  · isplitl [Hz]; · iexact Hz
    isplitl [HaR]; · iexact HaR
    iexact HcR
  isplitl [Hpay]; · iexact Hpay
  iexact HO

theorem ag_wait_recv (l : Fin 3) (hl : l = Fin.rev t) (hlev : lvK (some (oG p t)) < 2 + n) (hs : SemLoc.dma sem = osem (oG p t)) (hN : dst.view.dmaCredit = amtX p l) :
    recs P m K ⊢ iprop(agSt c p t 2 -∗ Ow c (debt c n) -∗ ((agSt c p t 3 ∗ sent c p l (FIN P) ∗ Ow c (debt c n)) -∗ wpc c (k ⟨⟩) Q)
      -∗ wpc c (.op (.waitDma2 sem src dst hsrc hdst) k) Q) := by
  subst hl
  iintro #Hrec Hst HO Hk
  simp only [agSt]
  icases Hst with ⟨HzS, HaR, HcR⟩
  iapply (wait_own P m K c (oG p t) n hlev hs hN) $$ Hrec HcR HO HaR
  iintro ⟨HO, Hz, Hpay⟩
  ihave Hpay := (Entails.of_eq (show payK P m c (some (oG p t)) 0 = sent c p (Fin.rev t) (FIN P) from rfl)) $$ Hpay
  iapply Hk
  isplitr [HO Hpay]
  · isplitl [HzS]; · iexact HzS
    iexact Hz
  isplitl [Hpay]; · iexact Hpay
  iexact HO

end Waits

/-! ## Rows -/

omit [FloatOps F] in
theorem out_union (c : Dev nD) (p l : Fin 3) (f : OIdx → F .f32) :
    outP c (obox (kpr c p l) (2 * half l) p) f ⊣⊢ iprop(sent c p l f ∗ kept c p l f) := by
  rw [obox_split]; unfold sent kept outP; exact pointsTo_union (obox_disj c p l)

omit [FloatOps F] in
/-- The rows kept at one level are those of the next. -/
theorem out_next (c : Dev nD) (p l l' : Fin 3) (h : l'.val = l.val + 1) (f : OIdx → F .f32) :
    kept c p l f ⊣⊢ iprop(sent c p l' f ∗ kept c p l' f) := by
  have e : kst c p l = kpr c p l' ∧ half l = 2 * half l' := by
    obtain ⟨l, hl⟩ := l; obtain ⟨l', hl'⟩ := l'
    have : l' = l + 1 := h
    subst this
    match l, hl, hl' with
    | 0, _, _ => exact ⟨rfl, rfl⟩
    | 1, _, _ => exact ⟨rfl, rfl⟩
    | 2, _, h => exact absurd h (by decide)
  unfold kept; rw [e.1, e.2]; exact out_union c p l' f
omit [FloatOps F] in
/-- A strip is the rows kept and sent at the first level. -/
theorem out_first (c : Dev nD) (p : Fin 3) (f : OIdx → F .f32) :
    outP c (obox 0 1024 p) f ⊣⊢ iprop(sent c p 0 f ∗ kept c p 0 f) := out_union c p 0 f

omit [FloatOps F] in
theorem outP_congr (c : Dev nD) {S : Finset OIdx} {f g : OIdx → F .f32} (h : ∀ i ∈ S, f i = g i) : outP c S f = outP c S g := by
  unfold outP; exact pointsTo_congr h

/-- After the last level the kept rows are final. -/
theorem kept_fin (c : Dev nD) (p : Fin 3) : kept c p 2 (R P 3 c) = kept c p 2 (FIN P) :=
  outP_congr c fun i hi => (FIN_kst P c p i hi).symm

/-- The store of a product into a box of the output. -/
theorem out_store (c : Dev nD) (p l : Fin 3) {r : ℕ} {off : Fin 3 → ℕ} (hoff : off = ![0, r, c0 p]) {w : (⟨3, oSz p l⟩ : Shape).Idx → F .f32} (g : OIdx → F .f32)
    (f : OIdx → F .f32) {inb hx hm} (hw : ∀ x, w x = g ((oRect (off := off) p l inb).idx x)) :
    outP c (obox r (half l) p) f ⊢ iprop((outP c (obox r (half l) p) g -∗ wpc c (k ⟨⟩) Q)
      -∗ wpc c (.op (.store (Memref.whole cc0_stg1_0) (oRect (off := off) p l inb) w Finset.univ hx hm) k) Q) := by
  subst hoff
  have hset : (((Memref.whole cc0_stg1_0 : Memref sig .tc .vmem S1x1024x1024 .f32).access (oRect (off := ![0, r, c0 p]) p l inb)).setOn Finset.univ)
      = obox r (half l) p := (View.set_slice_whole cc0_stg1_0 _).trans (unit_set _ _ inb)
  iintro Ho Hk
  unfold outP
  iapply (wp_store 𝒱₀ (c : Thread nD τ) none Set.univ (m := (Memref.whole cc0_stg1_0 : Memref sig .tc .vmem S1x1024x1024 .f32)) (r := oRect (off := ![0, r, c0 p]) p l inb) (Mk := Finset.univ) hset.subset) $$ Ho
  iintro Ho
  iapply Hk
  have hv : ∀ i ∈ obox r (half l) p, ((Memref.whole cc0_stg1_0 : Memref sig .tc .vmem S1x1024x1024 .f32).access (oRect (off := ![0, r, c0 p]) p l inb)).write (Elt F) f w Finset.univ i = g i := by
    intro i hi
    have hi' : i ∈ (oRect (off := ![0, r, c0 p]) p l inb).set := by rw [unit_set]; exact hi
    obtain ⟨x, rfl⟩ := (oRect (off := ![0, r, c0 p]) p l inb).exists_idx_of_mem hi'
    rw [← hw]
    exact congrFun (View.read_write_univ (Val := Elt F) (v := (Memref.whole cc0_stg1_0 : Memref sig .tc .vmem S1x1024x1024 .f32).access (oRect (off := ![0, r, c0 p]) p l inb)) f w) x
  ihave Ho := (Entails.of_eq (pointsTo_congr hv)) $$ Ho
  iexact Ho

/-- The load of a box of the output. -/
theorem out_load (c : Dev nD) (p l : Fin 3) {r : ℕ} {off : Fin 3 → ℕ} (hoff : off = ![0, r, c0 p]) (f : OIdx → F .f32)
    {inb hl} {k : ((⟨3, oSz p l⟩ : Shape).Idx → Elt F .f32) → Prog (TpuEff nD τ sig (Elt F) Λ₀ .tc) α} :
    outP c (obox r (half l) p) f ⊢ iprop((outP c (obox r (half l) p) f -∗ wpc c (k fun x => f ((oRect (off := off) p l inb).idx x)) Q)
      -∗ wpc c (.op (.load (e := .f32) oW (oRect (off := off) p l inb).toLoadRect hl) k) Q) := by
  subst hoff
  have hset : ((Memref.whole cc0_stg1_0 : Memref sig .tc .vmem S1x1024x1024 .f32).access (oRect (off := ![0, r, c0 p]) p l inb)).set
      = obox r (half l) p := (View.set_slice_whole cc0_stg1_0 _).trans (unit_set _ _ inb)
  iintro Ho Hk
  unfold outP
  iapply (wp_load_rect 𝒱₀ (c : Thread nD τ) none Set.univ (m := (Memref.whole cc0_stg1_0 : Memref sig .tc .vmem S1x1024x1024 .f32)) (r := oRect (off := ![0, r, c0 p]) p l inb) hset.subset) $$ Ho
  iintro Ho
  iapply Hk
  iexact Ho

theorem com_load (c : Dev nD) (p l : Fin 3) {off : Fin 3 → ℕ} (hoff : off = ![l.val, 0, c0 p]) (f : S3x512x1024.Idx → F .f32)
    {inb hl} {k : ((⟨3, oSz p l⟩ : Shape).Idx → Elt F .f32) → Prog (TpuEff nD τ sig (Elt F) Λ₀ .tc) α} :
    comP c (cbox l p) f ⊢ iprop((comP c (cbox l p) f -∗ wpc c (k fun x => f ((cRect (off := off) p l inb).idx x)) Q)
      -∗ wpc c (.op (.load (e := .f32) cW (cRect (off := off) p l inb).toLoadRect hl) k) Q) := by
  subst hoff
  have hset : ((Memref.whole cc0_scratch0 : Memref sig .tc .vmem S3x512x1024 .f32).access (cRect (off := ![l.val, 0, c0 p]) p l inb)).set
      = cbox l p := (View.set_slice_whole cc0_scratch0 _).trans (unit_set _ _ inb)
  iintro Ho Hk
  unfold comP
  iapply (wp_load_rect 𝒱₀ (c : Thread nD τ) none Set.univ (m := (Memref.whole cc0_scratch0 : Memref sig .tc .vmem S3x512x1024 .f32)) (r := cRect (off := ![l.val, 0, c0 p]) p l inb) hset.subset) $$ Ho
  iintro Ho
  iapply Hk
  iexact Ho

/-- What is in the landing buffer, at a kept row: the partner's sums there. -/
theorem landed_at (c : Dev nD) (p l : Fin 3) (inb inbc) (x : (⟨3, oSz p l⟩ : Shape).Idx) :
    landed P c ((cRect (off := ![l.val, 0, c0 p]) p l inbc).idx x) = R P l.val (prt c p l) ((oRect (off := ![0, kst c p l, c0 p]) p l inb).idx x) := by
  have hx0 : (x 0).val = 0 := by have : (x 0).val < 1 := (x 0).isLt; omega
  have e0 : (cRect (off := ![l.val, 0, c0 p]) p l inbc).idx x 0 = l := by
    apply Fin.ext; show l.val + 1 * (x 0).val = l.val; omega
  have e1 : ((cRect (off := ![l.val, 0, c0 p]) p l inbc).idx x 1).val = (x 1).val := by
    show 0 + 1 * (x 1).val = _; omega
  have e2 : ((cRect (off := ![l.val, 0, c0 p]) p l inbc).idx x 2).val = c0 p + (x 2).val := by
    show c0 p + 1 * (x 2).val = _; omega
  have hs : stripOf ((cRect (off := ![l.val, 0, c0 p]) p l inbc).idx x 2).val = p := stripOf_eq ((cRect (off := ![l.val, 0, c0 p]) p l inbc).idx x 2).isLt (by
    rw [e2]; have : (x 2).val < cw p := (x 2).isLt; omega)
  unfold landed
  rw [hs, e0, e1, oidx_eq ((oRect (off := ![0, kst c p l, c0 p]) p l inb).idx x)]
  · show kst c p l + 1 * (x 1).val = kst c p l + (x 1).val; omega
  · rw [e2]; show c0 p + 1 * (x 2).val = c0 p + (x 2).val; omega

/-- The loads of the addition of what landed to the kept rows: both summands, and one whose value is not used. -/
theorem rs_loads (c : Dev nD) (p l : Fin 3) (a : ℕ) (ha : a = l.val) {off offc : Fin 3 → ℕ} (hoff : off = ![0, kst c p l, c0 p]) (hoffc : offc = ![l.val, 0, c0 p])
    {inb inbc hl₁ hl₂ hl₃} {k : ((⟨3, oSz p l⟩ : Shape).Idx → Elt F .f32) → ((⟨3, oSz p l⟩ : Shape).Idx → Elt F .f32) → ((⟨3, oSz p l⟩ : Shape).Idx → Elt F .f32) → Prog (TpuEff nD τ sig (Elt F) Λ₀ .tc) α} :
    kept c p l (R P a c) ⊢ iprop(rsSt P c p l 3 -∗ ((rsSt P c p l 4 ∗ kept c p l (R P a c))
        -∗ wpc c (k (fun x => R P a c ((oRect (off := off) p l inb).idx x)) (fun x => landed P c ((cRect (off := offc) p l inbc).idx x)) (fun x => R P a c ((oRect (off := off) p l inb).idx x))) Q)
      -∗ wpc c (.op (.load (e := .f32) oW (oRect (off := off) p l inb).toLoadRect hl₁) fun v₁ =>
          .op (.load (e := .f32) cW (cRect (off := offc) p l inbc).toLoadRect hl₂) fun v₂ =>
          .op (.load (e := .f32) oW (oRect (off := off) p l inb).toLoadRect hl₃) fun v₃ => k v₁ v₂ v₃) Q) := by
  subst ha
  iintro Ho Hst Hk
  simp only [rsSt]
  icases Hst with ⟨Hz1, Hz2, Hcom, Hd⟩
  iapply (out_load c p l hoff (R P l.val c)) $$ Ho
  iintro Ho
  iapply (com_load c p l hoffc (landed P c)) $$ Hcom
  iintro Hcom
  iapply (out_load c p l hoff (R P l.val c)) $$ Ho
  iintro Ho
  iapply Hk
  isplitr [Ho]
  · isplitl [Hz1]; · iexact Hz1
    isplitl [Hz2]; · iexact Hz2
    isplitl [Hcom]; · iexists _; iexact Hcom
    iexact Hd
  iexact Ho

/-- Its store. -/
theorem rs_store (c : Dev nD) (p l : Fin 3) (a a' : ℕ) (ha : a = l.val) (ha' : a' = a + 1) {off offc : Fin 3 → ℕ} (hoff : off = ![0, kst c p l, c0 p]) (hoffc : offc = ![l.val, 0, c0 p])
    (w : (⟨3, oSz p l⟩ : Shape).Idx → F .f32) {inb inbc hx hm}
    (hw : ∀ x, w x = FloatOps.addf (R P a c ((oRect (off := off) p l inb).idx x)) (landed P c ((cRect (off := offc) p l inbc).idx x))) :
    kept c p l (R P a c) ⊢ iprop((kept c p l (R P a' c) -∗ wpc c (k ⟨⟩) Q)
      -∗ wpc c (.op (.store (Memref.whole cc0_stg1_0) (oRect (off := off) p l inb) w Finset.univ hx hm) k) Q) := by
  subst ha' ha
  refine out_store c p l hoff (R P (l.val + 1) c) (R P l.val c) ?_
  subst hoff hoffc
  intro x
  rw [hw, landed_at P c p l inb inbc, R_succ P c p l]
  have : (x 2).val < cw p := (x 2).isLt
  show c0 p ≤ c0 p + 1 * (x 2).val ∧ c0 p + 1 * (x 2).val < c0 p + cw p
  omega

/-- The two together. -/
theorem rs_add (c : Dev nD) (p l : Fin 3) (a a' : ℕ) (ha : a = l.val) (ha' : a' = a + 1) {off offc : Fin 3 → ℕ} (hoff : off = ![0, kst c p l, c0 p]) (hoffc : offc = ![l.val, 0, c0 p])
    (pay : ((⟨3, oSz p l⟩ : Shape).Idx → F .f32) → ((⟨3, oSz p l⟩ : Shape).Idx → F .f32) → ((⟨3, oSz p l⟩ : Shape).Idx → F .f32))
    (hpay : ∀ a b x, pay a b x = FloatOps.addf (a x) (b x)) {inb inbc hl₁ hl₂ hl₃ hx hm} :
    kept c p l (R P a c) ⊢ iprop(rsSt P c p l 3 -∗ ((rsSt P c p l 4 ∗ kept c p l (R P a' c)) -∗ wpc c (k ⟨⟩) Q)
      -∗ wpc c (.op (.load (e := .f32) oW (oRect (off := off) p l inb).toLoadRect hl₁) fun v₁ =>
          .op (.load (e := .f32) cW (cRect (off := offc) p l inbc).toLoadRect hl₂) fun v₂ =>
          .op (.load (e := .f32) oW (oRect (off := off) p l inb).toLoadRect hl₃) fun _ =>
          .op (.store (Memref.whole cc0_stg1_0) (oRect (off := off) p l inb) (pay v₁ v₂) Finset.univ hx hm) k) Q) := by
  iintro Ho Hst Hk
  iapply (rs_loads P c p l a ha hoff hoffc) $$ Ho Hst
  iintro ⟨Hst, Ho⟩
  iapply (rs_store P c p l a a' ha ha' hoff hoffc (w := pay _ _) (inbc := inbc) (fun x => hpay _ _ x)) $$ Ho
  iintro Ho
  iapply Hk
  isplitl [Hst]; · iexact Hst
  iexact Ho

end Cert.Strips
end
-- ==== Proof.Comm.lean ====
/-
# `Comm`: the exchanges of the kernel's printed parts
-/
module

public import proofs.«01_k».proof.Proof.Steps

@[expose] public section

noncomputable section

namespace Cert.Strips

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The kernel's offsets and devices -/

section Offsets
variable (c : Dev nD)

theorem off3_eq : k0_off3 c = ![sst c 0 0, 0] := by revert c; decide +kernel
theorem off4_eq : k0_off4 c = ![0, sst c 0 0, c0 0] := by revert c; decide +kernel
theorem off5_eq : k0_off5 c = ![0, sst c 0 0, c0 0] := by revert c; decide +kernel
theorem off6_eq : k0_off6 c = ![sst c 1 0, 0] := by revert c; decide +kernel
theorem off7_eq : k0_off7 c = ![0, sst c 1 0, c0 1] := by revert c; decide +kernel
theorem off8_eq : k0_off8 c = ![0, sst c 1 0, c0 1] := by revert c; decide +kernel
theorem off9_eq : k0_off9 c = ![sst c 2 0, 0] := by revert c; decide +kernel
theorem off10_eq : k0_off10 c = ![0, sst c 2 0, c0 2] := by revert c; decide +kernel
theorem off11_eq : k0_off11 c = ![0, sst c 2 0, c0 2] := by revert c; decide +kernel
theorem off12_eq : k0_off12 c = ![kst c 0 0, 0] := by revert c; decide +kernel
theorem off13_eq : k0_off13 c = ![0, kst c 0 0, c0 0] := by revert c; decide +kernel
theorem off14_eq : k0_off14 c = ![kst c 1 0, 0] := by revert c; decide +kernel
theorem off15_eq : k0_off15 c = ![0, kst c 1 0, c0 1] := by revert c; decide +kernel
theorem off16_eq : k0_off16 c = ![kst c 2 0, 0] := by revert c; decide +kernel
theorem off17_eq : k0_off17 c = ![0, kst c 2 0, c0 2] := by revert c; decide +kernel
theorem off18_eq : k0_off18 c = ![0, kst c 0 0, c0 0] := by revert c; decide +kernel
theorem off19_eq : k0_off19 c = ![0, sst c 0 1, c0 0] := by revert c; decide +kernel
theorem off20_eq : k0_off20 c = ![0, kst c 1 0, c0 1] := by revert c; decide +kernel
theorem off21_eq : k0_off21 c = ![0, sst c 1 1, c0 1] := by revert c; decide +kernel
theorem off22_eq : k0_off22 c = ![0, kst c 2 0, c0 2] := by revert c; decide +kernel
theorem off23_eq : k0_off23 c = ![0, sst c 2 1, c0 2] := by revert c; decide +kernel
theorem off24_eq : k0_off24 c = ![0, kst c 0 1, c0 0] := by revert c; decide +kernel
theorem off25_eq : k0_off25 c = ![0, sst c 0 2, c0 0] := by revert c; decide +kernel
theorem off26_eq : k0_off26 c = ![0, kst c 1 1, c0 1] := by revert c; decide +kernel
theorem off27_eq : k0_off27 c = ![0, sst c 1 2, c0 1] := by revert c; decide +kernel
theorem off28_eq : k0_off28 c = ![0, kst c 2 1, c0 2] := by revert c; decide +kernel
theorem off29_eq : k0_off29 c = ![0, sst c 2 2, c0 2] := by revert c; decide +kernel
theorem off30_eq : k0_off30 c = ![0, kst c 0 2, c0 0] := by revert c; decide +kernel
theorem off31_eq : k0_off31 c = ![0, kst c 0 2, c0 0] := by revert c; decide +kernel
theorem off32_eq : k0_off32 c = ![0, kst c 1 2, c0 1] := by revert c; decide +kernel
theorem off33_eq : k0_off33 c = ![0, kst c 1 2, c0 1] := by revert c; decide +kernel
theorem off34_eq : k0_off34 c = ![0, kst c 2 2, c0 2] := by revert c; decide +kernel
theorem off35_eq : k0_off35 c = ![0, kst c 2 2, c0 2] := by revert c; decide +kernel
theorem off36_eq : k0_off36 c = ![0, kst c 0 1, c0 0] := by revert c; decide +kernel
theorem off37_eq : k0_off37 c = ![0, kst c 1 1, c0 1] := by revert c; decide +kernel
theorem off38_eq : k0_off38 c = ![0, kst c 2 1, c0 2] := by revert c; decide +kernel
theorem off39_eq : k0_off39 c = ![0, kst c 0 0, c0 0] := by revert c; decide +kernel
theorem off40_eq : k0_off40 c = ![0, kst c 1 0, c0 1] := by revert c; decide +kernel
theorem off41_eq : k0_off41 c = ![0, kst c 2 0, c0 2] := by revert c; decide +kernel
theorem dev4_eq : (⟨k0_dev4 c, k0_dev4_lt c⟩ : Dev nD) = prt c 0 0 := by revert c; decide +kernel
theorem dev5_eq : (⟨k0_dev5 c, k0_dev5_lt c⟩ : Dev nD) = prt c 1 0 := by revert c; decide +kernel
theorem dev6_eq : (⟨k0_dev6 c, k0_dev6_lt c⟩ : Dev nD) = prt c 2 0 := by revert c; decide +kernel
theorem dev7_eq : (⟨k0_dev7 c, k0_dev7_lt c⟩ : Dev nD) = prt c 0 1 := by revert c; decide +kernel
theorem dev8_eq : (⟨k0_dev8 c, k0_dev8_lt c⟩ : Dev nD) = prt c 1 1 := by revert c; decide +kernel
theorem dev9_eq : (⟨k0_dev9 c, k0_dev9_lt c⟩ : Dev nD) = prt c 2 1 := by revert c; decide +kernel
theorem dev10_eq : (⟨k0_dev10 c, k0_dev10_lt c⟩ : Dev nD) = prt c 0 2 := by revert c; decide +kernel
theorem dev11_eq : (⟨k0_dev11 c, k0_dev11_lt c⟩ : Dev nD) = prt c 1 2 := by revert c; decide +kernel
theorem dev12_eq : (⟨k0_dev12 c, k0_dev12_lt c⟩ : Dev nD) = prt c 2 2 := by revert c; decide +kernel
theorem dev13_eq : (⟨k0_dev13 c, k0_dev13_lt c⟩ : Dev nD) = prt c 0 2 := by revert c; decide +kernel
theorem dev14_eq : (⟨k0_dev14 c, k0_dev14_lt c⟩ : Dev nD) = prt c 1 2 := by revert c; decide +kernel
theorem dev15_eq : (⟨k0_dev15 c, k0_dev15_lt c⟩ : Dev nD) = prt c 2 2 := by revert c; decide +kernel
theorem dev16_eq : (⟨k0_dev16 c, k0_dev16_lt c⟩ : Dev nD) = prt c 0 1 := by revert c; decide +kernel
theorem dev17_eq : (⟨k0_dev17 c, k0_dev17_lt c⟩ : Dev nD) = prt c 1 1 := by revert c; decide +kernel
theorem dev18_eq : (⟨k0_dev18 c, k0_dev18_lt c⟩ : Dev nD) = prt c 2 1 := by revert c; decide +kernel
theorem dev19_eq : (⟨k0_dev19 c, k0_dev19_lt c⟩ : Dev nD) = prt c 0 0 := by revert c; decide +kernel
theorem dev20_eq : (⟨k0_dev20 c, k0_dev20_lt c⟩ : Dev nD) = prt c 1 0 := by revert c; decide +kernel
theorem dev21_eq : (⟨k0_dev21 c, k0_dev21_lt c⟩ : Dev nD) = prt c 2 0 := by revert c; decide +kernel

end Offsets

variable {F : FTy → Type} [FloatOps F]

local notation "𝕄" => MT nD τ sig Unit (Elt F) ℕ UU ℕ

/-- A part of the kernel at the buffers it is launched with. -/
abbrev onBufs {α : Type 1} (k : (arg0 : Memref sig .tc .vmem S1x1024x1024 .f32) → (harg0 : arg0.IsWhole) → (arg1 : Memref sig .tc .hbm S1024x8192 .f32) → (harg1 : arg1.IsWhole)
    → (arg2 : Memref sig .tc .hbm S1x1024x8x128 .f32) → (harg2 : arg2.IsWhole) → (arg3 : Memref sig .tc .hbm S1x1024x8x128 .f32) → (harg3 : arg3.IsWhole)
    → (arg4 : Memref sig .tc .hbm S8192x1024 .f32) → (harg4 : arg4.IsWhole) → (arg5 : Memref sig .tc .vmem S1x1024x1024 .f32) → (harg5 : arg5.IsWhole)
    → (arg6 : Memref sig .tc .vmem S3x512x1024 .f32) → (harg6 : arg6.IsWhole) → (arg7 : Memref sig .tc .vmem S1024x1024 .f32) → (harg7 : arg7.IsWhole)
    → (arg8 : Memref sig .tc .vmem S1024x1024 .f32) → (harg8 : arg8.IsWhole) → (arg9 : Memref sig .tc .vmem S1x1024x8x128 .f32) → (harg9 : arg9.IsWhole)
    → (arg10 : Memref sig .tc .vmem S1x1024x8x128 .f32) → (harg10 : arg10.IsWhole) → (arg11 : Memref sig .tc .vmem S1024x1024 .f32) → (harg11 : arg11.IsWhole)
    → (arg12 : DmaSems sig S4) → (arg13 arg14 arg15 arg16 : DmaSems sig S3x3) → α) : α :=
  k (Memref.whole cc0_stg0_0) (Memref.isWhole_whole _) (Memref.whole main_arg1) (Memref.isWhole_whole _) (Memref.whole main_arg2) (Memref.isWhole_whole _)
    (Memref.whole main_arg3) (Memref.isWhole_whole _) (Memref.whole main_arg4) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10

/-- A part that returns. -/
theorem wpc_ret (c : Dev nD) {α : Type} (a : α) {Q : α → sProp (MT nD τ sig Unit (Elt F) ℕ UU ℕ)} : Q a ⊢ wpc c (.ret a) Q := by
  unfold wpc
  rw [wp_ret]
  iintro H
  imodintro
  iexact H

/-! ## Products -/

/-- Parts of a device's attention buffer and of its output weights. -/
def ctxP (c : Dev nD) (f : S1024x1024.Idx → F .f32) : sProp 𝕄 := (c : Thread nD τ).loc cc0_scratch1 ↦{fullShare} f
def woP (c : Dev nD) (f : S1024x1024.Idx → F .f32) : sProp 𝕄 := (c : Thread nD τ).loc cc0_scratch5 ↦{fullShare} f

/-- An index of a square array, its coordinates brought into range. -/
def sqi (r j : ℕ) : S1024x1024.Idx := fun a => match a with
  | 0 => ⟨r % 1024, Nat.mod_lt _ (by decide)⟩ | 1 => ⟨j % 1024, Nat.mod_lt _ (by decide)⟩
theorem sqi_eq (i : S1024x1024.Idx) (r j : ℕ) (h0 : (i 0 : ℕ) = r) (h1 : (i 1 : ℕ) = j) : sqi r j = i := by
  funext a
  apply Fin.ext
  fin_cases a
  · have : (i 0 : ℕ) < 1024 := (i 0).isLt
    show r % 1024 = (i 0 : ℕ); omega
  · have : (i 1 : ℕ) < 1024 := (i 1).isLt
    show j % 1024 = (i 1 : ℕ); omega

/-- Half of the rows of an array, from row `r` on; the columns of a strip. -/
def rowsOf (f : S1024x1024.Idx → F .f32) (r : ℕ) : S512x1024.Idx → F .f32 := fun y => f (sqi (r + (y 0 : ℕ)) (y 1))
abbrev colS (p : Fin 3) : Shape := ⟨2, ![1024, cw p]⟩
def colsOf (p : Fin 3) (f : S1024x1024.Idx → F .f32) : (colS p).Idx → F .f32 := fun y => f (sqi (y 0) (c0 p + (y 1 : ℕ)))

/-- The product of half of the rows with a strip's columns. -/
def mulP : (p : Fin 3) → (S512x1024.Idx → F .f32) → ((colS p).Idx → F .f32) → (⟨3, oSz p 0⟩ : Shape).Idx → F .f32
  | 0 => k0_pay85 | 1 => k0_pay86 | 2 => k0_pay87

/-- The place of a row and a column in the product's box. -/
def boxIx (p : Fin 3) (r j : ℕ) : (⟨3, oSz p 0⟩ : Shape).Idx := fun a => match a with
  | 0 => ⟨0, Nat.one_pos⟩ | 1 => ⟨r % 512, Nat.mod_lt _ (by decide)⟩ | 2 => ⟨j % cw p, Nat.mod_lt _ (cw_pos p)⟩

def prdAt (p : Fin 3) (X W : S1024x1024.Idx → F .f32) (r j : ℕ) : F .f32 :=
  mulP p (rowsOf X (r / 512 * 512)) (colsOf p W) (boxIx p (r % 512) (j - c0 p))
/-- A device's product: its attention times its rows of the output weights, the strips' columns apart. -/
def prodP (X W : Dev nD → S1024x1024.Idx → F .f32) (c : Dev nD) (i : OIdx) : F .f32 :=
  prdAt (stripOf (i 2)) (X c) (W c) (i 1) (i 2)

theorem cast_add {s t : Shape} (a b : FVec F t .f32) (h : t.ShapeCasts s) (h' : s.ShapeCasts t) {x : t.Idx} :
    shapeCast t (addf (shapeCast s a h) (shapeCast s b h)) h' x = FloatOps.addf (a x) (b x) := by
  show FloatOps.addf (a (Shape.reshapeEquiv _ (Shape.reshapeEquiv _ x))) (b (Shape.reshapeEquiv _ (Shape.reshapeEquiv _ x))) = _
  rw [Shape.reshapeEquiv_reshapeEquiv, Shape.reshapeEquiv_self]

theorem kst_mod : ∀ (c : Dev nD) (p : Fin 3), kst c p 0 % 512 = 0 := by decide +kernel
theorem sst_mod (c : Dev nD) (p : Fin 3) : sst c p 0 % 512 = 0 := kst_mod _ _

section Products
variable {α : Type} {Q : α → sProp (MT nD τ sig Unit (Elt F) ℕ UU ℕ)} {k : PUnit → Prog (TpuEff nD τ sig (Elt F) Λ₀ .tc) α}

/-- The load of half of the attention's rows. -/
theorem ctx_load (c : Dev nD) {r : ℕ} {off : Fin 2 → ℕ} (hoff : off = ![r, 0]) (f : S1024x1024.Idx → F .f32)
    {inb : ∀ a, off a + S512x1024.size a ≤ S1024x1024.size a} {hl} {k : (S512x1024.Idx → Elt F .f32) → Prog (TpuEff nD τ sig (Elt F) Λ₀ .tc) α} :
    ctxP c f ⊢ iprop((ctxP c f -∗ wpc c (k (rowsOf f r)) Q)
      -∗ wpc c (.op (.load (e := .f32) (Memref.whole cc0_scratch1 : Memref sig .tc .vmem S1024x1024 .f32) (Rect.unit (s := S1024x1024) off S512x1024.size inb).toLoadRect hl) k) Q) := by
  subst hoff
  have e : rowsOf f r = fun x => f ((Rect.unit (s := S1024x1024) ![r, 0] S512x1024.size inb).idx x) := by
    funext x
    unfold rowsOf
    rw [sqi_eq ((Rect.unit (s := S1024x1024) ![r, 0] S512x1024.size inb).idx x)]
    · show r + 1 * (x 0).val = _; omega
    · show 0 + 1 * (x 1).val = _; omega
  rw [e]
  iintro Ho Hk
  unfold ctxP
  iapply (wp_load_rect 𝒱₀ (c : Thread nD τ) none Set.univ (m := (Memref.whole cc0_scratch1 : Memref sig .tc .vmem S1024x1024 .f32)) (r := Rect.unit (s := S1024x1024) ![r, 0] S512x1024.size inb) (Finset.subset_univ _)) $$ Ho
  iintro Ho
  iapply Hk
  iexact Ho

/-- The load of a strip's columns of the weights. -/
theorem wo_load (c : Dev nD) (p : Fin 3) {off : Fin 2 → ℕ} (hoff : off = ![0, c0 p]) (f : S1024x1024.Idx → F .f32)
    {inb : ∀ a, off a + (colS p).size a ≤ S1024x1024.size a} {hl} {k : ((colS p).Idx → Elt F .f32) → Prog (TpuEff nD τ sig (Elt F) Λ₀ .tc) α} :
    woP c f ⊢ iprop((woP c f -∗ wpc c (k (colsOf p f)) Q)
      -∗ wpc c (.op (.load (e := .f32) (Memref.whole cc0_scratch5 : Memref sig .tc .vmem S1024x1024 .f32) (Rect.unit (s := S1024x1024) off (colS p).size inb).toLoadRect hl) k) Q) := by
  subst hoff
  have e : colsOf p f = fun x => f ((Rect.unit (s := S1024x1024) ![0, c0 p] (colS p).size inb).idx x) := by
    funext x
    unfold colsOf
    rw [sqi_eq ((Rect.unit (s := S1024x1024) ![0, c0 p] (colS p).size inb).idx x)]
    · show 0 + 1 * (x 0).val = _; omega
    · show c0 p + 1 * (x 1).val = _; omega
  rw [e]
  iintro Ho Hk
  unfold woP
  iapply (wp_load_rect 𝒱₀ (c : Thread nD τ) none Set.univ (m := (Memref.whole cc0_scratch5 : Memref sig .tc .vmem S1024x1024 .f32)) (r := Rect.unit (s := S1024x1024) ![0, c0 p] (colS p).size inb) (Finset.subset_univ _)) $$ Ho
  iintro Ho
  iapply Hk
  iexact Ho

variable (X W : Dev nD → S1024x1024.Idx → F .f32)

/-- A product stored into its box: the rest of the step once the attention's rows are loaded. -/
theorem prod_step (c : Dev nD) (p : Fin 3) {r : ℕ} (hr : r % 512 = 0) {offw : Fin 2 → ℕ} (hoffw : offw = ![0, c0 p])
    {off : Fin 3 → ℕ} (hoff : off = ![0, r, c0 p]) (f : OIdx → F .f32)
    (pay : (S512x1024.Idx → F .f32) → ((colS p).Idx → F .f32) → (⟨3, oSz p 0⟩ : Shape).Idx → F .f32) (hpay : pay = mulP p)
    {inbw : ∀ a, offw a + (colS p).size a ≤ S1024x1024.size a} {inb hl₁ hl₂ hx hm} :
    woP c (W c) ⊢ iprop(outP c (obox r (half 0) p) f -∗ ((woP c (W c) ∗ outP c (obox r (half 0) p) (R (prodP X W) 0 c)) -∗ wpc c (k ⟨⟩) Q)
      -∗ wpc c (.op (.load (e := .f32) (Memref.whole cc0_scratch5 : Memref sig .tc .vmem S1024x1024 .f32) (Rect.unit (s := S1024x1024) offw (colS p).size inbw).toLoadRect hl₁) fun v =>
          .op (.load (e := .f32) oW (oRect (off := off) p 0 inb).toLoadRect hl₂) fun _ =>
          .op (.store (Memref.whole cc0_stg1_0) (oRect (off := off) p 0 inb) (pay (rowsOf (X c) r) v) Finset.univ hx hm) k) Q) := by
  iintro HW Ho Hk
  iapply (wo_load c p hoffw (W c)) $$ HW
  iintro HW
  iapply (out_load c p 0 hoff f) $$ Ho
  iintro Ho
  iapply (out_store c p 0 hoff (R (prodP X W) 0 c) f (by
    subst hpay hoff
    intro x
    have hx1 : (x 1).val < 512 := (x 1).isLt
    have hx2 : (x 2).val < cw p := (x 2).isLt
    have e1 : ((oRect (off := ![0, r, c0 p]) p 0 inb).idx x 1).val = r + (x 1).val := by
      show r + 1 * (x 1).val = _; omega
    have e2 : ((oRect (off := ![0, r, c0 p]) p 0 inb).idx x 2).val = c0 p + (x 2).val := by
      show c0 p + 1 * (x 2).val = _; omega
    show _ = prdAt (stripOf ((oRect (off := ![0, r, c0 p]) p 0 inb).idx x 2)) (X c) (W c) ((oRect (off := ![0, r, c0 p]) p 0 inb).idx x 1) ((oRect (off := ![0, r, c0 p]) p 0 inb).idx x 2)
    rw [stripOf_eq ((oRect (off := ![0, r, c0 p]) p 0 inb).idx x 2).isLt (p := p) (by rw [e2]; omega), e1, e2]
    unfold prdAt
    rw [show (r + (x 1).val) / 512 * 512 = r by omega]
    congr 1
    funext a
    apply Fin.ext
    fin_cases a
    · have : (x 0).val < 1 := (x 0).isLt
      show (x 0).val = 0; omega
    · show (x 1).val = (r + (x 1).val) % 512 % 512; omega
    · show (x 2).val = (c0 p + (x 2).val - c0 p) % cw p
      rw [Nat.add_sub_cancel_left, Nat.mod_eq_of_lt hx2])) $$ Ho
  iintro Ho
  iapply Hk
  isplitl [HW]; · iexact HW
  iexact Ho

end Products

variable (P : Dev nD → OIdx → F .f32) (m : (ℓ : Loc nD τ sig) → Buf (Elt F) ℓ) (K : Dev nD × CI → ℕ)
  (X W : Dev nD → S1024x1024.Idx → F .f32) (c : Dev nD)

/-! ## The parts

What each printed part takes of what the device holds and what it leaves. The words that it returns do not matter. -/

section Parts

theorem part22 (w0 w1 w2 : BitVec 32) (fA1 : OIdx → F .f32) {Q : BitVec 32 → sProp (MT nD τ sig Unit (Elt F) ℕ UU ℕ)} :
    recs (prodP X W) m K ⊢ iprop(sent c 0 0 (R (prodP X W) 0 c) -∗ rsSt (prodP X W) c 0 0 0 -∗ Ow c (debt c 0) -∗ ctxP c (X c) -∗ woP c (W c) -∗ sent c 1 0 (fA1)
      -∗ (rsSt (prodP X W) c 0 0 1 -∗ Ow c (debt c 1) -∗ ctxP c (X c) -∗ woP c (W c) -∗ sent c 1 0 (R (prodP X W) 0 c) -∗ (∀ v, Q v))
      -∗ wpc c (onBufs (k0_part22 (F := F)) c w0 w1 w2) Q) := by
  iintro #Hrec HA0 HS00 HO HX HW HA1 Hk
  simp only [onBufs, k0_part22_eq_skeleton]; unfold k0_part22_skel
  simp only [Prog.lift, Prog.bind_op, Prog.bind_ret, Prog.pure_eq_ret]
  iapply (rs_send (prodP X W) m K c 0 0 0 0 1 rfl rfl rfl (off5_eq c) rfl (dev4_eq c) rfl rfl) $$ Hrec HA0 HS00 HO
  iintro ⟨HS00, HO⟩
  iapply (ctx_load c (off6_eq c) (X c)) $$ HX
  iintro HX
  iapply (prod_step X W c 1 (sst_mod c 1) rfl (off7_eq c) fA1 k0_pay86 rfl) $$ HW HA1
  iintro ⟨HW, HA1⟩
  iapply (wpc_ret c)
  iapply Hk $$ HS00 HO HX HW HA1

theorem part23 (w0 w1 w2 : BitVec 32) (fA2 : OIdx → F .f32) {Q : (Σ' (_ : BitVec 32) (_ : BitVec 32), Vec F S512x1024 .f32) → sProp (MT nD τ sig Unit (Elt F) ℕ UU ℕ)} :
    recs (prodP X W) m K ⊢ iprop(sent c 1 0 (R (prodP X W) 0 c) -∗ rsSt (prodP X W) c 1 0 0 -∗ Ow c (debt c 1) -∗ ctxP c (X c) -∗ woP c (W c) -∗ sent c 2 0 (fA2) -∗ rsSt (prodP X W) c 2 0 0
      -∗ (rsSt (prodP X W) c 1 0 1 -∗ Ow c (debt c 3) -∗ ctxP c (X c) -∗ woP c (W c) -∗ rsSt (prodP X W) c 2 0 1 -∗ (∀ a b, Q ⟨a, b, rowsOf (X c) (kst c 0 0)⟩))
      -∗ wpc c (onBufs (k0_part23 (F := F)) c w0 w1 w2) Q) := by
  iintro #Hrec HA1 HS10 HO HX HW HA2 HS20 Hk
  simp only [onBufs, k0_part23_eq_skeleton]; unfold k0_part23_skel
  simp only [Prog.lift, Prog.bind_op, Prog.bind_ret, Prog.pure_eq_ret]
  iapply (rs_send (prodP X W) m K c 1 0 0 1 2 rfl rfl rfl (off8_eq c) rfl (dev5_eq c) rfl rfl) $$ Hrec HA1 HS10 HO
  iintro ⟨HS10, HO⟩
  iapply (ctx_load c (off9_eq c) (X c)) $$ HX
  iintro HX
  iapply (prod_step X W c 2 (sst_mod c 2) rfl (off10_eq c) fA2 k0_pay87 rfl) $$ HW HA2
  iintro ⟨HW, HA2⟩
  iapply (rs_send (prodP X W) m K c 2 0 0 2 3 rfl rfl rfl (off11_eq c) rfl (dev6_eq c) rfl rfl) $$ Hrec HA2 HS20 HO
  iintro ⟨HS20, HO⟩
  iapply (ctx_load c (off12_eq c) (X c)) $$ HX
  iintro HX
  iapply (wpc_ret c)
  iapply Hk $$ HS10 HO HX HW HS20

theorem part24 (w0 w1 w2 : BitVec 32) (fB0 fB1 fB2 : OIdx → F .f32) {Q : PUnit → sProp (MT nD τ sig Unit (Elt F) ℕ UU ℕ)} :
    recs (prodP X W) m K ⊢ iprop(woP c (W c) -∗ kept c 0 0 (fB0) -∗ ctxP c (X c) -∗ kept c 1 0 (fB1) -∗ kept c 2 0 (fB2)
      -∗ (woP c (W c) -∗ kept c 0 0 (R (prodP X W) 0 c) -∗ ctxP c (X c) -∗ kept c 1 0 (R (prodP X W) 0 c) -∗ kept c 2 0 (R (prodP X W) 0 c) -∗ Q ⟨⟩)
      -∗ wpc c (onBufs (k0_part24 (F := F)) c w0 w1 w2 (rowsOf (X c) (kst c 0 0))) Q) := by
  iintro #Hrec HW HB0 HX HB1 HB2 Hk
  simp only [onBufs, k0_part24_eq_skeleton]; unfold k0_part24_skel
  simp only [Prog.lift, Prog.bind_op, Prog.bind_ret, Prog.pure_eq_ret]
  iapply (prod_step X W c 0 (kst_mod c 0) rfl (off13_eq c) fB0 k0_pay88 rfl) $$ HW HB0
  iintro ⟨HW, HB0⟩
  iapply (ctx_load c (off14_eq c) (X c)) $$ HX
  iintro HX
  iapply (prod_step X W c 1 (kst_mod c 1) rfl (off15_eq c) fB1 k0_pay89 rfl) $$ HW HB1
  iintro ⟨HW, HB1⟩
  iapply (ctx_load c (off16_eq c) (X c)) $$ HX
  iintro HX
  iapply (prod_step X W c 2 (kst_mod c 2) rfl (off17_eq c) fB2 k0_pay90 rfl) $$ HW HB2
  iintro ⟨HW, HB2⟩
  iapply (wpc_ret c)
  iapply Hk $$ HW HB0 HX HB1 HB2

theorem part25 (w0 w1 w2 w3 : BitVec 32) {Q : BitVec 32 → sProp (MT nD τ sig Unit (Elt F) ℕ UU ℕ)} :
    recs P m K ⊢ iprop(rsSt P c 0 0 1 -∗ Ow c (debt c 3) -∗ kept c 0 0 (R P 0 c)
      -∗ (rsSt P c 0 0 4 -∗ Ow c (debt c 3) -∗ kept c 0 1 (R P 1 c) -∗ sent c 0 1 (R P 1 c) -∗ (∀ v, Q v))
      -∗ wpc c (onBufs (k0_part25 (F := F)) c w0 w1 w2 w3) Q) := by
  iintro #Hrec HS00 HO HB0 Hk
  simp only [onBufs, k0_part25_eq_skeleton]; unfold k0_part25_skel
  simp only [Prog.lift, Prog.bind_op, Prog.bind_ret, Prog.pure_eq_ret]
  iapply (rs_wait_send P m K c 0 0 3 rfl rfl) $$ Hrec HS00 HO
  iintro ⟨HS00, HO⟩
  iapply (rs_wait_recv P m K c 0 0 3 (by decide) rfl rfl) $$ Hrec HS00 HO
  iintro ⟨HS00, HO⟩
  iapply (rs_add P c 0 0 0 1 rfl rfl (off18_eq c) rfl k0_pay91 (fun a b x => cast_add _ _ _ _)) $$ HB0 HS00
  iintro ⟨HS00, HB0⟩
  ihave HB0 := (out_next c 0 0 1 rfl _).1 $$ HB0
  icases HB0 with ⟨HA0, HB0⟩
  iapply (wpc_ret c)
  iapply Hk $$ HS00 HO HB0 HA0

theorem part26 (w0 w1 w2 : BitVec 32) {Q : BitVec 32 → sProp (MT nD τ sig Unit (Elt F) ℕ UU ℕ)} :
    recs P m K ⊢ iprop(sent c 0 1 (R P 1 c) -∗ rsSt P c 0 1 0 -∗ Ow c (debt c 3) -∗ rsSt P c 1 0 1
      -∗ (rsSt P c 0 1 1 -∗ Ow c (debt c 4) -∗ rsSt P c 1 0 3 -∗ (∀ v, Q v))
      -∗ wpc c (onBufs (k0_part26 (F := F)) c w0 w1 w2) Q) := by
  iintro #Hrec HA0 HS01 HO HS10 Hk
  simp only [onBufs, k0_part26_eq_skeleton]; unfold k0_part26_skel
  simp only [Prog.lift, Prog.bind_op, Prog.bind_ret, Prog.pure_eq_ret]
  iapply (rs_send P m K c 0 1 1 3 4 rfl rfl rfl (off19_eq c) rfl (dev7_eq c) rfl rfl) $$ Hrec HA0 HS01 HO
  iintro ⟨HS01, HO⟩
  iapply (rs_wait_send P m K c 1 0 4 rfl rfl) $$ Hrec HS10 HO
  iintro ⟨HS10, HO⟩
  iapply (rs_wait_recv P m K c 1 0 4 (by decide) rfl rfl) $$ Hrec HS10 HO
  iintro ⟨HS10, HO⟩
  iapply (wpc_ret c)
  iapply Hk $$ HS01 HO HS10

theorem part27 (w0 w1 w2 w3 : BitVec 32) {Q : BitVec 32 → sProp (MT nD τ sig Unit (Elt F) ℕ UU ℕ)} :
    recs P m K ⊢ iprop(rsSt P c 1 0 3 -∗ kept c 1 0 (R P 0 c) -∗ rsSt P c 1 1 0 -∗ Ow c (debt c 4)
      -∗ (rsSt P c 1 0 4 -∗ kept c 1 1 (R P 1 c) -∗ rsSt P c 1 1 1 -∗ Ow c (debt c 5) -∗ (∀ v, Q v))
      -∗ wpc c (onBufs (k0_part27 (F := F)) c w0 w1 w2 w3) Q) := by
  iintro #Hrec HS10 HB1 HS11 HO Hk
  simp only [onBufs, k0_part27_eq_skeleton]; unfold k0_part27_skel
  simp only [Prog.lift, Prog.bind_op, Prog.bind_ret, Prog.pure_eq_ret]
  iapply (rs_add P c 1 0 0 1 rfl rfl (off20_eq c) rfl k0_pay92 (fun a b x => cast_add _ _ _ _)) $$ HB1 HS10
  iintro ⟨HS10, HB1⟩
  ihave HB1 := (out_next c 1 0 1 rfl _).1 $$ HB1
  icases HB1 with ⟨HA1, HB1⟩
  iapply (rs_send P m K c 1 1 1 4 5 rfl rfl rfl (off21_eq c) rfl (dev8_eq c) rfl rfl) $$ Hrec HA1 HS11 HO
  iintro ⟨HS11, HO⟩
  iapply (wpc_ret c)
  iapply Hk $$ HS10 HB1 HS11 HO

theorem part28 (w0 w1 w2 w3 : BitVec 32) {Q : BitVec 32 → sProp (MT nD τ sig Unit (Elt F) ℕ UU ℕ)} :
    recs P m K ⊢ iprop(rsSt P c 2 0 1 -∗ Ow c (debt c 5) -∗ kept c 2 0 (R P 0 c)
      -∗ (rsSt P c 2 0 4 -∗ Ow c (debt c 5) -∗ kept c 2 1 (R P 1 c) -∗ sent c 2 1 (R P 1 c) -∗ (∀ v, Q v))
      -∗ wpc c (onBufs (k0_part28 (F := F)) c w0 w1 w2 w3) Q) := by
  iintro #Hrec HS20 HO HB2 Hk
  simp only [onBufs, k0_part28_eq_skeleton]; unfold k0_part28_skel
  simp only [Prog.lift, Prog.bind_op, Prog.bind_ret, Prog.pure_eq_ret]
  iapply (rs_wait_send P m K c 2 0 5 rfl rfl) $$ Hrec HS20 HO
  iintro ⟨HS20, HO⟩
  iapply (rs_wait_recv P m K c 2 0 5 (by decide) rfl rfl) $$ Hrec HS20 HO
  iintro ⟨HS20, HO⟩
  iapply (rs_add P c 2 0 0 1 rfl rfl (off22_eq c) rfl k0_pay93 (fun a b x => cast_add _ _ _ _)) $$ HB2 HS20
  iintro ⟨HS20, HB2⟩
  ihave HB2 := (out_next c 2 0 1 rfl _).1 $$ HB2
  icases HB2 with ⟨HA2, HB2⟩
  iapply (wpc_ret c)
  iapply Hk $$ HS20 HO HB2 HA2

theorem part29 (w0 w1 : BitVec 32) {Q : BitVec 32 → sProp (MT nD τ sig Unit (Elt F) ℕ UU ℕ)} :
    recs P m K ⊢ iprop(sent c 2 1 (R P 1 c) -∗ rsSt P c 2 1 0 -∗ Ow c (debt c 5) -∗ rsSt P c 0 1 1
      -∗ (rsSt P c 2 1 1 -∗ Ow c (debt c 6) -∗ rsSt P c 0 1 3 -∗ (∀ v, Q v))
      -∗ wpc c (onBufs (k0_part29 (F := F)) c w0 w1) Q) := by
  iintro #Hrec HA2 HS21 HO HS01 Hk
  simp only [onBufs, k0_part29_eq_skeleton]; unfold k0_part29_skel
  simp only [Prog.lift, Prog.bind_op, Prog.bind_ret, Prog.pure_eq_ret]
  iapply (rs_send P m K c 2 1 1 5 6 rfl rfl rfl (off23_eq c) rfl (dev9_eq c) rfl rfl) $$ Hrec HA2 HS21 HO
  iintro ⟨HS21, HO⟩
  iapply (rs_wait_send P m K c 0 1 6 rfl rfl) $$ Hrec HS01 HO
  iintro ⟨HS01, HO⟩
  iapply (rs_wait_recv P m K c 0 1 6 (by decide) rfl rfl) $$ Hrec HS01 HO
  iintro ⟨HS01, HO⟩
  iapply (wpc_ret c)
  iapply Hk $$ HS21 HO HS01

theorem part30 (w0 w1 w2 w3 w4 : BitVec 32) {Q : BitVec 32 → sProp (MT nD τ sig Unit (Elt F) ℕ UU ℕ)} :
    recs P m K ⊢ iprop(rsSt P c 0 1 3 -∗ kept c 0 1 (R P 1 c) -∗ rsSt P c 0 2 0 -∗ Ow c (debt c 6)
      -∗ (rsSt P c 0 1 4 -∗ kept c 0 2 (R P 2 c) -∗ rsSt P c 0 2 1 -∗ Ow c (debt c 7) -∗ (∀ v, Q v))
      -∗ wpc c (onBufs (k0_part30 (F := F)) c w0 w1 w2 w3 w4) Q) := by
  iintro #Hrec HS01 HB0 HS02 HO Hk
  simp only [onBufs, k0_part30_eq_skeleton]; unfold k0_part30_skel
  simp only [Prog.lift, Prog.bind_op, Prog.bind_ret, Prog.pure_eq_ret]
  iapply (rs_add P c 0 1 1 2 rfl rfl (off24_eq c) rfl k0_pay94 (fun a b x => cast_add _ _ _ _)) $$ HB0 HS01
  iintro ⟨HS01, HB0⟩
  ihave HB0 := (out_next c 0 1 2 rfl _).1 $$ HB0
  icases HB0 with ⟨HA0, HB0⟩
  iapply (rs_send P m K c 0 2 2 6 7 rfl rfl rfl (off25_eq c) rfl (dev10_eq c) rfl rfl) $$ Hrec HA0 HS02 HO
  iintro ⟨HS02, HO⟩
  iapply (wpc_ret c)
  iapply Hk $$ HS01 HB0 HS02 HO

theorem part31 (w0 w1 w2 : BitVec 32) {Q : FVec F S256x384 .f32 → sProp (MT nD τ sig Unit (Elt F) ℕ UU ℕ)} :
    recs P m K ⊢ iprop(rsSt P c 1 1 1 -∗ Ow c (debt c 7) -∗ kept c 1 1 (R P 1 c)
      -∗ (rsSt P c 1 1 4 -∗ Ow c (debt c 7) -∗ kept c 1 1 (R P 1 c) -∗ (∀ w : FVec F S256x384 .f32, ⌜∀ x, k0_pay96 w x = FloatOps.addf (R P 1 c ((oRect (p := 1) (l := 1) (k0_off26_inb c)).idx x)) (landed P c ((cRect (off := ![1, 0, 384]) 1 1 inb_S3x512x1024_S1x256x384_1_0_384).idx x))⌝ -∗ Q w))
      -∗ wpc c (onBufs (k0_part31 (F := F)) c w0 w1 w2) Q) := by
  iintro #Hrec HS11 HO HB1 Hk
  simp only [onBufs, k0_part31_eq_skeleton]; unfold k0_part31_skel
  simp only [Prog.lift, Prog.bind_op, Prog.bind_ret, Prog.pure_eq_ret]
  iapply (rs_wait_send P m K c 1 1 7 rfl rfl) $$ Hrec HS11 HO
  iintro ⟨HS11, HO⟩
  iapply (rs_wait_recv P m K c 1 1 7 (by decide) rfl rfl) $$ Hrec HS11 HO
  iintro ⟨HS11, HO⟩
  iapply (rs_loads P c 1 1 1 rfl (off26_eq c) rfl) $$ HB1 HS11
  iintro ⟨HS11, HB1⟩
  iapply (wpc_ret c)
  iapply Hk $$ HS11 HO HB1
  ipureintro
  exact fun x => cast_add _ _ _ _

theorem part32 (w0 w1 w2 w3 : BitVec 32) (w : FVec F S256x384 .f32) (hw : ∀ x, k0_pay96 w x = FloatOps.addf (R P 1 c ((oRect (p := 1) (l := 1) (k0_off26_inb c)).idx x)) (landed P c ((cRect (off := ![1, 0, 384]) 1 1 inb_S3x512x1024_S1x256x384_1_0_384).idx x))) {Q : BitVec 32 → sProp (MT nD τ sig Unit (Elt F) ℕ UU ℕ)} :
    recs P m K ⊢ iprop(kept c 1 1 (R P 1 c) -∗ rsSt P c 1 2 0 -∗ Ow c (debt c 7) -∗ rsSt P c 2 1 1
      -∗ (kept c 1 2 (R P 2 c) -∗ rsSt P c 1 2 1 -∗ Ow c (debt c 8) -∗ rsSt P c 2 1 2 -∗ (∀ v, Q v))
      -∗ wpc c (onBufs (k0_part32 (F := F)) c w0 w1 w2 w3 w) Q) := by
  iintro #Hrec HB1 HS12 HO HS21 Hk
  simp only [onBufs, k0_part32_eq_skeleton]; unfold k0_part32_skel
  simp only [Prog.lift, Prog.bind_op, Prog.bind_ret, Prog.pure_eq_ret]
  iapply (rs_store P c 1 1 1 2 rfl rfl (off26_eq c) rfl (k0_pay96 w) (inbc := inb_S3x512x1024_S1x256x384_1_0_384) hw) $$ HB1
  iintro HB1
  ihave HB1 := (out_next c 1 1 2 rfl _).1 $$ HB1
  icases HB1 with ⟨HA1, HB1⟩
  iapply (rs_send P m K c 1 2 2 7 8 rfl rfl rfl (off27_eq c) rfl (dev11_eq c) rfl rfl) $$ Hrec HA1 HS12 HO
  iintro ⟨HS12, HO⟩
  iapply (rs_wait_send P m K c 2 1 8 rfl rfl) $$ Hrec HS21 HO
  iintro ⟨HS21, HO⟩
  iapply (wpc_ret c)
  iapply Hk $$ HB1 HS12 HO HS21

theorem part33 (w0 w1 w2 w3 w4 : BitVec 32) {Q : BitVec 32 → sProp (MT nD τ sig Unit (Elt F) ℕ UU ℕ)} :
    recs P m K ⊢ iprop(rsSt P c 2 1 2 -∗ Ow c (debt c 8) -∗ kept c 2 1 (R P 1 c)
      -∗ (rsSt P c 2 1 4 -∗ Ow c (debt c 8) -∗ kept c 2 2 (R P 2 c) -∗ sent c 2 2 (R P 2 c) -∗ (∀ v, Q v))
      -∗ wpc c (onBufs (k0_part33 (F := F)) c w0 w1 w2 w3 w4) Q) := by
  iintro #Hrec HS21 HO HB2 Hk
  simp only [onBufs, k0_part33_eq_skeleton]; unfold k0_part33_skel
  simp only [Prog.lift, Prog.bind_op, Prog.bind_ret, Prog.pure_eq_ret]
  iapply (rs_wait_recv P m K c 2 1 8 (by decide) rfl rfl) $$ Hrec HS21 HO
  iintro ⟨HS21, HO⟩
  iapply (rs_add P c 2 1 1 2 rfl rfl (off28_eq c) rfl k0_pay97 (fun a b x => cast_add _ _ _ _)) $$ HB2 HS21
  iintro ⟨HS21, HB2⟩
  ihave HB2 := (out_next c 2 1 2 rfl _).1 $$ HB2
  icases HB2 with ⟨HA2, HB2⟩
  iapply (wpc_ret c)
  iapply Hk $$ HS21 HO HB2 HA2

theorem part34 (w0 w1 w2 w3 : BitVec 32) {Q : BitVec 32 → sProp (MT nD τ sig Unit (Elt F) ℕ UU ℕ)} :
    recs P m K ⊢ iprop(sent c 2 2 (R P 2 c) -∗ rsSt P c 2 2 0 -∗ Ow c (debt c 8) -∗ rsSt P c 0 2 1
      -∗ (rsSt P c 2 2 1 -∗ Ow c (debt c 9) -∗ rsSt P c 0 2 3 -∗ (∀ v, Q v))
      -∗ wpc c (onBufs (k0_part34 (F := F)) c w0 w1 w2 w3) Q) := by
  iintro #Hrec HA2 HS22 HO HS02 Hk
  simp only [onBufs, k0_part34_eq_skeleton]; unfold k0_part34_skel
  simp only [Prog.lift, Prog.bind_op, Prog.bind_ret, Prog.pure_eq_ret]
  iapply (rs_send P m K c 2 2 2 8 9 rfl rfl rfl (off29_eq c) rfl (dev12_eq c) rfl rfl) $$ Hrec HA2 HS22 HO
  iintro ⟨HS22, HO⟩
  iapply (rs_wait_send P m K c 0 2 9 rfl rfl) $$ Hrec HS02 HO
  iintro ⟨HS02, HO⟩
  iapply (rs_wait_recv P m K c 0 2 9 (by decide) rfl rfl) $$ Hrec HS02 HO
  iintro ⟨HS02, HO⟩
  iapply (wpc_ret c)
  iapply Hk $$ HS22 HO HS02

theorem part35 (w0 w1 w2 w3 w4 : BitVec 32) {Q : BitVec 32 → sProp (MT nD τ sig Unit (Elt F) ℕ UU ℕ)} :
    recs P m K ⊢ iprop(rsSt P c 0 2 3 -∗ kept c 0 2 (R P 2 c) -∗ agSt c 0 0 0 -∗ Ow c (debt c 9)
      -∗ (rsSt P c 0 2 5 -∗ agSt c 0 0 1 -∗ Ow c (debt c 10) -∗ (∀ v, Q v))
      -∗ wpc c (onBufs (k0_part35 (F := F)) c w0 w1 w2 w3 w4) Q) := by
  iintro #Hrec HS02 HB0 HG00 HO Hk
  simp only [onBufs, k0_part35_eq_skeleton]; unfold k0_part35_skel
  simp only [Prog.lift, Prog.bind_op, Prog.bind_ret, Prog.pure_eq_ret]
  iapply (rs_add P c 0 2 2 3 rfl rfl (off30_eq c) rfl k0_pay98 (fun a b x => cast_add _ _ _ _)) $$ HB0 HS02
  iintro ⟨HS02, HB0⟩
  ihave HB0 := (Entails.of_eq (kept_fin P c 0)) $$ HB0
  iapply (ag_send P m K c 0 0 2 9 10 rfl rfl rfl (off31_eq c) (dev13_eq c) rfl rfl) $$ Hrec HB0 HS02 HG00 HO
  iintro ⟨HS02, HG00, HO⟩
  iapply (wpc_ret c)
  iapply Hk $$ HS02 HG00 HO

theorem part36 (w0 w1 w2 w3 : BitVec 32) {Q : BitVec 32 → sProp (MT nD τ sig Unit (Elt F) ℕ UU ℕ)} :
    recs P m K ⊢ iprop(rsSt P c 1 2 1 -∗ Ow c (debt c 10) -∗ kept c 1 2 (R P 2 c)
      -∗ (rsSt P c 1 2 4 -∗ Ow c (debt c 10) -∗ kept c 1 2 (FIN P) -∗ (∀ v, Q v))
      -∗ wpc c (onBufs (k0_part36 (F := F)) c w0 w1 w2 w3) Q) := by
  iintro #Hrec HS12 HO HB1 Hk
  simp only [onBufs, k0_part36_eq_skeleton]; unfold k0_part36_skel
  simp only [Prog.lift, Prog.bind_op, Prog.bind_ret, Prog.pure_eq_ret]
  iapply (rs_wait_send P m K c 1 2 10 rfl rfl) $$ Hrec HS12 HO
  iintro ⟨HS12, HO⟩
  iapply (rs_wait_recv P m K c 1 2 10 (by decide) rfl rfl) $$ Hrec HS12 HO
  iintro ⟨HS12, HO⟩
  iapply (rs_add P c 1 2 2 3 rfl rfl (off32_eq c) rfl k0_pay99 (fun a b x => cast_add _ _ _ _)) $$ HB1 HS12
  iintro ⟨HS12, HB1⟩
  ihave HB1 := (Entails.of_eq (kept_fin P c 1)) $$ HB1
  iapply (wpc_ret c)
  iapply Hk $$ HS12 HO HB1

theorem part37 (w0 w1 w2 w3 w4 w5 : BitVec 32) {Q : BitVec 32 → sProp (MT nD τ sig Unit (Elt F) ℕ UU ℕ)} :
    recs P m K ⊢ iprop(kept c 1 2 (FIN P) -∗ rsSt P c 1 2 4 -∗ agSt c 1 0 0 -∗ Ow c (debt c 10) -∗ rsSt P c 2 2 1
      -∗ (rsSt P c 1 2 5 -∗ agSt c 1 0 1 -∗ Ow c (debt c 11) -∗ rsSt P c 2 2 2 -∗ (∀ v, Q v))
      -∗ wpc c (onBufs (k0_part37 (F := F)) c w0 w1 w2 w3 w4 w5) Q) := by
  iintro #Hrec HB1 HS12 HG10 HO HS22 Hk
  simp only [onBufs, k0_part37_eq_skeleton]; unfold k0_part37_skel
  simp only [Prog.lift, Prog.bind_op, Prog.bind_ret, Prog.pure_eq_ret]
  iapply (ag_send P m K c 1 0 2 10 11 rfl rfl rfl (off33_eq c) (dev14_eq c) rfl rfl) $$ Hrec HB1 HS12 HG10 HO
  iintro ⟨HS12, HG10, HO⟩
  iapply (rs_wait_send P m K c 2 2 11 rfl rfl) $$ Hrec HS22 HO
  iintro ⟨HS22, HO⟩
  iapply (wpc_ret c)
  iapply Hk $$ HS12 HG10 HO HS22

theorem part38 (w0 w1 w2 w3 : BitVec 32) {Q : BitVec 32 → sProp (MT nD τ sig Unit (Elt F) ℕ UU ℕ)} :
    recs P m K ⊢ iprop(rsSt P c 2 2 2 -∗ Ow c (debt c 11) -∗ kept c 2 2 (R P 2 c)
      -∗ (rsSt P c 2 2 4 -∗ Ow c (debt c 11) -∗ kept c 2 2 (FIN P) -∗ (∀ v, Q v))
      -∗ wpc c (onBufs (k0_part38 (F := F)) c w0 w1 w2 w3) Q) := by
  iintro #Hrec HS22 HO HB2 Hk
  simp only [onBufs, k0_part38_eq_skeleton]; unfold k0_part38_skel
  simp only [Prog.lift, Prog.bind_op, Prog.bind_ret, Prog.pure_eq_ret]
  iapply (rs_wait_recv P m K c 2 2 11 (by decide) rfl rfl) $$ Hrec HS22 HO
  iintro ⟨HS22, HO⟩
  iapply (rs_add P c 2 2 2 3 rfl rfl (off34_eq c) rfl k0_pay100 (fun a b x => cast_add _ _ _ _)) $$ HB2 HS22
  iintro ⟨HS22, HB2⟩
  ihave HB2 := (Entails.of_eq (kept_fin P c 2)) $$ HB2
  iapply (wpc_ret c)
  iapply Hk $$ HS22 HO HB2

theorem part39 (w0 w1 w2 w3 : BitVec 32) {Q : BitVec 32 → sProp (MT nD τ sig Unit (Elt F) ℕ UU ℕ)} :
    recs P m K ⊢ iprop(kept c 2 2 (FIN P) -∗ rsSt P c 2 2 4 -∗ agSt c 2 0 0 -∗ Ow c (debt c 11) -∗ agSt c 0 0 1
      -∗ (rsSt P c 2 2 5 -∗ agSt c 2 0 1 -∗ Ow c (debt c 12) -∗ agSt c 0 0 3 -∗ kept c 0 1 (FIN P) -∗ (∀ v, Q v))
      -∗ wpc c (onBufs (k0_part39 (F := F)) c w0 w1 w2 w3) Q) := by
  iintro #Hrec HB2 HS22 HG20 HO HG00 Hk
  simp only [onBufs, k0_part39_eq_skeleton]; unfold k0_part39_skel
  simp only [Prog.lift, Prog.bind_op, Prog.bind_ret, Prog.pure_eq_ret]
  iapply (ag_send P m K c 2 0 2 11 12 rfl rfl rfl (off35_eq c) (dev15_eq c) rfl rfl) $$ Hrec HB2 HS22 HG20 HO
  iintro ⟨HS22, HG20, HO⟩
  iapply (ag_wait_send P m K c 0 0 12 2 rfl rfl rfl) $$ Hrec HG00 HO
  iintro ⟨HG00, HB0, HO⟩
  iapply (ag_wait_recv P m K c 0 0 12 2 rfl (by decide) rfl rfl) $$ Hrec HG00 HO
  iintro ⟨HG00, HA0, HO⟩
  ihave HB0 := (out_next c 0 1 2 rfl _).2 $$ [HA0 HB0]
  · iframe
  iapply (wpc_ret c)
  iapply Hk $$ HS22 HG20 HO HG00 HB0

theorem part40 (w0 w1 w2 w3 w4 : BitVec 32) {Q : BitVec 32 → sProp (MT nD τ sig Unit (Elt F) ℕ UU ℕ)} :
    recs P m K ⊢ iprop(kept c 0 1 (FIN P) -∗ rsSt P c 0 1 4 -∗ agSt c 0 1 0 -∗ Ow c (debt c 12) -∗ agSt c 1 0 1
      -∗ (rsSt P c 0 1 5 -∗ agSt c 0 1 1 -∗ Ow c (debt c 13) -∗ agSt c 1 0 3 -∗ kept c 1 1 (FIN P) -∗ (∀ v, Q v))
      -∗ wpc c (onBufs (k0_part40 (F := F)) c w0 w1 w2 w3 w4) Q) := by
  iintro #Hrec HB0 HS01 HG01 HO HG10 Hk
  simp only [onBufs, k0_part40_eq_skeleton]; unfold k0_part40_skel
  simp only [Prog.lift, Prog.bind_op, Prog.bind_ret, Prog.pure_eq_ret]
  iapply (ag_send P m K c 0 1 1 12 13 rfl rfl rfl (off36_eq c) (dev16_eq c) rfl rfl) $$ Hrec HB0 HS01 HG01 HO
  iintro ⟨HS01, HG01, HO⟩
  iapply (ag_wait_send P m K c 1 0 13 2 rfl rfl rfl) $$ Hrec HG10 HO
  iintro ⟨HG10, HB1, HO⟩
  iapply (ag_wait_recv P m K c 1 0 13 2 rfl (by decide) rfl rfl) $$ Hrec HG10 HO
  iintro ⟨HG10, HA1, HO⟩
  ihave HB1 := (out_next c 1 1 2 rfl _).2 $$ [HA1 HB1]
  · iframe
  iapply (wpc_ret c)
  iapply Hk $$ HS01 HG01 HO HG10 HB1

theorem part41 (w0 w1 w2 : BitVec 32) {Q : (Σ' (_ : BitVec 32), BitVec 32) → sProp (MT nD τ sig Unit (Elt F) ℕ UU ℕ)} :
    recs P m K ⊢ iprop(kept c 1 1 (FIN P) -∗ rsSt P c 1 1 4 -∗ agSt c 1 1 0 -∗ Ow c (debt c 13) -∗ agSt c 2 0 1
      -∗ (rsSt P c 1 1 5 -∗ agSt c 1 1 1 -∗ Ow c (debt c 14) -∗ agSt c 2 0 3 -∗ kept c 2 1 (FIN P) -∗ (∀ v, Q v))
      -∗ wpc c (onBufs (k0_part41 (F := F)) c w0 w1 w2) Q) := by
  iintro #Hrec HB1 HS11 HG11 HO HG20 Hk
  simp only [onBufs, k0_part41_eq_skeleton]; unfold k0_part41_skel
  simp only [Prog.lift, Prog.bind_op, Prog.bind_ret, Prog.pure_eq_ret]
  iapply (ag_send P m K c 1 1 1 13 14 rfl rfl rfl (off37_eq c) (dev17_eq c) rfl rfl) $$ Hrec HB1 HS11 HG11 HO
  iintro ⟨HS11, HG11, HO⟩
  iapply (ag_wait_send P m K c 2 0 14 2 rfl rfl rfl) $$ Hrec HG20 HO
  iintro ⟨HG20, HB2, HO⟩
  iapply (ag_wait_recv P m K c 2 0 14 2 rfl (by decide) rfl rfl) $$ Hrec HG20 HO
  iintro ⟨HG20, HA2, HO⟩
  ihave HB2 := (out_next c 2 1 2 rfl _).2 $$ [HA2 HB2]
  · iframe
  iapply (wpc_ret c)
  iapply Hk $$ HS11 HG11 HO HG20 HB2

theorem part42 (w0 w1 w2 w3 w4 : BitVec 32) {Q : BitVec 32 → sProp (MT nD τ sig Unit (Elt F) ℕ UU ℕ)} :
    recs P m K ⊢ iprop(kept c 2 1 (FIN P) -∗ rsSt P c 2 1 4 -∗ agSt c 2 1 0 -∗ Ow c (debt c 14) -∗ agSt c 0 1 1
      -∗ (rsSt P c 2 1 5 -∗ agSt c 2 1 1 -∗ Ow c (debt c 15) -∗ agSt c 0 1 3 -∗ kept c 0 0 (FIN P) -∗ (∀ v, Q v))
      -∗ wpc c (onBufs (k0_part42 (F := F)) c w0 w1 w2 w3 w4) Q) := by
  iintro #Hrec HB2 HS21 HG21 HO HG01 Hk
  simp only [onBufs, k0_part42_eq_skeleton]; unfold k0_part42_skel
  simp only [Prog.lift, Prog.bind_op, Prog.bind_ret, Prog.pure_eq_ret]
  iapply (ag_send P m K c 2 1 1 14 15 rfl rfl rfl (off38_eq c) (dev18_eq c) rfl rfl) $$ Hrec HB2 HS21 HG21 HO
  iintro ⟨HS21, HG21, HO⟩
  iapply (ag_wait_send P m K c 0 1 15 1 rfl rfl rfl) $$ Hrec HG01 HO
  iintro ⟨HG01, HB0, HO⟩
  iapply (ag_wait_recv P m K c 0 1 15 1 rfl (by decide) rfl rfl) $$ Hrec HG01 HO
  iintro ⟨HG01, HA0, HO⟩
  ihave HB0 := (out_next c 0 0 1 rfl _).2 $$ [HA0 HB0]
  · iframe
  iapply (wpc_ret c)
  iapply Hk $$ HS21 HG21 HO HG01 HB0

theorem part43 (w0 w1 w2 : BitVec 32) {Q : BitVec 32 → sProp (MT nD τ sig Unit (Elt F) ℕ UU ℕ)} :
    recs P m K ⊢ iprop(kept c 0 0 (FIN P) -∗ rsSt P c 0 0 4 -∗ agSt c 0 2 0 -∗ Ow c (debt c 15) -∗ agSt c 1 1 1
      -∗ (rsSt P c 0 0 5 -∗ agSt c 0 2 1 -∗ Ow c (debt c 16) -∗ agSt c 1 1 2 -∗ kept c 1 1 (FIN P) -∗ (∀ v, Q v))
      -∗ wpc c (onBufs (k0_part43 (F := F)) c w0 w1 w2) Q) := by
  iintro #Hrec HB0 HS00 HG02 HO HG11 Hk
  simp only [onBufs, k0_part43_eq_skeleton]; unfold k0_part43_skel
  simp only [Prog.lift, Prog.bind_op, Prog.bind_ret, Prog.pure_eq_ret]
  iapply (ag_send P m K c 0 2 0 15 16 rfl rfl rfl (off39_eq c) (dev19_eq c) rfl rfl) $$ Hrec HB0 HS00 HG02 HO
  iintro ⟨HS00, HG02, HO⟩
  iapply (ag_wait_send P m K c 1 1 16 1 rfl rfl rfl) $$ Hrec HG11 HO
  iintro ⟨HG11, HB1, HO⟩
  iapply (wpc_ret c)
  iapply Hk $$ HS00 HG02 HO HG11 HB1

theorem part44 (w0 w1 w2 : BitVec 32) {Q : BitVec 32 → sProp (MT nD τ sig Unit (Elt F) ℕ UU ℕ)} :
    recs P m K ⊢ iprop(agSt c 1 1 2 -∗ Ow c (debt c 16) -∗ kept c 1 1 (FIN P) -∗ rsSt P c 1 0 4 -∗ agSt c 1 2 0 -∗ agSt c 2 1 1
      -∗ (agSt c 1 1 3 -∗ Ow c (debt c 17) -∗ rsSt P c 1 0 5 -∗ agSt c 1 2 1 -∗ agSt c 2 1 2 -∗ kept c 2 1 (FIN P) -∗ (∀ v, Q v))
      -∗ wpc c (onBufs (k0_part44 (F := F)) c w0 w1 w2) Q) := by
  iintro #Hrec HG11 HO HB1 HS10 HG12 HG21 Hk
  simp only [onBufs, k0_part44_eq_skeleton]; unfold k0_part44_skel
  simp only [Prog.lift, Prog.bind_op, Prog.bind_ret, Prog.pure_eq_ret]
  iapply (ag_wait_recv P m K c 1 1 16 1 rfl (by decide) rfl rfl) $$ Hrec HG11 HO
  iintro ⟨HG11, HA1, HO⟩
  ihave HB1 := (out_next c 1 0 1 rfl _).2 $$ [HA1 HB1]
  · iframe
  iapply (ag_send P m K c 1 2 0 16 17 rfl rfl rfl (off40_eq c) (dev20_eq c) rfl rfl) $$ Hrec HB1 HS10 HG12 HO
  iintro ⟨HS10, HG12, HO⟩
  iapply (ag_wait_send P m K c 2 1 17 1 rfl rfl rfl) $$ Hrec HG21 HO
  iintro ⟨HG21, HB2, HO⟩
  iapply (wpc_ret c)
  iapply Hk $$ HG11 HO HS10 HG12 HG21 HB2

theorem part45 (w0 w1 w2 : BitVec 32) {Q : BitVec 32 → sProp (MT nD τ sig Unit (Elt F) ℕ UU ℕ)} :
    recs P m K ⊢ iprop(agSt c 2 1 2 -∗ Ow c (debt c 17) -∗ kept c 2 1 (FIN P) -∗ rsSt P c 2 0 4 -∗ agSt c 2 2 0 -∗ agSt c 0 2 1
      -∗ (agSt c 2 1 3 -∗ Ow c (debt c 18) -∗ rsSt P c 2 0 5 -∗ agSt c 2 2 1 -∗ agSt c 0 2 2 -∗ kept c 0 0 (FIN P) -∗ (∀ v, Q v))
      -∗ wpc c (onBufs (k0_part45 (F := F)) c w0 w1 w2) Q) := by
  iintro #Hrec HG21 HO HB2 HS20 HG22 HG02 Hk
  simp only [onBufs, k0_part45_eq_skeleton]; unfold k0_part45_skel
  simp only [Prog.lift, Prog.bind_op, Prog.bind_ret, Prog.pure_eq_ret]
  iapply (ag_wait_recv P m K c 2 1 17 1 rfl (by decide) rfl rfl) $$ Hrec HG21 HO
  iintro ⟨HG21, HA2, HO⟩
  ihave HB2 := (out_next c 2 0 1 rfl _).2 $$ [HA2 HB2]
  · iframe
  iapply (ag_send P m K c 2 2 0 17 18 rfl rfl rfl (off41_eq c) (dev21_eq c) rfl rfl) $$ Hrec HB2 HS20 HG22 HO
  iintro ⟨HS20, HG22, HO⟩
  iapply (ag_wait_send P m K c 0 2 18 0 rfl rfl rfl) $$ Hrec HG02 HO
  iintro ⟨HG02, HB0, HO⟩
  iapply (wpc_ret c)
  iapply Hk $$ HG21 HO HS20 HG22 HG02 HB0

theorem part46 (w0 : BitVec 32) {Q : PUnit → sProp (MT nD τ sig Unit (Elt F) ℕ UU ℕ)} :
    recs P m K ⊢ iprop(agSt c 0 2 2 -∗ Ow c (debt c 18) -∗ kept c 0 0 (FIN P) -∗ agSt c 1 2 1 -∗ agSt c 2 2 1
      -∗ (agSt c 0 2 3 -∗ Ow c (debt c 18) -∗ outP c (obox 0 1024 0) (FIN P) -∗ agSt c 1 2 3 -∗ outP c (obox 0 1024 1) (FIN P) -∗ agSt c 2 2 2 -∗ kept c 2 0 (FIN P) -∗ Q ⟨⟩)
      -∗ wpc c (onBufs (k0_part46 (F := F)) c w0) Q) := by
  iintro #Hrec HG02 HO HB0 HG12 HG22 Hk
  simp only [onBufs, k0_part46_eq_skeleton]; unfold k0_part46_skel
  simp only [Prog.lift, Prog.bind_op, Prog.bind_ret, Prog.pure_eq_ret]
  iapply (ag_wait_recv P m K c 0 2 18 0 rfl (by decide) rfl rfl) $$ Hrec HG02 HO
  iintro ⟨HG02, HA0, HO⟩
  ihave HB0 := (out_first c 0 _).2 $$ [HA0 HB0]
  · iframe
  iapply (ag_wait_send P m K c 1 2 18 0 rfl rfl rfl) $$ Hrec HG12 HO
  iintro ⟨HG12, HB1, HO⟩
  iapply (ag_wait_recv P m K c 1 2 18 0 rfl (by decide) rfl rfl) $$ Hrec HG12 HO
  iintro ⟨HG12, HA1, HO⟩
  ihave HB1 := (out_first c 1 _).2 $$ [HA1 HB1]
  · iframe
  iapply (ag_wait_send P m K c 2 2 18 0 rfl rfl rfl) $$ Hrec HG22 HO
  iintro ⟨HG22, HB2, HO⟩
  iapply (wpc_ret c)
  iapply Hk $$ HG02 HO HB0 HG12 HB1 HG22 HB2

end Parts

end Cert.Strips
end
-- ==== Proof.Attn.lean ====
/-
# `Attn`: the attention, block by block
-/
module

public import proofs.«01_k».proof.Proof.Comm

@[expose] public section

noncomputable section

namespace Cert.Strips

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A block of the attention

A block is 256 query rows `q` of one head `h`; it sees the keys up to its own last row. -/

abbrev kl (q : Fin 4) : ℕ := 256 * (q.val + 1)
abbrev kS (q : Fin 4) : Shape := ⟨2, ![kl q, 128]⟩
abbrev sS (q : Fin 4) : Shape := ⟨2, ![256, kl q]⟩
abbrev KIdx : Type := S1x1024x8x128.Idx

def dotQK : (q : Fin 4) → DotDims S256x128 (kS q) (sS q)
  | 0 => dot_S256x128_S256x128_S256x256_1_1_0_0_n_n | 1 => dot_S256x128_S512x128_S256x512_1_1_0_0_n_n
  | 2 => dot_S256x128_S768x128_S256x768_1_1_0_0_n_n | 3 => dot_S256x128_S1024x128_S256x1024_1_1_0_0_n_n
def dotPV : (q : Fin 4) → DotDims (sS q) (kS q) S256x128
  | 0 => dot_S256x256_S256x128_S256x128_1_0_0_1_n_n | 1 => dot_S256x512_S512x128_S256x128_1_0_0_1_n_n
  | 2 => dot_S256x768_S768x128_S256x128_1_0_0_1_n_n | 3 => dot_S256x1024_S1024x128_S256x128_1_0_0_1_n_n
/-- The keys (or values) a block sees. -/
def keys : (q : Fin 4) → FVec F S1024x128 .f32 → FVec F (kS q) .f32
  | 0 => fun k => extractStridedSlice S256x128 ![0, 0] k slices_S1024x128_o0_0_S256x128
  | 1 => fun k => extractStridedSlice S512x128 ![0, 0] k slices_S1024x128_o0_0_S512x128
  | 2 => fun k => extractStridedSlice S768x128 ![0, 0] k slices_S1024x128_o0_0_S768x128
  | 3 => fun k => k

theorem q_slice : ∀ (q : Fin 4) (h : Fin 8), S1024x1024.Slices ![256 * q.val, 128 * h.val] S256x128 := by decide
theorem w_red : ∀ q : Fin 4, (sS q).Reduces [1] S256 := by decide
theorem h_inb : ∀ (h : Fin 8) a, (![0, 0, h.val, 0] : Fin 4 → ℕ) a + S1x1024x1x128.size a ≤ S1x1024x8x128.size a := by decide

/-- One head of the keys or values. -/
def headf (h : Fin 8) (f : KIdx → F .f32) : S1x1024x1x128.Idx → F .f32 :=
  fun x => f ((Rect.unit (s := S1x1024x8x128) ![0, 0, h.val, 0] S1x1024x1x128.size (h_inb h)).idx x)
def head2 (h : Fin 8) (f : KIdx → F .f32) : FVec F S1024x128 .f32 := shapeCast S1024x128 (headf h f) shapeCasts_S1x1024x1x128_S1024x128

/-- A block's weights. -/
def attW (q : Fin 4) (h : Fin 8) (Qv : FVec F S1024x1024 .f32) (Mk : IVec (sS q) 1) (k : FVec F S1024x128 .f32) : FVec F (sS q) .f32 :=
  select Mk (exp (matmul (dotQK q) none (extractStridedSlice S256x128 ![256 * q.val, 128 * h.val] Qv (q_slice q h)) (keys q k)
    (constant (sS q) .f32 0x00000000#32))) (broadcast (sS q) (Scalar.ofBits .f32 0x00000000#32 : F .f32))
/-- A block: the weighted sum of the values over the weights' sum. -/
def attO (q : Fin 4) (w : FVec F (sS q) .f32) (v : FVec F S1024x128 .f32) : FVec F S256x128 .f32 :=
  shapeCast S256x128 (divf (matmul (dotPV q) none w (keys q v) (constant S256x128 .f32 0x00000000#32))
    (broadcastTo S256x128 (shapeCast S256x1 (multiReduction .add [1] S256 w 0x00000000#32 (w_red q) (.inl rfl) rfl) shapeCasts_S256_S256x1)
      broadcasts_S256x1_S256x128)) shapeCasts_S256x128_S256x128
def attB (Qv : FVec F S1024x1024 .f32) (M : (q : Fin 4) → IVec (sS q) 1) (kc vc : KIdx → F .f32) (q : Fin 4) (h : Fin 8) : FVec F S256x128 .f32 :=
  attO q (attW q h Qv (M q) (head2 h kc)) (head2 h vc)

def blkIx (r j : ℕ) : S256x128.Idx := fun a => match a with
  | 0 => ⟨r % 256, Nat.mod_lt _ (by decide)⟩ | 1 => ⟨j % 128, Nat.mod_lt _ (by decide)⟩

def attAt (Qv : FVec F S1024x1024 .f32) (M : (q : Fin 4) → IVec (sS q) 1) (kc vc : KIdx → F .f32) (r j : ℕ) : F .f32 :=
  attB Qv M kc vc ⟨r / 256 % 4, Nat.mod_lt _ (by decide)⟩ ⟨j / 128 % 8, Nat.mod_lt _ (by decide)⟩ (blkIx r j)
/-- The whole attention of a device's heads. -/
def ctxOf (Qv : FVec F S1024x1024 .f32) (M : (q : Fin 4) → IVec (sS q) 1) (kc vc : KIdx → F .f32) : S1024x1024.Idx → F .f32 :=
  fun i => attAt Qv M kc vc (i 0) (i 1)

theorem ctxOf_blk (Qv : FVec F S1024x1024 .f32) (M : (q : Fin 4) → IVec (sS q) 1) (kc vc : KIdx → F .f32) (q : Fin 4) (h : Fin 8)
    (x : S256x128.Idx) (i : S1024x1024.Idx) (h0 : (i 0 : ℕ) = 256 * q.val + (x 0).val) (h1 : (i 1 : ℕ) = 128 * h.val + (x 1).val) :
    ctxOf Qv M kc vc i = attB Qv M kc vc q h x := by
  have hx0 : (x 0).val < 256 := (x 0).isLt
  have hx1 : (x 1).val < 128 := (x 1).isLt
  unfold ctxOf attAt
  rw [h0, h1]
  have eq : (⟨(256 * q.val + (x 0).val) / 256 % 4, Nat.mod_lt _ (by decide)⟩ : Fin 4) = q := Fin.ext (by show _ % 4 = _; omega)
  have eh : (⟨(128 * h.val + (x 1).val) / 128 % 8, Nat.mod_lt _ (by decide)⟩ : Fin 8) = h := Fin.ext (by show _ % 8 = _; omega)
  rw [eq, eh]
  congr 1
  funext a
  apply Fin.ext
  fin_cases a
  · show (256 * q.val + (x 0).val) % 256 = (x 0).val; omega
  · show (128 * h.val + (x 1).val) % 128 = (x 1).val; omega

/-- The first `n` blocks of `X` written over `f`, the heads in order. -/
def mixC (n : ℕ) (X f : S1024x1024.Idx → F .f32) : S1024x1024.Idx → F .f32 :=
  fun i => if 4 * ((i 1 : ℕ) / 128) + (i 0 : ℕ) / 256 < n then X i else f i
omit [FloatOps F] in
theorem mixC_zero (X f : S1024x1024.Idx → F .f32) : mixC 0 X f = f := by
  funext i; unfold mixC; rw [if_neg (by omega)]
omit [FloatOps F] in
theorem mixC_all (X f : S1024x1024.Idx → F .f32) : mixC 32 X f = X := by
  funext i
  have h0 : (i 0 : ℕ) < 1024 := (i 0).isLt
  have h1 : (i 1 : ℕ) < 1024 := (i 1).isLt
  unfold mixC; rw [if_pos (by omega)]

/-! ## Steps -/

/-- A device's keys and values. -/
def kP (c : Dev nD) (f : KIdx → F .f32) : sProp 𝕄 := (c : Thread nD τ).loc cc0_scratch3 ↦{fullShare} f
def vP (c : Dev nD) (f : KIdx → F .f32) : sProp 𝕄 := (c : Thread nD τ).loc cc0_scratch4 ↦{fullShare} f
def wqP (c : Dev nD) (f : S1024x1024.Idx → F .f32) : sProp 𝕄 := (c : Thread nD τ).loc cc0_scratch2 ↦{fullShare} f

variable (m : (ℓ : Loc nD τ sig) → Buf (Elt F) ℓ)

/-- The source of a local copy; -/
def srcP (c : Dev nD) : Fin 4 → sProp 𝕄
  | 0 => (c : Thread nD τ).loc main_arg2 ↦{fullShare} m ((c : Thread nD τ).loc main_arg2)
  | 1 => (c : Thread nD τ).loc main_arg3 ↦{fullShare} m ((c : Thread nD τ).loc main_arg3)
  | 2 => (c : Thread nD τ).loc main_arg4 ↦[(woM c).view.set]{fullShare} m ((c : Thread nD τ).loc main_arg4)
  | 3 => (c : Thread nD τ).loc main_arg1 ↦[(wqM c).view.set]{fullShare} m ((c : Thread nD τ).loc main_arg1)
/-- its destination, filled. -/
def dstP (c : Dev nD) : Fin 4 → sProp 𝕄
  | 0 => kP c (KC m c) | 1 => vP c (VC m c) | 2 => woP c (WO m c) | 3 => wqP c (WQ m c)
theorem cpPay_eq (c : Dev nD) (i : Fin 4) : cpPay m c i = iprop(dstP m c i ∗ srcP m c i) := by
  fin_cases i <;> rfl

/-- Of a local copy: before it, when it is issued, when it is waited for. -/
def cpSt (c : Dev nD) (i : Fin 4) : ℕ → sProp 𝕄
  | 0 => iprop(tok c (.inl i) ∗ at0 c (.inl i) ∗ srcP m c i)
  | 1 => iprop(at0 c (.inl i) ∗ crd c (.inl i))
  | _ => iprop(zer c (.inl i) ∗ srcP m c i)

section Steps
variable (P : Dev nD → OIdx → F .f32) (K : Dev nD × CI → ℕ)
variable {α : Type} {Q : α → sProp (MT nD τ sig Unit (Elt F) ℕ UU ℕ)} {k : PUnit → Prog (TpuEff nD τ sig (Elt F) Λ₀ .tc) α}

/-- The wait for a local copy. -/
theorem cp_wait (c : Dev nD) (i : Fin 4) (n : ℕ) {sp sp' : Space} {s s' : Shape} {e e' : EltTy} {sem : DmaSem sig}
    {src : Memref sig .tc sp' s' e'} {dst : Memref sig .tc sp s e} {hsrc : src.view.WordExact} {hdst : dst.view.WordExact}
    (hs : SemLoc.dma sem = osem (.inl i)) (hN : dst.view.dmaCredit = amtO (.inl i)) :
    recs P m K ⊢ iprop(cpSt m c i 1 -∗ Ow c (debt c n) -∗ ((Ow c (debt c n) ∗ cpSt m c i 2 ∗ dstP m c i) -∗ wpc c (k ⟨⟩) Q)
      -∗ wpc c (.op (.waitDma2 sem src dst hsrc hdst) k) Q) := by
  have hp : payK P m c (some (.inl i)) 0 = iprop(dstP m c i ∗ srcP m c i) := cpPay_eq m c i
  iintro #Hrec Hst HO Hk
  simp only [cpSt]
  icases Hst with ⟨Hat, Hc⟩
  iapply (wait_own P m K c (.inl i) n (by show 0 < 2 + n; omega) hs hN) $$ Hrec Hc HO Hat
  rw [hp]
  iintro ⟨HO, Hz, Hd, Hs⟩
  iapply Hk
  isplitl [HO]; · iexact HO
  isplitr [Hd]
  · isplitl [Hz]; · iexact Hz
    iexact Hs
  iexact Hd

/-- The load of a head of the keys, of the values. -/
theorem k_load (c : Dev nD) (h : Fin 8) {off : Fin 4 → ℕ} (hoff : off = ![0, 0, h.val, 0]) (f : KIdx → F .f32)
    {inb : ∀ a, off a + S1x1024x1x128.size a ≤ S1x1024x8x128.size a} {hl} {k : (S1x1024x1x128.Idx → Elt F .f32) → Prog (TpuEff nD τ sig (Elt F) Λ₀ .tc) α} :
    kP c f ⊢ iprop((kP c f -∗ wpc c (k (headf h f)) Q)
      -∗ wpc c (.op (.load (e := .f32) (Memref.whole cc0_scratch3 : Memref sig .tc .vmem S1x1024x8x128 .f32) (Rect.unit (s := S1x1024x8x128) off S1x1024x1x128.size inb).toLoadRect hl) k) Q) := by
  subst hoff
  iintro Ho Hk
  unfold kP headf
  iapply (wp_load_rect 𝒱₀ (c : Thread nD τ) none Set.univ (m := (Memref.whole cc0_scratch3 : Memref sig .tc .vmem S1x1024x8x128 .f32)) (r := Rect.unit (s := S1x1024x8x128) ![0, 0, h.val, 0] S1x1024x1x128.size inb) (Finset.subset_univ _)) $$ Ho
  iintro Ho
  iapply Hk
  iexact Ho
theorem v_load (c : Dev nD) (h : Fin 8) {off : Fin 4 → ℕ} (hoff : off = ![0, 0, h.val, 0]) (f : KIdx → F .f32)
    {inb : ∀ a, off a + S1x1024x1x128.size a ≤ S1x1024x8x128.size a} {hl} {k : (S1x1024x1x128.Idx → Elt F .f32) → Prog (TpuEff nD τ sig (Elt F) Λ₀ .tc) α} :
    vP c f ⊢ iprop((vP c f -∗ wpc c (k (headf h f)) Q)
      -∗ wpc c (.op (.load (e := .f32) (Memref.whole cc0_scratch4 : Memref sig .tc .vmem S1x1024x8x128 .f32) (Rect.unit (s := S1x1024x8x128) off S1x1024x1x128.size inb).toLoadRect hl) k) Q) := by
  subst hoff
  iintro Ho Hk
  unfold vP headf
  iapply (wp_load_rect 𝒱₀ (c : Thread nD τ) none Set.univ (m := (Memref.whole cc0_scratch4 : Memref sig .tc .vmem S1x1024x8x128 .f32)) (r := Rect.unit (s := S1x1024x8x128) ![0, 0, h.val, 0] S1x1024x1x128.size inb) (Finset.subset_univ _)) $$ Ho
  iintro Ho
  iapply Hk
  iexact Ho

/-- The load of a block's place, which nothing uses. -/
theorem blk_load (c : Dev nD) (f : S1024x1024.Idx → F .f32) {off : Fin 2 → ℕ}
    {inb : ∀ a, off a + S256x128.size a ≤ S1024x1024.size a} {hl} {k : (S256x128.Idx → Elt F .f32) → Prog (TpuEff nD τ sig (Elt F) Λ₀ .tc) α} :
    ctxP c f ⊢ iprop((∀ w, ctxP c f -∗ wpc c (k w) Q)
      -∗ wpc c (.op (.load (e := .f32) (Memref.whole cc0_scratch1 : Memref sig .tc .vmem S1024x1024 .f32) (Rect.unit (s := S1024x1024) off S256x128.size inb).toLoadRect hl) k) Q) := by
  iintro Ho Hk
  unfold ctxP
  iapply (wp_load_rect 𝒱₀ (c : Thread nD τ) none Set.univ (m := (Memref.whole cc0_scratch1 : Memref sig .tc .vmem S1024x1024 .f32)) (r := Rect.unit (s := S1024x1024) off S256x128.size inb) (Finset.subset_univ _)) $$ Ho
  iintro Ho
  iapply Hk
  iexact Ho

/-- The store of a block. -/
theorem blk_store (c : Dev nD) (Qv : FVec F S1024x1024 .f32) (M : (q : Fin 4) → IVec (sS q) 1) (kc vc : KIdx → F .f32) (f : S1024x1024.Idx → F .f32)
    (q : Fin 4) (h : Fin 8) (n n' : ℕ) (hn : n = 4 * h.val + q.val) (hn' : n' = n + 1) {off : Fin 2 → ℕ} (hoff : off = ![256 * q.val, 128 * h.val])
    {w : S256x128.Idx → F .f32} (hw : w = attB Qv M kc vc q h)
    {inb : ∀ a, off a + S256x128.size a ≤ S1024x1024.size a} {hx hm} :
    ctxP c (mixC n (ctxOf Qv M kc vc) f) ⊢ iprop((ctxP c (mixC n' (ctxOf Qv M kc vc) f) -∗ wpc c (k ⟨⟩) Q)
      -∗ wpc c (.op (.store (Memref.whole cc0_scratch1 : Memref sig .tc .vmem S1024x1024 .f32) (Rect.unit (s := S1024x1024) off S256x128.size inb) w Finset.univ hx hm) k) Q) := by
  subst hoff hn hn' hw
  iintro Ho Hk
  unfold ctxP
  iapply (wp_store 𝒱₀ (c : Thread nD τ) none Set.univ (m := (Memref.whole cc0_scratch1 : Memref sig .tc .vmem S1024x1024 .f32)) (r := Rect.unit (s := S1024x1024) ![256 * q.val, 128 * h.val] S256x128.size inb) (Mk := Finset.univ) (Finset.subset_univ _)) $$ Ho
  iintro Ho
  iapply Hk
  have hset : (((Memref.whole cc0_scratch1 : Memref sig .tc .vmem S1024x1024 .f32).access (Rect.unit (s := S1024x1024) ![256 * q.val, 128 * h.val] S256x128.size inb)).setOn Finset.univ)
      = (Rect.unit (s := S1024x1024) ![256 * q.val, 128 * h.val] S256x128.size inb).set := View.set_slice_whole cc0_scratch1 _
  have hv : ∀ i ∈ (Finset.univ : Finset S1024x1024.Idx), ((Memref.whole cc0_scratch1 : Memref sig .tc .vmem S1024x1024 .f32).access (Rect.unit (s := S1024x1024) ![256 * q.val, 128 * h.val] S256x128.size inb)).write (Elt F)
      (mixC (4 * h.val + q.val) (ctxOf Qv M kc vc) f) (attB Qv M kc vc q h) Finset.univ i = mixC (4 * h.val + q.val + 1) (ctxOf Qv M kc vc) f i := by
    intro i _
    by_cases hi : i ∈ (Rect.unit (s := S1024x1024) ![256 * q.val, 128 * h.val] S256x128.size inb).set
    · obtain ⟨x, rfl⟩ := (Rect.unit (s := S1024x1024) ![256 * q.val, 128 * h.val] S256x128.size inb).exists_idx_of_mem hi
      refine (congrFun (View.read_write_univ (Val := Elt F) (v := (Memref.whole cc0_scratch1 : Memref sig .tc .vmem S1024x1024 .f32).access (Rect.unit (s := S1024x1024) ![256 * q.val, 128 * h.val] S256x128.size inb)) _ _) x).trans ?_
      have hx0 : (x 0).val < 256 := (x 0).isLt
      have hx1 : (x 1).val < 128 := (x 1).isLt
      have e0 : ((Rect.unit (s := S1024x1024) ![256 * q.val, 128 * h.val] S256x128.size inb).idx x 0).val = 256 * q.val + (x 0).val := by
        show 256 * q.val + 1 * (x 0).val = _; omega
      have e1 : ((Rect.unit (s := S1024x1024) ![256 * q.val, 128 * h.val] S256x128.size inb).idx x 1).val = 128 * h.val + (x 1).val := by
        show 128 * h.val + 1 * (x 1).val = _; omega
      unfold mixC
      rw [if_pos (by rw [e0, e1]; omega), ctxOf_blk Qv M kc vc q h x _ e0 e1]
    · rw [View.write_of_not_mem _ _ _ (by rw [hset]; exact hi)]
      have hne : 4 * ((i 1 : ℕ) / 128) + (i 0 : ℕ) / 256 ≠ 4 * h.val + q.val := by
        intro he
        have h0 : (i 0 : ℕ) < 1024 := (i 0).isLt
        have hq := q.isLt
        apply hi
        rw [unit_set, mem_boxOf]
        intro a
        fin_cases a
        · show 256 * q.val ≤ (i 0 : ℕ) ∧ (i 0 : ℕ) < 256 * q.val + 256
          omega
        · show 128 * h.val ≤ (i 1 : ℕ) ∧ (i 1 : ℕ) < 128 * h.val + 128
          omega
      unfold mixC
      by_cases hlt : 4 * ((i 1 : ℕ) / 128) + (i 0 : ℕ) / 256 < 4 * h.val + q.val
      · rw [if_pos hlt, if_pos (by omega)]
      · rw [if_neg hlt, if_neg (by omega)]
  ihave Ho := (Entails.of_eq (pointsTo_congr hv)) $$ Ho
  iexact Ho

end Steps

variable (P : Dev nD → OIdx → F .f32) (K : Dev nD × CI → ℕ) (X W : Dev nD → S1024x1024.Idx → F .f32) (c : Dev nD)
  (Qv : FVec F S1024x1024 .f32) (M : (q : Fin 4) → IVec (sS q) 1) (f : S1024x1024.Idx → F .f32)

/-! ## The parts -/

section Parts

theorem part8 (v274 v275 v277 : IVec S256x1024 32) (v291 : IVec S256x1024 1) (v292 : IVec S256x1024 32) (hM : k0_pay19 v274 v275 v277 v291 v292 = M 3) {Q : (Σ' (v300 : IVec S256x1024 1) (v306 : FVec F S1024x128 .f32) (v308 : FVec F S1024x128 .f32), FVec F S256x512 .f32) → sProp (MT nD τ sig Unit (Elt F) ℕ UU ℕ)} :
    recs P m K ⊢ iprop(cpSt m c 0 1 -∗ cpSt m c 1 1 -∗ Ow c (debt c 0) -∗ ctxP c (mixC 0 (ctxOf Qv M (KC m c) (VC m c)) f) -∗ (cpSt m c 0 2 -∗ cpSt m c 1 2 -∗ Ow c (debt c 0) -∗ kP c (KC m c) -∗ vP c (VC m c) -∗ ctxP c (mixC 1 (ctxOf Qv M (KC m c) (VC m c)) f) -∗ Q ⟨(M 3), k0_pay20 (headf 0 (KC m c)), k0_pay21 (headf 0 (VC m c)), k0_pay23 Qv (M 1) (headf 0 (KC m c))⟩)
      -∗ wpc c (onBufs (k0_part8 (F := F)) Qv (M 0) (M 1) v274 v275 v277 v291 v292) Q) := by
  iintro #Hrec HC0 HC1 HO HX Hk
  simp only [onBufs, k0_part8_eq_skeleton]; unfold k0_part8_skel
  simp only [Prog.lift, Prog.bind_op, Prog.bind_ret, Prog.pure_eq_ret]
  iapply (cp_wait m P K c 0 0 rfl rfl) $$ Hrec HC0 HO
  iintro ⟨HO, HC0, HK⟩
  ihave HK := (Entails.of_eq (show dstP m c 0 = kP c (KC m c) from rfl)) $$ HK
  iapply (cp_wait m P K c 1 0 rfl rfl) $$ Hrec HC1 HO
  iintro ⟨HO, HC1, HV⟩
  ihave HV := (Entails.of_eq (show dstP m c 1 = vP c (VC m c) from rfl)) $$ HV
  iapply (k_load c 0 rfl (KC m c)) $$ HK
  iintro HK
  iapply (v_load c 0 rfl (VC m c)) $$ HV
  iintro HV
  iapply (blk_load c _) $$ HX
  iintro %w0 HX
  iapply (blk_store c Qv M (KC m c) (VC m c) f 0 0 0 1 rfl rfl rfl rfl) $$ HX
  iintro HX
  rw [hM]
  iapply (wpc_ret c)
  iapply Hk $$ HC0 HC1 HO HK HV HX

theorem part9 (kc vc : KIdx → F .f32) {Q : PUnit → sProp (MT nD τ sig Unit (Elt F) ℕ UU ℕ)} :
    ctxP c (mixC 1 (ctxOf Qv M kc vc) f) ⊢ iprop((ctxP c (mixC 4 (ctxOf Qv M kc vc) f) -∗ Q ⟨⟩)
      -∗ wpc c (onBufs (k0_part9 (F := F)) Qv (M 2) (M 3) (k0_pay20 (headf 0 kc)) (k0_pay21 (headf 0 vc)) (k0_pay23 Qv (M 1) (headf 0 kc))) Q) := by
  iintro HX Hk
  simp only [onBufs, k0_part9_eq_skeleton]; unfold k0_part9_skel
  simp only [Prog.lift, Prog.bind_op, Prog.bind_ret, Prog.pure_eq_ret]
  iapply (blk_load c _) $$ HX
  iintro %w1 HX
  iapply (blk_store c Qv M kc vc f 1 0 1 2 rfl rfl rfl rfl) $$ HX
  iintro HX
  iapply (blk_load c _) $$ HX
  iintro %w2 HX
  iapply (blk_store c Qv M kc vc f 2 0 2 3 rfl rfl rfl rfl) $$ HX
  iintro HX
  iapply (blk_load c _) $$ HX
  iintro %w3 HX
  iapply (blk_store c Qv M kc vc f 3 0 3 4 rfl rfl rfl rfl) $$ HX
  iintro HX
  iapply (wpc_ret c)
  iapply Hk $$ HX

theorem part10 (kc vc : KIdx → F .f32) {Q : (Σ' (v368 : FVec F S1024x128 .f32) (v370 : FVec F S1024x128 .f32), FVec F S256x768 .f32) → sProp (MT nD τ sig Unit (Elt F) ℕ UU ℕ)} :
    kP c kc ⊢ iprop(vP c vc -∗ ctxP c (mixC 4 (ctxOf Qv M kc vc) f) -∗ (kP c kc -∗ vP c vc -∗ ctxP c (mixC 6 (ctxOf Qv M kc vc) f) -∗ Q ⟨k0_pay27 (headf 1 kc), k0_pay28 (headf 1 vc), k0_pay31 Qv (M 2) (headf 1 kc)⟩)
      -∗ wpc c (onBufs (k0_part10 (F := F)) Qv (M 0) (M 1) (M 2)) Q) := by
  iintro HK HV HX Hk
  simp only [onBufs, k0_part10_eq_skeleton]; unfold k0_part10_skel
  simp only [Prog.lift, Prog.bind_op, Prog.bind_ret, Prog.pure_eq_ret]
  iapply (k_load c 1 rfl kc) $$ HK
  iintro HK
  iapply (v_load c 1 rfl vc) $$ HV
  iintro HV
  iapply (blk_load c _) $$ HX
  iintro %w4 HX
  iapply (blk_store c Qv M kc vc f 0 1 4 5 rfl rfl rfl rfl) $$ HX
  iintro HX
  iapply (blk_load c _) $$ HX
  iintro %w5 HX
  iapply (blk_store c Qv M kc vc f 1 1 5 6 rfl rfl rfl rfl) $$ HX
  iintro HX
  iapply (wpc_ret c)
  iapply Hk $$ HK HV HX

theorem part11 (kc vc : KIdx → F .f32) {Q : (Σ' (v430 : FVec F S1024x128 .f32) (v432 : FVec F S1024x128 .f32) (v440 : FVec F S256x1 .f32), FVec F S256x128 .f32) → sProp (MT nD τ sig Unit (Elt F) ℕ UU ℕ)} :
    kP c kc ⊢ iprop(vP c vc -∗ ctxP c (mixC 6 (ctxOf Qv M kc vc) f) -∗ (kP c kc -∗ vP c vc -∗ ctxP c (mixC 8 (ctxOf Qv M kc vc) f) -∗ Q ⟨k0_pay34 (headf 2 kc), k0_pay35 (headf 2 vc), k0_pay37 Qv (M 0) (headf 2 kc), k0_pay38 Qv (M 0) (headf 2 kc) (headf 2 vc)⟩)
      -∗ wpc c (onBufs (k0_part11 (F := F)) Qv (M 0) (M 3) (k0_pay27 (headf 1 kc)) (k0_pay28 (headf 1 vc)) (k0_pay31 Qv (M 2) (headf 1 kc))) Q) := by
  iintro HK HV HX Hk
  simp only [onBufs, k0_part11_eq_skeleton]; unfold k0_part11_skel
  simp only [Prog.lift, Prog.bind_op, Prog.bind_ret, Prog.pure_eq_ret]
  iapply (blk_load c _) $$ HX
  iintro %w6 HX
  iapply (blk_store c Qv M kc vc f 2 1 6 7 rfl rfl rfl rfl) $$ HX
  iintro HX
  iapply (blk_load c _) $$ HX
  iintro %w7 HX
  iapply (blk_store c Qv M kc vc f 3 1 7 8 rfl rfl rfl rfl) $$ HX
  iintro HX
  iapply (k_load c 2 rfl kc) $$ HK
  iintro HK
  iapply (v_load c 2 rfl vc) $$ HV
  iintro HV
  iapply (wpc_ret c)
  iapply Hk $$ HK HV HX

theorem part12 (kc vc : KIdx → F .f32) {Q : FVec F S256x1024 .f32 → sProp (MT nD τ sig Unit (Elt F) ℕ UU ℕ)} :
    ctxP c (mixC 8 (ctxOf Qv M kc vc) f) ⊢ iprop((ctxP c (mixC 11 (ctxOf Qv M kc vc) f) -∗ Q (k0_pay42 Qv (M 3) (k0_pay34 (headf 2 kc))))
      -∗ wpc c (onBufs (k0_part12 (F := F)) Qv (M 1) (M 2) (M 3) (k0_pay34 (headf 2 kc)) (k0_pay35 (headf 2 vc)) (k0_pay37 Qv (M 0) (headf 2 kc)) (k0_pay38 Qv (M 0) (headf 2 kc) (headf 2 vc))) Q) := by
  iintro HX Hk
  simp only [onBufs, k0_part12_eq_skeleton]; unfold k0_part12_skel
  simp only [Prog.lift, Prog.bind_op, Prog.bind_ret, Prog.pure_eq_ret]
  iapply (blk_load c _) $$ HX
  iintro %w8 HX
  iapply (blk_store c Qv M kc vc f 0 2 8 9 rfl rfl rfl rfl) $$ HX
  iintro HX
  iapply (blk_load c _) $$ HX
  iintro %w9 HX
  iapply (blk_store c Qv M kc vc f 1 2 9 10 rfl rfl rfl rfl) $$ HX
  iintro HX
  iapply (blk_load c _) $$ HX
  iintro %w10 HX
  iapply (blk_store c Qv M kc vc f 2 2 10 11 rfl rfl rfl rfl) $$ HX
  iintro HX
  iapply (wpc_ret c)
  iapply Hk $$ HX

theorem part13 (kc vc : KIdx → F .f32) {Q : (Σ' (v492 : FVec F S1024x128 .f32) (v494 : FVec F S1024x128 .f32) (v517 : FVec F S256x1 .f32), FVec F S256x128 .f32) → sProp (MT nD τ sig Unit (Elt F) ℕ UU ℕ)} :
    kP c kc ⊢ iprop(vP c vc -∗ ctxP c (mixC 11 (ctxOf Qv M kc vc) f) -∗ (kP c kc -∗ vP c vc -∗ ctxP c (mixC 13 (ctxOf Qv M kc vc) f) -∗ Q ⟨k0_pay44 (headf 3 kc), k0_pay45 (headf 3 vc), k0_pay48 Qv (M 1) (headf 3 kc), k0_pay49 Qv (M 1) (headf 3 kc) (headf 3 vc)⟩)
      -∗ wpc c (onBufs (k0_part13 (F := F)) Qv (M 0) (M 1) (k0_pay35 (headf 2 vc)) (k0_pay42 Qv (M 3) (k0_pay34 (headf 2 kc)))) Q) := by
  iintro HK HV HX Hk
  simp only [onBufs, k0_part13_eq_skeleton]; unfold k0_part13_skel
  simp only [Prog.lift, Prog.bind_op, Prog.bind_ret, Prog.pure_eq_ret]
  iapply (blk_load c _) $$ HX
  iintro %w11 HX
  iapply (blk_store c Qv M kc vc f 3 2 11 12 rfl rfl rfl rfl) $$ HX
  iintro HX
  iapply (k_load c 3 rfl kc) $$ HK
  iintro HK
  iapply (v_load c 3 rfl vc) $$ HV
  iintro HV
  iapply (blk_load c _) $$ HX
  iintro %w12 HX
  iapply (blk_store c Qv M kc vc f 0 3 12 13 rfl rfl rfl rfl) $$ HX
  iintro HX
  iapply (wpc_ret c)
  iapply Hk $$ HK HV HX

theorem part14 (kc vc : KIdx → F .f32) {Q : FVec F S1024x128 .f32 → sProp (MT nD τ sig Unit (Elt F) ℕ UU ℕ)} :
    kP c kc ⊢ iprop(ctxP c (mixC 13 (ctxOf Qv M kc vc) f) -∗ (kP c kc -∗ ctxP c (mixC 16 (ctxOf Qv M kc vc) f) -∗ Q (k0_pay53 (headf 4 kc)))
      -∗ wpc c (onBufs (k0_part14 (F := F)) Qv (M 2) (M 3) (k0_pay44 (headf 3 kc)) (k0_pay45 (headf 3 vc)) (k0_pay48 Qv (M 1) (headf 3 kc)) (k0_pay49 Qv (M 1) (headf 3 kc) (headf 3 vc))) Q) := by
  iintro HK HX Hk
  simp only [onBufs, k0_part14_eq_skeleton]; unfold k0_part14_skel
  simp only [Prog.lift, Prog.bind_op, Prog.bind_ret, Prog.pure_eq_ret]
  iapply (blk_load c _) $$ HX
  iintro %w13 HX
  iapply (blk_store c Qv M kc vc f 1 3 13 14 rfl rfl rfl rfl) $$ HX
  iintro HX
  iapply (blk_load c _) $$ HX
  iintro %w14 HX
  iapply (blk_store c Qv M kc vc f 2 3 14 15 rfl rfl rfl rfl) $$ HX
  iintro HX
  iapply (blk_load c _) $$ HX
  iintro %w15 HX
  iapply (blk_store c Qv M kc vc f 3 3 15 16 rfl rfl rfl rfl) $$ HX
  iintro HX
  iapply (k_load c 4 rfl kc) $$ HK
  iintro HK
  iapply (wpc_ret c)
  iapply Hk $$ HK HX

theorem part15 (kc vc : KIdx → F .f32) {Q : (Σ' (v556 : FVec F S1024x128 .f32) (v594 : FVec F S256x1 .f32), FVec F S256x128 .f32) → sProp (MT nD τ sig Unit (Elt F) ℕ UU ℕ)} :
    vP c vc ⊢ iprop(ctxP c (mixC 16 (ctxOf Qv M kc vc) f) -∗ (vP c vc -∗ ctxP c (mixC 18 (ctxOf Qv M kc vc) f) -∗ Q ⟨k0_pay54 (headf 4 vc), k0_pay58 Qv (M 2) (k0_pay53 (headf 4 kc)), k0_pay59 Qv (M 2) (k0_pay53 (headf 4 kc)) (headf 4 vc)⟩)
      -∗ wpc c (onBufs (k0_part15 (F := F)) Qv (M 0) (M 1) (M 2) (k0_pay53 (headf 4 kc))) Q) := by
  iintro HV HX Hk
  simp only [onBufs, k0_part15_eq_skeleton]; unfold k0_part15_skel
  simp only [Prog.lift, Prog.bind_op, Prog.bind_ret, Prog.pure_eq_ret]
  iapply (v_load c 4 rfl vc) $$ HV
  iintro HV
  iapply (blk_load c _) $$ HX
  iintro %w16 HX
  iapply (blk_store c Qv M kc vc f 0 4 16 17 rfl rfl rfl rfl) $$ HX
  iintro HX
  iapply (blk_load c _) $$ HX
  iintro %w17 HX
  iapply (blk_store c Qv M kc vc f 1 4 17 18 rfl rfl rfl rfl) $$ HX
  iintro HX
  iapply (wpc_ret c)
  iapply Hk $$ HV HX

theorem part16 (kc vc : KIdx → F .f32) {Q : (Σ' (v616 : FVec F S1024x128 .f32) (v618 : FVec F S1024x128 .f32), FVec F S256x128 .f32) → sProp (MT nD τ sig Unit (Elt F) ℕ UU ℕ)} :
    kP c kc ⊢ iprop(vP c vc -∗ ctxP c (mixC 18 (ctxOf Qv M kc vc) f) -∗ (kP c kc -∗ vP c vc -∗ ctxP c (mixC 20 (ctxOf Qv M kc vc) f) -∗ Q ⟨k0_pay62 (headf 5 kc), k0_pay63 (headf 5 vc), k0_pay64 Qv (M 0) (headf 5 kc) (headf 5 vc)⟩)
      -∗ wpc c (onBufs (k0_part16 (F := F)) Qv (M 0) (M 3) (k0_pay53 (headf 4 kc)) (k0_pay54 (headf 4 vc)) (k0_pay58 Qv (M 2) (k0_pay53 (headf 4 kc))) (k0_pay59 Qv (M 2) (k0_pay53 (headf 4 kc)) (headf 4 vc))) Q) := by
  iintro HK HV HX Hk
  simp only [onBufs, k0_part16_eq_skeleton]; unfold k0_part16_skel
  simp only [Prog.lift, Prog.bind_op, Prog.bind_ret, Prog.pure_eq_ret]
  iapply (blk_load c _) $$ HX
  iintro %w18 HX
  iapply (blk_store c Qv M kc vc f 2 4 18 19 rfl rfl rfl rfl) $$ HX
  iintro HX
  iapply (blk_load c _) $$ HX
  iintro %w19 HX
  iapply (blk_store c Qv M kc vc f 3 4 19 20 rfl rfl rfl rfl) $$ HX
  iintro HX
  iapply (k_load c 5 rfl kc) $$ HK
  iintro HK
  iapply (v_load c 5 rfl vc) $$ HV
  iintro HV
  iapply (blk_load c _) $$ HX
  iintro %w20 HX
  iapply (wpc_ret c)
  iapply Hk $$ HK HV HX

theorem part17 (kc vc : KIdx → F .f32) {Q : FVec F S256x128 .f32 → sProp (MT nD τ sig Unit (Elt F) ℕ UU ℕ)} :
    ctxP c (mixC 20 (ctxOf Qv M kc vc) f) ⊢ iprop((ctxP c (mixC 23 (ctxOf Qv M kc vc) f) -∗ Q (k0_pay68 Qv (M 3) (k0_pay62 (headf 5 kc)) (k0_pay63 (headf 5 vc))))
      -∗ wpc c (onBufs (k0_part17 (F := F)) Qv (M 1) (M 2) (M 3) (k0_pay62 (headf 5 kc)) (k0_pay63 (headf 5 vc)) (k0_pay64 Qv (M 0) (headf 5 kc) (headf 5 vc))) Q) := by
  iintro HX Hk
  simp only [onBufs, k0_part17_eq_skeleton]; unfold k0_part17_skel
  simp only [Prog.lift, Prog.bind_op, Prog.bind_ret, Prog.pure_eq_ret]
  iapply (blk_store c Qv M kc vc f 0 5 20 21 rfl rfl rfl rfl) $$ HX
  iintro HX
  iapply (blk_load c _) $$ HX
  iintro %w21 HX
  iapply (blk_store c Qv M kc vc f 1 5 21 22 rfl rfl rfl rfl) $$ HX
  iintro HX
  iapply (blk_load c _) $$ HX
  iintro %w22 HX
  iapply (blk_store c Qv M kc vc f 2 5 22 23 rfl rfl rfl rfl) $$ HX
  iintro HX
  iapply (wpc_ret c)
  iapply Hk $$ HX

theorem part18 (kc vc : KIdx → F .f32) {Q : (Σ' (v678 : FVec F S1024x128 .f32) (v680 : FVec F S1024x128 .f32), FVec F S256x128 .f32) → sProp (MT nD τ sig Unit (Elt F) ℕ UU ℕ)} :
    kP c kc ⊢ iprop(vP c vc -∗ ctxP c (mixC 23 (ctxOf Qv M kc vc) f) -∗ (kP c kc -∗ vP c vc -∗ ctxP c (mixC 25 (ctxOf Qv M kc vc) f) -∗ Q ⟨k0_pay70 (headf 6 kc), k0_pay71 (headf 6 vc), k0_pay73 Qv (M 1) (headf 6 kc) (headf 6 vc)⟩)
      -∗ wpc c (onBufs (k0_part18 (F := F)) Qv (M 0) (M 1) (k0_pay68 Qv (M 3) (k0_pay62 (headf 5 kc)) (k0_pay63 (headf 5 vc)))) Q) := by
  iintro HK HV HX Hk
  simp only [onBufs, k0_part18_eq_skeleton]; unfold k0_part18_skel
  simp only [Prog.lift, Prog.bind_op, Prog.bind_ret, Prog.pure_eq_ret]
  iapply (blk_load c _) $$ HX
  iintro %w23 HX
  iapply (blk_store c Qv M kc vc f 3 5 23 24 rfl rfl rfl rfl) $$ HX
  iintro HX
  iapply (k_load c 6 rfl kc) $$ HK
  iintro HK
  iapply (v_load c 6 rfl vc) $$ HV
  iintro HV
  iapply (blk_load c _) $$ HX
  iintro %w24 HX
  iapply (blk_store c Qv M kc vc f 0 6 24 25 rfl rfl rfl rfl) $$ HX
  iintro HX
  iapply (blk_load c _) $$ HX
  iintro %w25 HX
  iapply (wpc_ret c)
  iapply Hk $$ HK HV HX

theorem part19 (kc vc : KIdx → F .f32) {Q : (Σ' (v740 : FVec F S1024x128 .f32) (v742 : FVec F S1024x128 .f32), FVec F S256x256 .f32) → sProp (MT nD τ sig Unit (Elt F) ℕ UU ℕ)} :
    kP c kc ⊢ iprop(vP c vc -∗ ctxP c (mixC 25 (ctxOf Qv M kc vc) f) -∗ (kP c kc -∗ vP c vc -∗ ctxP c (mixC 28 (ctxOf Qv M kc vc) f) -∗ Q ⟨k0_pay77 (headf 7 kc), k0_pay78 (headf 7 vc), k0_pay79 Qv (headf 7 kc)⟩)
      -∗ wpc c (onBufs (k0_part19 (F := F)) Qv (M 2) (M 3) (k0_pay70 (headf 6 kc)) (k0_pay71 (headf 6 vc)) (k0_pay73 Qv (M 1) (headf 6 kc) (headf 6 vc))) Q) := by
  iintro HK HV HX Hk
  simp only [onBufs, k0_part19_eq_skeleton]; unfold k0_part19_skel
  simp only [Prog.lift, Prog.bind_op, Prog.bind_ret, Prog.pure_eq_ret]
  iapply (blk_store c Qv M kc vc f 1 6 25 26 rfl rfl rfl rfl) $$ HX
  iintro HX
  iapply (blk_load c _) $$ HX
  iintro %w26 HX
  iapply (blk_store c Qv M kc vc f 2 6 26 27 rfl rfl rfl rfl) $$ HX
  iintro HX
  iapply (blk_load c _) $$ HX
  iintro %w27 HX
  iapply (blk_store c Qv M kc vc f 3 6 27 28 rfl rfl rfl rfl) $$ HX
  iintro HX
  iapply (k_load c 7 rfl kc) $$ HK
  iintro HK
  iapply (v_load c 7 rfl vc) $$ HV
  iintro HV
  iapply (wpc_ret c)
  iapply Hk $$ HK HV HX

theorem part20 (kc vc : KIdx → F .f32) {Q : FVec F S256x128 .f32 → sProp (MT nD τ sig Unit (Elt F) ℕ UU ℕ)} :
    ctxP c (mixC 28 (ctxOf Qv M kc vc) f) ⊢ iprop((ctxP c (mixC 30 (ctxOf Qv M kc vc) f) -∗ Q (k0_pay82 Qv (M 2) (k0_pay77 (headf 7 kc)) (k0_pay78 (headf 7 vc))))
      -∗ wpc c (onBufs (k0_part20 (F := F)) Qv (M 0) (M 1) (M 2) (k0_pay77 (headf 7 kc)) (k0_pay78 (headf 7 vc)) (k0_pay79 Qv (headf 7 kc))) Q) := by
  iintro HX Hk
  simp only [onBufs, k0_part20_eq_skeleton]; unfold k0_part20_skel
  simp only [Prog.lift, Prog.bind_op, Prog.bind_ret, Prog.pure_eq_ret]
  iapply (blk_load c _) $$ HX
  iintro %w28 HX
  iapply (blk_store c Qv M kc vc f 0 7 28 29 rfl rfl rfl rfl) $$ HX
  iintro HX
  iapply (blk_load c _) $$ HX
  iintro %w29 HX
  iapply (blk_store c Qv M kc vc f 1 7 29 30 rfl rfl rfl rfl) $$ HX
  iintro HX
  iapply (blk_load c _) $$ HX
  iintro %w30 HX
  iapply (wpc_ret c)
  iapply Hk $$ HX

theorem part21 (w1 w2 : BitVec 32) (fA0 : OIdx → F .f32) (kc vc : KIdx → F .f32) (hX : X c = ctxOf Qv M kc vc) (hW : W c = WO m c) {Q : BitVec 32 → sProp (MT nD τ sig Unit (Elt F) ℕ UU ℕ)} :
    recs (prodP X W) m K ⊢ iprop(cpSt m c 2 1 -∗ Ow c (debt c 0) -∗ sent c 0 0 fA0 -∗ ctxP c (mixC 30 (ctxOf Qv M kc vc) f) -∗ (cpSt m c 2 2 -∗ Ow c (debt c 0) -∗ woP c (W c) -∗ sent c 0 0 (R (prodP X W) 0 c) -∗ ctxP c (X c) -∗ (∀ v, Q v))
      -∗ wpc c (onBufs (k0_part21 (F := F)) c w1 w2 Qv (M 3) (k0_pay77 (headf 7 kc)) (k0_pay78 (headf 7 vc)) (k0_pay82 Qv (M 2) (k0_pay77 (headf 7 kc)) (k0_pay78 (headf 7 vc)))) Q) := by
  iintro #Hrec HC2 HO HA0 HX Hk
  simp only [onBufs, k0_part21_eq_skeleton]; unfold k0_part21_skel
  simp only [Prog.lift, Prog.bind_op, Prog.bind_ret, Prog.pure_eq_ret]
  iapply (blk_store c Qv M kc vc f 2 7 30 31 rfl rfl rfl rfl) $$ HX
  iintro HX
  iapply (blk_load c _) $$ HX
  iintro %w31 HX
  iapply (blk_store c Qv M kc vc f 3 7 31 32 rfl rfl rfl rfl) $$ HX
  iintro HX
  iapply (cp_wait m (prodP X W) K c 2 0 rfl rfl) $$ Hrec HC2 HO
  iintro ⟨HO, HC2, HW⟩
  ihave HW := (Entails.of_eq (show dstP m c 2 = woP c (W c) by rw [hW]; rfl)) $$ HW
  rw [mixC_all, ← hX]
  iapply (ctx_load c (off3_eq c) (X c)) $$ HX
  iintro HX
  iapply (prod_step X W c 0 (sst_mod c 0) rfl (off4_eq c) fA0 k0_pay85 rfl) $$ HW HA0
  iintro ⟨HW, HA0⟩
  iapply (wpc_ret c)
  iapply Hk $$ HC2 HO HW HA0 HX

end Parts

end Cert.Strips
end
-- ==== Proof.Start.lean ====
/-
# `Start`: the local copies, the barrier and the masks
-/
module

public import proofs.«01_k».proof.Proof.Attn

@[expose] public section

noncomputable section

namespace Cert.Strips

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → OIdx → F .f32) (m : (ℓ : Loc nD τ sig) → Buf (Elt F) ℓ) (K : Dev nD × CI → ℕ) (c : Dev nD)

/-- A device's activations. -/
def xP (c : Dev nD) (f : S1x1024x1024.Idx → F .f32) : sProp 𝕄 := (c : Thread nD τ).loc cc0_stg0_0 ↦{fullShare} f

/-- The keys each of the four query blocks may see, by its masks. -/
def msk : (q : Fin 4) → IVec (sS q) 1
  | 0 => k0_pay4 (iota .tc S256x256 32 [0] iota_S256x256_d0_w32) 64#32 k0_pay2 k0_pay3
  | 1 => k0_pay7 (iota .tc S256x512 32 [0] iota_S256x512_d0_w32) 64#32 k0_pay5 k0_pay6 0#32
  | 2 => k0_pay14 (k0_pay10 (iota .tc S256x768 32 [0] iota_S256x768_d0_w32) 64#32 k0_pay8 k0_pay9) k0_pay11 k0_pay12 k0_pay13
  | 3 => k0_pay19 k0_pay15 (iota .tc S256x1024 32 [1] iota_S256x1024_d1_w32) k0_pay16 k0_pay17 k0_pay18

/-- What a device hands its neighbour along direction `q` at the barrier. -/
def mine (q : Fin 3) : sProp 𝕄 := bigSep Finset.univ fun p : Fin 3 => iprop(∃ f, comP (F := F) c (cbox (q - p) p) f)

theorem dev1_flip : (⟨k0_dev1 c, k0_dev1_lt c⟩ : Dev nD) = flip c 0 := dev1_eq c
theorem dev2_flip : (⟨k0_dev2 c, k0_dev2_lt c⟩ : Dev nD) = flip c 1 := dev2_eq c
theorem dev3_flip : (⟨k0_dev3 c, k0_dev3_lt c⟩ : Dev nD) = flip c 2 := dev3_eq c

section Steps
variable {α : Type} {Q : α → sProp (MT nD τ sig Unit (Elt F) ℕ UU ℕ)} {k : PUnit → Prog (TpuEff nD τ sig (Elt F) Λ₀ .tc) α}

/-- The start of a local copy. -/
theorem cp_start (i : Fin 4) {sp : Space} {sem : DmaSem sig} (b : Ref sig .tc)
    {src : Memref sig .tc sp b.ty.shape b.ty.elt} {hsrc : src.view.WordExact} {hdst : (Memref.whole b).view.WordExact}
    {hsem : DmaTarget.Typed (nD := nD) (τ := τ) (p := .tc) sp (.dma sem) (.here (Memref.whole b))}
    (hs : SemLoc.dma sem = osem (.inl i)) (hN : (Memref.whole b).view.amount (.dma sem) = amtO (.inl i))
    (fs : Buf (Elt F) (src.view.loc (c : Thread nD τ))) (fd : b.ty.Contents (Elt F))
    (hsP : srcP m c i = (src.view.loc (c : Thread nD τ) ↦[src.view.set]{fullShare} fs))
    (hdP : ((c : Thread nD τ).loc b ↦{fullShare} (src.view.read (Elt F) fs)) = dstP m c i) :
    recs P m K ⊢ iprop(cpSt m c i 0 -∗ ((c : Thread nD τ).loc b ↦{fullShare} fd) -∗ (cpSt m c i 1 -∗ wpc c (k ⟨⟩) Q)
      -∗ wpc c (.op (.enqueueDma src (.here (Memref.whole b)) (.dma sem) hsrc hdst hsem) k) Q) := by
  have hc : cell c (some (.inl i)) = ((c : Thread nD τ), SemLoc.dma sem) := by rw [hs]
  iintro #Hrec Hst Hd Hk
  simp only [cpSt]
  icases Hst with ⟨Htok, Hat, Hs⟩
  ihave #HI := (recs_inv P m K c (some (.inl i))) $$ Hrec
  ihave #Hr := (recs_reached P m K c (some (.inl i))) $$ Hrec
  ihave Hs := (Entails.of_eq hsP) $$ Hs
  iapply (Rounds.wp_copy_pointsTo 𝒱₀ ER (sched P m) (c : Thread nD τ) none (src := src) (dst := Memref.whole b) (sem := .dma sem) (κ := K (c, some (.inl i)))
      (q := fullShare) (fs := fs) (fd := fd) (r := 0) (d := 0) (by rw [← hc]; exact own_mem P m c _) () (amtO (.inl i)) hN
      (by rw [← hc, amount_eq]; rfl)
      (by
        rw [← hc, payload_eq]
        show _ ⊢ cpPay m c i
        rw [cpPay_eq, hsP, ← hdP]
        show iprop(((Memref.whole b).view.loc (c : Thread nD τ) ↦[(View.whole b).set]{fullShare} ((View.whole b).write (Elt F) fd (src.view.read (Elt F) fs) Finset.univ)) ∗ _) ⊢ _
        rw [View.write_whole_univ, View.set_whole])) $$ [Hs Hd Htok]
  · rw [← hc]
    isplitr; · iexact HI
    isplitl [Hs]; · iexact Hs
    isplitl [Hd]
    · ihave Hd := (Entails.of_eq (show ((c : Thread nD τ).loc b ↦{fullShare} fd : sProp 𝕄) = ((Memref.whole b).view.loc (c : Thread nD τ) ↦[(Memref.whole b).view.set]{fullShare} fd) by
        show _ = (((Memref.whole b).view.loc (c : Thread nD τ) ↦[(View.whole b).set]{fullShare} fd) : sProp 𝕄)
        rw [View.set_whole])) $$ Hd
      iexact Hd
    isplitl [Htok]; · iexact Htok
    iexact Hr
  rw [← hc]
  iintro Hc
  iapply Hk
  isplitl [Hat]; · iexact Hat
  iexact Hc

/-- A signal at the barrier. -/
theorem bar_signal (q : Fin 3) {O O' : CellTallies nD τ sig Unit} (hO : O = O' + tallyAt (cell (flip c q) none) () 1) {d' : Dev nD} (hd : d' = flip c q)
    {n : ℕ} (hn : n = 1) :
    recs P m K ⊢ iprop(Ow c O -∗ dutyTok ER (cell (flip c q) none) 0 q -∗ mine c q -∗ (Ow c O' -∗ wpc c (k ⟨⟩) Q)
      -∗ wpc c (.op (.semSignal (Dev.tc d' : Thread nD τ) barS n) k) Q) := by
  subst hd hn
  have hp : mine (F := F) c q ⊢ (sched P m).payload ((Dev.tc (flip c q) : Thread nD τ), SemLoc.reg barS) 0 q := by
    show _ ⊢ (sched P m).payload (cell (flip c q) none) 0 q
    rw [payload_eq]
    show _ ⊢ barPay (flip c q) q
    unfold barPay mine
    rw [flip_flip]
  iintro #Hrec HO Htok Hm Hk
  unfold Ow
  icases HO with ⟨%W, HO⟩
  ihave #HI := (recs_inv P m K (flip c q) none) $$ Hrec
  ihave #Hr := (recs_reached P m K (flip c q) none) $$ Hrec
  iapply (Rounds.wp_signal 𝒱₀ ER (sched P m) (c : Thread nD τ) none (dst := (Dev.tc (flip c q) : Thread nD τ)) (κ := K (flip c q, none)) (r := 0) (d := q)
      (by show q ∈ (sched P m).duties (cell (flip c q) none) 0; rw [duties_eq]; exact Finset.mem_univ _)
      (amount_eq P m (flip c q) none 0 q) () O' hO) $$ [HO Htok Hm]
  · isplitr; · iexact HI
    isplitl [HO]; · iexact HO
    isplitl [Htok]; · iexact Htok
    isplitl [Hm]; · iapply hp; iexact Hm
    iexact Hr
  iintro HO
  iapply Hk
  iexists _; iexact HO

/-- The wait at the barrier: each neighbour has handed over its parts of its landing buffer. -/
theorem bar_wait {n : ℕ} (hn : n = 3) :
    recs P m K ⊢ iprop(cred (tallyAt (cell c none) () 3) -∗ Ow c (debt c 0) -∗ atPos ER (cell c none) 0 ∅ 0
      -∗ ((Ow c (debt c 0) ∗ semVal (cell c none) 0 ∗ barPay c 0 ∗ barPay c 1 ∗ barPay c 2) -∗ wpc c (k ⟨⟩) Q)
      -∗ wpc c (.op (.semWait barS n) k) Q) := by
  subst hn
  iintro #Hrec Hc HO Hat Hk
  unfold Ow
  icases HO with ⟨%W, HO⟩
  ihave #HI := (recs_inv P m K c none) $$ Hrec
  ihave #Hlev := (recs_lev P m K) $$ Hrec
  ihave Hmw := (mayWait_debt c none 0 (by decide)) $$ Hlev
  rw [← rest_bar P m c]
  iapply (Rounds.wp_wait_rest_token 𝒱₀ ER (sched P m) (c : Thread nD τ) none (κ := K (c, none))
      (wpE_semWait_eq 𝒱₀ (c : Thread nD τ) none Set.univ) (Set.mem_univ _) () (O := debt c 0) (W := W) (R := 0) (m := 0) (T := ∅)
      (by show 0 + 3 = (sched P m).expect (cell c none) 0; rw [expect_bar])) $$ [Hc HO Hat Hmw]
  · isplitr; · iexact HI
    isplitl [Hc]; · iexact Hc
    isplitl [HO]; · iexact HO
    isplitl [Hmw]; · iexact Hmw
    iexact Hat
  iintro ⟨HO, Hat, -, Hpay⟩
  imod (Rounds.cell_close ER (sched P m) (Set.mem_univ (K (c, none))) (fun h => h) (R := 0 + 1) (duties_later P m (cell c none))) $$ [Hat] with Hz
  · isplitr; · iexact HI
    iexact Hat
  iapply Hk
  isplitl [HO]; · iexists _; iexact HO
  isplitl [Hz]; · iexact Hz
  iexact Hpay

/-- The loads of the activations and of the query weights. -/
theorem x_load (f : S1x1024x1024.Idx → F .f32)
    {inb : ∀ a, (![0, 0, 0] : Fin 3 → ℕ) a + S1x1024x1024.size a ≤ S1x1024x1024.size a} {hl} {k : (S1x1024x1024.Idx → Elt F .f32) → Prog (TpuEff nD τ sig (Elt F) Λ₀ .tc) α} :
    xP c f ⊢ iprop((xP c f -∗ wpc c (k f) Q)
      -∗ wpc c (.op (.load (e := .f32) (Memref.whole cc0_stg0_0 : Memref sig .tc .vmem S1x1024x1024 .f32) (Rect.unit (s := S1x1024x1024) ![0, 0, 0] S1x1024x1024.size inb).toLoadRect hl) k) Q) := by
  have e : f = fun x => f ((Rect.unit (s := S1x1024x1024) ![0, 0, 0] S1x1024x1024.size inb).idx x) := by
    funext x
    congr 1
    funext a
    apply Fin.ext
    fin_cases a
    · show (x 0).val = 0 + 1 * (x 0).val; omega
    · show (x 1).val = 0 + 1 * (x 1).val; omega
    · show (x 2).val = 0 + 1 * (x 2).val; omega
  iintro Ho Hk
  unfold xP
  iapply (wp_load_rect 𝒱₀ (c : Thread nD τ) none Set.univ (m := (Memref.whole cc0_stg0_0 : Memref sig .tc .vmem S1x1024x1024 .f32)) (r := Rect.unit (s := S1x1024x1024) ![0, 0, 0] S1x1024x1024.size inb) (Finset.subset_univ _)) $$ Ho
  iintro Ho
  ihave Hk := (Entails.of_eq (congrArg (fun g => iprop(((c : Thread nD τ).loc cc0_stg0_0 ↦{fullShare} f) -∗ wpc c (k g) Q)) e)) $$ Hk
  iapply Hk
  iexact Ho
theorem wq_load (f : S1024x1024.Idx → F .f32)
    {inb : ∀ a, (![0, 0] : Fin 2 → ℕ) a + S1024x1024.size a ≤ S1024x1024.size a} {hl} {k : (S1024x1024.Idx → Elt F .f32) → Prog (TpuEff nD τ sig (Elt F) Λ₀ .tc) α} :
    wqP c f ⊢ iprop((wqP c f -∗ wpc c (k f) Q)
      -∗ wpc c (.op (.load (e := .f32) (Memref.whole cc0_scratch2 : Memref sig .tc .vmem S1024x1024 .f32) (Rect.unit (s := S1024x1024) ![0, 0] S1024x1024.size inb).toLoadRect hl) k) Q) := by
  have e : f = fun x => f ((Rect.unit (s := S1024x1024) ![0, 0] S1024x1024.size inb).idx x) := by
    funext x
    congr 1
    funext a
    apply Fin.ext
    fin_cases a
    · show (x 0).val = 0 + 1 * (x 0).val; omega
    · show (x 1).val = 0 + 1 * (x 1).val; omega
  iintro Ho Hk
  unfold wqP
  iapply (wp_load_rect 𝒱₀ (c : Thread nD τ) none Set.univ (m := (Memref.whole cc0_scratch2 : Memref sig .tc .vmem S1024x1024 .f32)) (r := Rect.unit (s := S1024x1024) ![0, 0] S1024x1024.size inb) (Finset.subset_univ _)) $$ Ho
  iintro Ho
  ihave Hk := (Entails.of_eq (congrArg (fun g => iprop(((c : Thread nD τ).loc cc0_scratch2 ↦{fullShare} f) -∗ wpc c (k g) Q)) e)) $$ Hk
  iapply Hk
  iexact Ho

end Steps

/-! ## The parts -/

section Parts

theorem src_whole (b : Ref sig .tc) (f : b.ty.Contents (Elt F)) :
    ((c : Thread nD τ).loc b ↦{fullShare} f : sProp 𝕄) = ((Memref.whole b).view.loc (c : Thread nD τ) ↦[(Memref.whole b).view.set]{fullShare} f) := by
  show _ = (((Memref.whole b).view.loc (c : Thread nD τ) ↦[(View.whole b).set]{fullShare} f) : sProp 𝕄)
  rw [View.set_whole]

theorem src0 : srcP m c 0 = ((Memref.whole main_arg2).view.loc (c : Thread nD τ) ↦[(Memref.whole main_arg2).view.set]{fullShare} m ((c : Thread nD τ).loc main_arg2)) := src_whole c main_arg2 _
theorem src1 : srcP m c 1 = ((Memref.whole main_arg3).view.loc (c : Thread nD τ) ↦[(Memref.whole main_arg3).view.set]{fullShare} m ((c : Thread nD τ).loc main_arg3)) := src_whole c main_arg3 _
theorem src3 : srcP m c 3 = ((wqM c).view.loc (c : Thread nD τ) ↦[(wqM c).view.set]{fullShare} m ((c : Thread nD τ).loc main_arg1)) := by unfold srcP; rfl
theorem src2 : srcP m c 2 = ((woM c).view.loc (c : Thread nD τ) ↦[(woM c).view.set]{fullShare} m ((c : Thread nD τ).loc main_arg4)) := by unfold srcP; rfl
theorem dst3 : ((c : Thread nD τ).loc cc0_scratch2 ↦{fullShare} ((wqM c).view.read (Elt F) (m ((c : Thread nD τ).loc main_arg1)))) = dstP m c 3 := by unfold dstP wqP WQ; rfl
theorem dst2 : ((c : Thread nD τ).loc cc0_scratch5 ↦{fullShare} ((woM c).view.read (Elt F) (m ((c : Thread nD τ).loc main_arg4)))) = dstP m c 2 := by unfold dstP woP WO; rfl
theorem dst0 : ((c : Thread nD τ).loc cc0_scratch3 ↦{fullShare} ((Memref.whole main_arg2).view.read (Elt F) (m ((c : Thread nD τ).loc main_arg2)))) = dstP m c 0 := by unfold dstP kP KC; rfl
theorem dst1 : ((c : Thread nD τ).loc cc0_scratch4 ↦{fullShare} ((Memref.whole main_arg3).view.read (Elt F) (m ((c : Thread nD τ).loc main_arg3)))) = dstP m c 1 := by unfold dstP vP VC; rfl

theorem part1 (fq fo : S1024x1024.Idx → F .f32) (fk fv : KIdx → F .f32)
    {Q : (Σ' (d0 : Dev nD) (v2 : BitVec 32) (v24 : BitVec 32) (c2_i32_10 : BitVec 32) (v25 : BitVec 32) (v30 : BitVec 32) (v32 : BitVec 32), BitVec 1) → sProp (MT nD τ sig Unit (Elt F) ℕ UU ℕ)} :
    recs P m K ⊢ iprop(cpSt m c 3 0 -∗ cpSt m c 0 0 -∗ cpSt m c 1 0 -∗ cpSt m c 2 0 -∗ wqP c fq -∗ kP c fk -∗ vP c fv -∗ woP c fo
      -∗ (cpSt m c 3 1 -∗ cpSt m c 0 1 -∗ cpSt m c 1 1 -∗ cpSt m c 2 1 -∗ (∀ v2 v24 c2 v25 v30 v32 v33, Q ⟨c, v2, v24, c2, v25, v30, v32, v33⟩))
      -∗ wpc c (onBufs (k0_part1 (F := F))) Q) := by
  iintro #Hrec HC3 HC0 HC1 HC2 HQ HK HV HW Hk
  simp only [onBufs, k0_part1_eq_skeleton]; unfold k0_part1_skel
  simp only [Prog.lift, Prog.bind_op, Prog.bind_ret, Prog.pure_eq_ret, wp_deviceId]
  unfold wqP kP vP woP
  iapply (cp_start P m K c 3 cc0_scratch2 (src := wqM c) rfl rfl (m ((c : Thread nD τ).loc main_arg1)) fq (src3 m c) (dst3 m c)) $$ Hrec HC3 HQ
  iintro HC3
  iapply (cp_start P m K c 0 cc0_scratch3 (src := Memref.whole main_arg2) rfl rfl (m ((c : Thread nD τ).loc main_arg2)) fk (src0 m c) (dst0 m c)) $$ Hrec HC0 HK
  iintro HC0
  iapply (cp_start P m K c 1 cc0_scratch4 (src := Memref.whole main_arg3) rfl rfl (m ((c : Thread nD τ).loc main_arg3)) fv (src1 m c) (dst1 m c)) $$ Hrec HC1 HV
  iintro HC1
  iapply (cp_start P m K c 2 cc0_scratch5 (src := woM c) rfl rfl (m ((c : Thread nD τ).loc main_arg4)) fo (src2 m c) (dst2 m c)) $$ Hrec HC2 HW
  iintro HC2
  iapply (wpc_ret c)
  iapply Hk $$ HC3 HC0 HC1 HC2

theorem part2 (w0 w1 w2 w3 w4 w5 : BitVec 32) (b : BitVec 1)
    {Q : (Σ' (v51 : BitVec 32) (v68 : BitVec 32) (v69 : BitVec 32), Sems sig S_) → sProp (MT nD τ sig Unit (Elt F) ℕ UU ℕ)} :
    recs P m K ⊢ iprop(Ow c (O₀ c) -∗ dutyTok ER (cell (flip c 0) none) 0 0 -∗ mine c 0
      -∗ (Ow c (debt1 c) -∗ (∀ v51 v68 v69, Q ⟨v51, v68, v69, SemArray.scalar (sig.barrier 0 rfl)⟩))
      -∗ wpc c (onBufs (k0_part2 (F := F)) c w0 w1 w2 w3 w4 w5 b) Q) := by
  iintro #Hrec HO Ht Hm Hk
  simp only [onBufs, k0_part2_eq_skeleton]; unfold k0_part2_skel
  simp only [semSignalWord, Prog.lift, Prog.bind_op, Prog.bind_ret, Prog.pure_eq_ret]
  iapply (bar_signal P m K c 0 (O := O₀ c) (O' := debt1 c) rfl (dev1_flip c) rfl) $$ Hrec HO Ht Hm
  iintro HO
  iapply (wpc_ret c)
  iapply Hk $$ HO

theorem part3 (w0 : BitVec 32) (fx : S1x1024x1024.Idx → F .f32)
    {Q : (Σ' (v88 : FVec F S1024x1024 .f32) (v89 : IVec S256x256 32) (c64_i32 : BitVec 32) (v91 : IVec S256x256 32), IVec S256x256 1) → sProp (MT nD τ sig Unit (Elt F) ℕ UU ℕ)} :
    recs P m K ⊢ iprop(Ow c (debt1 c) -∗ dutyTok ER (cell (flip c 1) none) 0 1 -∗ mine c 1 -∗ dutyTok ER (cell (flip c 2) none) 0 2 -∗ mine c 2
      -∗ cred (tallyAt (cell c none) () 3) -∗ atPos ER (cell c none) 0 ∅ 0 -∗ xP c fx -∗ cpSt m c 3 1
      -∗ (Ow c (debt c 0) -∗ semVal (cell c none) 0 -∗ barPay c 0 -∗ barPay c 1 -∗ barPay c 2 -∗ xP c fx -∗ cpSt m c 3 2 -∗ wqP c (WQ m c)
        -∗ Q ⟨k0_pay1 fx (WQ m c), iota .tc S256x256 32 [0] iota_S256x256_d0_w32, 64#32, k0_pay2, k0_pay3⟩)
      -∗ wpc c (onBufs (k0_part3 (F := F)) c w0 (SemArray.scalar (sig.barrier 0 rfl))) Q) := by
  iintro #Hrec HO Ht1 Hm1 Ht2 Hm2 Hc Hat HX HC3 Hk
  simp only [onBufs, k0_part3_eq_skeleton]; unfold k0_part3_skel
  simp only [semSignalWord, semWaitWord, Prog.lift, Prog.bind_op, Prog.bind_ret, Prog.pure_eq_ret]
  iapply (bar_signal P m K c 1 (O := debt1 c) (O' := debt2 c) rfl (dev2_flip c) rfl) $$ Hrec HO Ht1 Hm1
  iintro HO
  iapply (bar_signal P m K c 2 (O := debt2 c) (O' := debt c 0) rfl (dev3_flip c) rfl) $$ Hrec HO Ht2 Hm2
  iintro HO
  iapply (bar_wait P m K c rfl) $$ Hrec Hc HO Hat
  iintro ⟨HO, Hz, Hb0, Hb1, Hb2⟩
  iapply (x_load c fx) $$ HX
  iintro HX
  iapply (cp_wait m P K c 3 0 rfl rfl) $$ Hrec HC3 HO
  iintro ⟨HO, HC3, HQ⟩
  ihave HQ := (Entails.of_eq (show dstP m c 3 = wqP c (WQ m c) from rfl)) $$ HQ
  iapply (wq_load c (WQ m c)) $$ HQ
  iintro HQ
  iapply (wpc_ret c)
  iapply Hk $$ HO Hz Hb0 Hb1 Hb2 HX HC3 HQ

theorem part4 {Q : (Σ' (v141 : IVec S256x256 1) (v142 : IVec S256x512 32) (c64_i32_63 : BitVec 32) (v144 : IVec S256x512 32) (v151 : IVec S256x512 32), BitVec 32) → sProp (MT nD τ sig Unit (Elt F) ℕ UU ℕ)} :
    Q ⟨msk 0, iota .tc S256x512 32 [0] iota_S256x512_d0_w32, 64#32, k0_pay5, k0_pay6, 0#32⟩
      ⊢ wpc c (onBufs (k0_part4 (F := F)) (iota .tc S256x256 32 [0] iota_S256x256_d0_w32) 64#32 k0_pay2 k0_pay3) Q := by
  simp only [onBufs, k0_part4_eq_skeleton]; unfold k0_part4_skel
  exact wpc_ret c _

theorem part5 {Q : (Σ' (v194 : IVec S256x512 1) (v195 : IVec S256x768 32) (c64_i32_78 : BitVec 32) (v197 : IVec S256x768 32), IVec S256x768 32) → sProp (MT nD τ sig Unit (Elt F) ℕ UU ℕ)} :
    Q ⟨msk 1, iota .tc S256x768 32 [0] iota_S256x768_d0_w32, 64#32, k0_pay8, k0_pay9⟩
      ⊢ wpc c (onBufs (k0_part5 (F := F)) (iota .tc S256x512 32 [0] iota_S256x512_d0_w32) 64#32 k0_pay5 k0_pay6 0#32) Q := by
  simp only [onBufs, k0_part5_eq_skeleton]; unfold k0_part5_skel
  exact wpc_ret c _

theorem part6 {Q : (Σ' (v221 : IVec S256x768 32) (v224 : IVec S256x768 32) (v243 : IVec S256x768 1), IVec S256x768 32) → sProp (MT nD τ sig Unit (Elt F) ℕ UU ℕ)} :
    Q ⟨k0_pay10 (iota .tc S256x768 32 [0] iota_S256x768_d0_w32) 64#32 k0_pay8 k0_pay9, k0_pay11, k0_pay12, k0_pay13⟩
      ⊢ wpc c (onBufs (k0_part6 (F := F)) (iota .tc S256x768 32 [0] iota_S256x768_d0_w32) 64#32 k0_pay8 k0_pay9) Q := by
  simp only [onBufs, k0_part6_eq_skeleton]; unfold k0_part6_skel
  exact wpc_ret c _

theorem part7 {Q : (Σ' (v247 : IVec S256x768 1) (v274 : IVec S256x1024 32) (v275 : IVec S256x1024 32) (v277 : IVec S256x1024 32) (v291 : IVec S256x1024 1), IVec S256x1024 32) → sProp (MT nD τ sig Unit (Elt F) ℕ UU ℕ)} :
    Q ⟨msk 2, k0_pay15, iota .tc S256x1024 32 [1] iota_S256x1024_d1_w32, k0_pay16, k0_pay17, k0_pay18⟩
      ⊢ wpc c (onBufs (k0_part7 (F := F)) (k0_pay10 (iota .tc S256x768 32 [0] iota_S256x768_d0_w32) 64#32 k0_pay8 k0_pay9) k0_pay11 k0_pay12 k0_pay13) Q := by
  simp only [onBufs, k0_part7_eq_skeleton]; unfold k0_part7_skel
  exact wpc_ret c _

end Parts

end Cert.Strips
end
-- ==== Proof.Body.lean ====
/-
# `Body`: one device's run of the kernel

The parts in their order, from what a device holds at the launch to what it holds when the kernel ends.
-/
module

public import proofs.«01_k».proof.Proof.Start

@[expose] public section

noncomputable section

namespace Cert.Strips

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem wpc_bind (c : Dev nD) {α β : Type} {p : Prog (TpuEff nD τ sig (Elt F) Λ₀ .tc) α} {k : α → Prog (TpuEff nD τ sig (Elt F) Λ₀ .tc) β}
    {Q : β → sProp (MT nD τ sig Unit (Elt F) ℕ UU ℕ)} : wpc c p (fun a => wpc c (k a) Q) ⊢ wpc c (p >>= k) Q := by
  unfold wpc; rw [wp_bind]

/-! ## The pieces a device holds -/

/-- One thing for each strip and each level. -/
def nine (Φ : Fin 3 → Fin 3 → sProp 𝕄) : sProp 𝕄 :=
  iprop(Φ 0 0 ∗ Φ 0 1 ∗ Φ 0 2 ∗ Φ 1 0 ∗ Φ 1 1 ∗ Φ 1 2 ∗ Φ 2 0 ∗ Φ 2 1 ∗ Φ 2 2)
omit [FloatOps F] in
theorem nine_eq (Φ : Fin 3 → Fin 3 → sProp 𝕄) : bigSep Finset.univ (fun x : Fin 3 × Fin 3 => Φ x.1 x.2) = nine Φ :=
  bigSep_eq_bigSepL_of_eq [((0 : Fin 3), (0 : Fin 3)), ((0 : Fin 3), (1 : Fin 3)), ((0 : Fin 3), (2 : Fin 3)), ((1 : Fin 3), (0 : Fin 3)), ((1 : Fin 3), (1 : Fin 3)), ((1 : Fin 3), (2 : Fin 3)), ((2 : Fin 3), (0 : Fin 3)), ((2 : Fin 3), (1 : Fin 3)), ((2 : Fin 3), (2 : Fin 3))] (by decide) (by decide) _

omit [FloatOps F] in
theorem three_eq (Φ : Fin 3 → sProp 𝕄) : bigSep Finset.univ Φ = iprop(Φ 0 ∗ Φ 1 ∗ Φ 2) :=
  bigSep_eq_bigSepL_of_eq [(0 : Fin 3), 1, 2] (by decide) (by decide) _

/-- A level of a strip before its partner's part of the landing buffer is known to be free. -/
def rsPre (c : Dev nD) (p l : Fin 3) : sProp 𝕄 :=
  iprop(tok c (oS p l) ∗ tok (prt c p l) (oR p l) ∗ at0 c (oS p l) ∗ at0 c (oR p l) ∗ crd c (oR p l))
/-- The partner's part of its landing buffer. -/
def cm (c : Dev nD) (p l : Fin 3) : sProp 𝕄 := iprop(∃ f, comP (F := F) (prt c p l) (cbox l p) f)
theorem rs_intro (P : Dev nD → OIdx → F .f32) (c : Dev nD) (p l : Fin 3) : rsPre c p l ⊢ iprop(cm c p l -∗ rsSt P c p l 0) := by
  unfold rsPre cm
  iintro ⟨H1, H2, H3, H4, H5⟩ H6
  simp only [rsSt]
  iframe

omit [FloatOps F] in
theorem bar0 (c : Dev nD) : barPay (F := F) c 0 ⊢ iprop(cm c 0 0 ∗ cm c 1 2 ∗ cm c 2 1) := by
  unfold barPay; rw [three_eq]; exact Entails.of_eq rfl
omit [FloatOps F] in
theorem bar1 (c : Dev nD) : barPay (F := F) c 1 ⊢ iprop(cm c 0 1 ∗ cm c 1 0 ∗ cm c 2 2) := by
  unfold barPay; rw [three_eq]; exact Entails.of_eq rfl
omit [FloatOps F] in
theorem bar2 (c : Dev nD) : barPay (F := F) c 2 ⊢ iprop(cm c 0 2 ∗ cm c 1 1 ∗ cm c 2 0) := by
  unfold barPay; rw [three_eq]; exact Entails.of_eq rfl

omit [FloatOps F] in
/-- The output is its three strips. -/
theorem out_strips (c : Dev nD) (f : OIdx → F .f32) :
    outP c Finset.univ f = iprop(outP c (obox 0 1024 0) f ∗ outP c (obox 0 1024 1) f ∗ outP c (obox 0 1024 2) f) := by
  unfold outP
  rw [ostrip_univ, pointsTo_biUnion _ _ (fun x _ y _ h => ostrip_disj x y h)]
  exact three_eq _

variable (m : (ℓ : Loc nD τ sig) → Buf (Elt F) ℓ) (K : Dev nD × CI → ℕ) (X W : Dev nD → S1024x1024.Idx → F .f32) (c : Dev nD)

/-- What a device starts the kernel with, its tokens, positions, credits and copies. -/
def held0 : sProp 𝕄 :=
  iprop(dutyTok ER (cell (flip c 0) none) 0 0 ∗ dutyTok ER (cell (flip c 1) none) 0 1 ∗ dutyTok ER (cell (flip c 2) none) 0 2
    ∗ mine c 0 ∗ mine c 1 ∗ mine c 2 ∗ cred (tallyAt (cell c none) () 3) ∗ atPos ER (cell c none) 0 ∅ 0
    ∗ cpSt m c 0 0 ∗ cpSt m c 1 0 ∗ cpSt m c 2 0 ∗ cpSt m c 3 0 ∗ nine (rsPre c) ∗ nine (fun p t => agSt c p t 0))
/-- What it ends with. -/
def held1 (P : Dev nD → OIdx → F .f32) : sProp 𝕄 :=
  iprop(semVal (cell c none) 0 ∗ cpSt m c 0 2 ∗ cpSt m c 1 2 ∗ cpSt m c 2 2 ∗ cpSt m c 3 2
    ∗ nine (fun p l => rsSt P c p l 5) ∗ nine (fun p t => agSt c p t 3))
/-- Its scratch buffers but the landing buffer, at anything. -/
def bufs : sProp 𝕄 := iprop((∃ f, ctxP (F := F) c f) ∗ (∃ f, wqP (F := F) c f) ∗ (∃ f, kP (F := F) c f) ∗ (∃ f, vP (F := F) c f) ∗ ∃ f, woP (F := F) c f)

/-- What is left before the last wait. -/
def held2 (P : Dev nD → OIdx → F .f32) : sProp 𝕄 :=
  iprop(semVal (cell c none) 0 ∗ cpSt m c 0 2 ∗ cpSt m c 1 2 ∗ cpSt m c 2 2 ∗ cpSt m c 3 2
    ∗ nine (fun p l => rsSt P c p l 5) ∗ agSt c 0 0 3 ∗ agSt c 0 1 3 ∗ agSt c 0 2 3 ∗ agSt c 1 0 3 ∗ agSt c 1 1 3 ∗ agSt c 1 2 3 ∗ agSt c 2 0 3 ∗ agSt c 2 1 3)

set_option maxRecDepth 65536 in
set_option maxHeartbeats 4000000 in
theorem body_parts (fx : S1x1024x1024.Idx → F .f32) (fo : OIdx → F .f32)
    (hX : X c = ctxOf (k0_pay1 fx (WQ m c)) msk (KC m c) (VC m c)) (hW : W c = WO m c)
    {Q : Dev nD → sProp (MT nD τ sig Unit (Elt F) ℕ UU ℕ)} :
    recs (prodP X W) m K ⊢ iprop(held0 m c -∗ bufs c -∗ outP c Finset.univ fo -∗ xP c fx -∗ Ow c (O₀ c)
      -∗ (held2 m c (prodP X W) -∗ bufs c -∗ outP c (obox 0 1024 0) (FIN (prodP X W)) -∗ outP c (obox 0 1024 1) (FIN (prodP X W))
        -∗ kept c 2 0 (FIN (prodP X W)) -∗ agSt c 2 2 2 -∗ xP c fx -∗ Ow c (debt c 18) -∗ Q c)
      -∗ wpc c (onBufs (k0_part47 (F := F))) Q) := by
  iintro #Hrec Hh Hbufs Hout Hx HO Hk
  unfold held0 bufs nine
  icases Hh with ⟨Ht0, Ht1, Ht2, Hm0, Hm1, Hm2, Hc, Hat, Hcp0, Hcp1, Hcp2, Hcp3, HS, HG⟩
  icases HS with ⟨HS00, HS01, HS02, HS10, HS11, HS12, HS20, HS21, HS22⟩
  icases HG with ⟨HG00, HG01, HG02, HG10, HG11, HG12, HG20, HG21, HG22⟩
  icases Hbufs with ⟨⟨%fc, HX⟩, ⟨%fq, HQ⟩, ⟨%fk, HK⟩, ⟨%fv, HV⟩, %fw, HW⟩
  ihave Hout := (Entails.of_eq (out_strips c fo)) $$ Hout
  icases Hout with ⟨HT0, HT1, HT2⟩
  ihave HT0 := (out_first c 0 fo).1 $$ HT0
  ihave HT1 := (out_first c 1 fo).1 $$ HT1
  ihave HT2 := (out_first c 2 fo).1 $$ HT2
  icases HT0 with ⟨HA00, HB00⟩
  icases HT1 with ⟨HA10, HB10⟩
  icases HT2 with ⟨HA20, HB20⟩
  ihave HX := (Entails.of_eq (congrArg (ctxP c) (mixC_zero (ctxOf (k0_pay1 fx (WQ m c)) msk (KC m c) (VC m c)) fc).symm)) $$ HX
  simp only [onBufs, k0_part47_eq_skeleton]; unfold k0_part47_skel
  iapply (wpc_bind c)
  iapply (part1 (prodP X W) m K c _ _ _ _) $$ Hrec Hcp3 Hcp0 Hcp1 Hcp2 HQ HK HV HW
  iintro Hcp3 Hcp0 Hcp1 Hcp2 %v21 %v241 %c21 %v251 %v301 %v321 %v331
  try dsimp only
  iapply (wpc_bind c)
  iapply (part2 (prodP X W) m K c _ _ _ _ _ _ _) $$ Hrec HO Ht0 Hm0
  iintro HO %v512 %v682 %v692
  try dsimp only
  iapply (wpc_bind c)
  iapply (part3 (prodP X W) m K c _ fx) $$ Hrec HO Ht1 Hm1 Ht2 Hm2 Hc Hat Hx Hcp3
  iintro HO Hz Hb0 Hb1 Hb2 Hx Hcp3 HQ
  try dsimp only
  ihave Hb0 := (bar0 c) $$ Hb0
  ihave Hb1 := (bar1 c) $$ Hb1
  ihave Hb2 := (bar2 c) $$ Hb2
  icases Hb0 with ⟨HC00, HC12, HC21⟩
  icases Hb1 with ⟨HC01, HC10, HC22⟩
  icases Hb2 with ⟨HC02, HC11, HC20⟩
  ihave HS00 := (rs_intro (prodP X W) c 0 0) $$ HS00 HC00
  ihave HS01 := (rs_intro (prodP X W) c 0 1) $$ HS01 HC01
  ihave HS02 := (rs_intro (prodP X W) c 0 2) $$ HS02 HC02
  ihave HS10 := (rs_intro (prodP X W) c 1 0) $$ HS10 HC10
  ihave HS11 := (rs_intro (prodP X W) c 1 1) $$ HS11 HC11
  ihave HS12 := (rs_intro (prodP X W) c 1 2) $$ HS12 HC12
  ihave HS20 := (rs_intro (prodP X W) c 2 0) $$ HS20 HC20
  ihave HS21 := (rs_intro (prodP X W) c 2 1) $$ HS21 HC21
  ihave HS22 := (rs_intro (prodP X W) c 2 2) $$ HS22 HC22
  iapply (wpc_bind c)
  iapply (part4)
  try dsimp only
  iapply (wpc_bind c)
  iapply (part5)
  try dsimp only
  iapply (wpc_bind c)
  iapply (part6)
  try dsimp only
  iapply (wpc_bind c)
  iapply (part7)
  try dsimp only
  iapply (wpc_bind c)
  iapply (part8 m (prodP X W) K c (k0_pay1 fx (WQ m c)) msk fc _ _ _ _ _ rfl) $$ Hrec Hcp0 Hcp1 HO HX
  iintro Hcp0 Hcp1 HO HK HV HX
  try dsimp only
  iapply (wpc_bind c)
  iapply (part9 c (k0_pay1 fx (WQ m c)) msk fc (KC m c) (VC m c)) $$ HX
  iintro HX
  try dsimp only
  iapply (wpc_bind c)
  iapply (part10 c (k0_pay1 fx (WQ m c)) msk fc (KC m c) (VC m c)) $$ HK HV HX
  iintro HK HV HX
  try dsimp only
  iapply (wpc_bind c)
  iapply (part11 c (k0_pay1 fx (WQ m c)) msk fc (KC m c) (VC m c)) $$ HK HV HX
  iintro HK HV HX
  try dsimp only
  iapply (wpc_bind c)
  iapply (part12 c (k0_pay1 fx (WQ m c)) msk fc (KC m c) (VC m c)) $$ HX
  iintro HX
  try dsimp only
  iapply (wpc_bind c)
  iapply (part13 c (k0_pay1 fx (WQ m c)) msk fc (KC m c) (VC m c)) $$ HK HV HX
  iintro HK HV HX
  try dsimp only
  iapply (wpc_bind c)
  iapply (part14 c (k0_pay1 fx (WQ m c)) msk fc (KC m c) (VC m c)) $$ HK HX
  iintro HK HX
  try dsimp only
  iapply (wpc_bind c)
  iapply (part15 c (k0_pay1 fx (WQ m c)) msk fc (KC m c) (VC m c)) $$ HV HX
  iintro HV HX
  try dsimp only
  iapply (wpc_bind c)
  iapply (part16 c (k0_pay1 fx (WQ m c)) msk fc (KC m c) (VC m c)) $$ HK HV HX
  iintro HK HV HX
  try dsimp only
  iapply (wpc_bind c)
  iapply (part17 c (k0_pay1 fx (WQ m c)) msk fc (KC m c) (VC m c)) $$ HX
  iintro HX
  try dsimp only
  iapply (wpc_bind c)
  iapply (part18 c (k0_pay1 fx (WQ m c)) msk fc (KC m c) (VC m c)) $$ HK HV HX
  iintro HK HV HX
  try dsimp only
  iapply (wpc_bind c)
  iapply (part19 c (k0_pay1 fx (WQ m c)) msk fc (KC m c) (VC m c)) $$ HK HV HX
  iintro HK HV HX
  try dsimp only
  iapply (wpc_bind c)
  iapply (part20 c (k0_pay1 fx (WQ m c)) msk fc (KC m c) (VC m c)) $$ HX
  iintro HX
  try dsimp only
  iapply (wpc_bind c)
  iapply (part21 m K X W c (k0_pay1 fx (WQ m c)) msk fc _ _ _ (KC m c) (VC m c) hX hW) $$ Hrec Hcp2 HO HA00 HX
  iintro Hcp2 HO HW HA00 HX %v21
  try dsimp only
  iapply (wpc_bind c)
  iapply (part22 m K X W c _ _ _ _) $$ Hrec HA00 HS00 HO HX HW HA10
  iintro HS00 HO HX HW HA10 %v22
  try dsimp only
  iapply (wpc_bind c)
  iapply (part23 m K X W c _ _ _ _) $$ Hrec HA10 HS10 HO HX HW HA20 HS20
  iintro HS10 HO HX HW HS20 %a23 %b23
  try dsimp only
  iapply (wpc_bind c)
  iapply (part24 m K X W c _ _ _ _ _ _) $$ Hrec HW HB00 HX HB10 HB20
  iintro HW HB00 HX HB10 HB20
  try dsimp only
  iapply (wpc_bind c)
  iapply (part25 (prodP X W) m K c _ _ _ _) $$ Hrec HS00 HO HB00
  iintro HS00 HO HB01 HA01 %v25
  try dsimp only
  iapply (wpc_bind c)
  iapply (part26 (prodP X W) m K c _ _ _) $$ Hrec HA01 HS01 HO HS10
  iintro HS01 HO HS10 %v26
  try dsimp only
  iapply (wpc_bind c)
  iapply (part27 (prodP X W) m K c _ _ _ _) $$ Hrec HS10 HB10 HS11 HO
  iintro HS10 HB11 HS11 HO %v27
  try dsimp only
  iapply (wpc_bind c)
  iapply (part28 (prodP X W) m K c _ _ _ _) $$ Hrec HS20 HO HB20
  iintro HS20 HO HB21 HA21 %v28
  try dsimp only
  iapply (wpc_bind c)
  iapply (part29 (prodP X W) m K c _ _) $$ Hrec HA21 HS21 HO HS01
  iintro HS21 HO HS01 %v29
  try dsimp only
  iapply (wpc_bind c)
  iapply (part30 (prodP X W) m K c _ _ _ _ _) $$ Hrec HS01 HB01 HS02 HO
  iintro HS01 HB02 HS02 HO %v30
  try dsimp only
  iapply (wpc_bind c)
  iapply (part31 (prodP X W) m K c _ _ _) $$ Hrec HS11 HO HB11
  iintro HS11 HO HB11 %w %hw
  try dsimp only
  iapply (wpc_bind c)
  iapply (part32 (prodP X W) m K c _ _ _ _ w hw) $$ Hrec HB11 HS12 HO HS21
  iintro HB12 HS12 HO HS21 %v32
  try dsimp only
  iapply (wpc_bind c)
  iapply (part33 (prodP X W) m K c _ _ _ _ _) $$ Hrec HS21 HO HB21
  iintro HS21 HO HB22 HA22 %v33
  try dsimp only
  iapply (wpc_bind c)
  iapply (part34 (prodP X W) m K c _ _ _ _) $$ Hrec HA22 HS22 HO HS02
  iintro HS22 HO HS02 %v34
  try dsimp only
  iapply (wpc_bind c)
  iapply (part35 (prodP X W) m K c _ _ _ _ _) $$ Hrec HS02 HB02 HG00 HO
  iintro HS02 HG00 HO %v35
  try dsimp only
  iapply (wpc_bind c)
  iapply (part36 (prodP X W) m K c _ _ _ _) $$ Hrec HS12 HO HB12
  iintro HS12 HO HB12 %v36
  try dsimp only
  iapply (wpc_bind c)
  iapply (part37 (prodP X W) m K c _ _ _ _ _ _) $$ Hrec HB12 HS12 HG10 HO HS22
  iintro HS12 HG10 HO HS22 %v37
  try dsimp only
  iapply (wpc_bind c)
  iapply (part38 (prodP X W) m K c _ _ _ _) $$ Hrec HS22 HO HB22
  iintro HS22 HO HB22 %v38
  try dsimp only
  iapply (wpc_bind c)
  iapply (part39 (prodP X W) m K c _ _ _ _) $$ Hrec HB22 HS22 HG20 HO HG00
  iintro HS22 HG20 HO HG00 HB01 %v39
  try dsimp only
  iapply (wpc_bind c)
  iapply (part40 (prodP X W) m K c _ _ _ _ _) $$ Hrec HB01 HS01 HG01 HO HG10
  iintro HS01 HG01 HO HG10 HB11 %v40
  try dsimp only
  iapply (wpc_bind c)
  iapply (part41 (prodP X W) m K c _ _ _) $$ Hrec HB11 HS11 HG11 HO HG20
  iintro HS11 HG11 HO HG20 HB21 %v41
  obtain ⟨v41, v41b⟩ := v41
  try dsimp only
  iapply (wpc_bind c)
  iapply (part42 (prodP X W) m K c _ _ _ _ _) $$ Hrec HB21 HS21 HG21 HO HG01
  iintro HS21 HG21 HO HG01 HB00 %v42
  try dsimp only
  iapply (wpc_bind c)
  iapply (part43 (prodP X W) m K c _ _ _) $$ Hrec HB00 HS00 HG02 HO HG11
  iintro HS00 HG02 HO HG11 HB11 %v43
  try dsimp only
  iapply (wpc_bind c)
  iapply (part44 (prodP X W) m K c _ _ _) $$ Hrec HG11 HO HB11 HS10 HG12 HG21
  iintro HG11 HO HS10 HG12 HG21 HB21 %v44
  try dsimp only
  iapply (wpc_bind c)
  iapply (part45 (prodP X W) m K c _ _ _) $$ Hrec HG21 HO HB21 HS20 HG22 HG02
  iintro HG21 HO HS20 HG22 HG02 HB00 %v45
  try dsimp only
  iapply (wpc_bind c)
  iapply (part46 (prodP X W) m K c _) $$ Hrec HG02 HO HB00 HG12 HG22
  iintro HG02 HO HT0 HG12 HT1 HG22 HB20
  try dsimp only
  iapply (wpc_ret c)
  iapply Hk $$ [Hz Hcp0 Hcp1 Hcp2 Hcp3 HS00 HS01 HS02 HS10 HS11 HS12 HS20 HS21 HS22 HG00 HG01 HG02 HG10 HG11 HG12 HG20 HG21] [HX HQ HK HV HW] HT0 HT1 HB20 HG22 Hx HO
  · unfold held2 nine; iframe
  · isplitl [HX]; · iexists _; iexact HX
    isplitl [HQ]; · iexists _; iexact HQ
    isplitl [HK]; · iexists _; iexact HK
    isplitl [HV]; · iexists _; iexact HV
    iexists _; iexact HW

/-- A device's run of the kernel. -/
theorem body_run (fx : S1x1024x1024.Idx → F .f32) (fo : OIdx → F .f32)
    (hX : X c = ctxOf (k0_pay1 fx (WQ m c)) msk (KC m c) (VC m c)) (hW : W c = WO m c)
    {Q : PUnit → sProp (MT nD τ sig Unit (Elt F) ℕ UU ℕ)} :
    recs (prodP X W) m K ⊢ iprop(held0 m c -∗ bufs c -∗ outP c Finset.univ fo -∗ xP c fx -∗ Ow c (O₀ c)
      -∗ (held1 m c (prodP X W) -∗ bufs c -∗ outP c Finset.univ (FIN (prodP X W)) -∗ xP c fx -∗ Ow c 0 -∗ Q ⟨⟩)
      -∗ wpc c (onBufs (cc0_body (F := F))) Q) := by
  iintro #Hrec Hh Hbufs Hout Hx HO Hk
  simp only [onBufs, cc0_body_eq_skeleton]; unfold cc0_body_skel
  iapply (wpc_bind c)
  iapply (body_parts m K X W c fx fo hX hW) $$ Hrec Hh Hbufs Hout Hx HO
  iintro Hh Hbufs HT0 HT1 HB2 HG22 Hx HO
  simp only [Prog.lift, Prog.bind_op, Prog.bind_ret, Prog.pure_eq_ret]
  iapply (ag_wait_recv (prodP X W) m K c 2 2 18 0 rfl (by decide) rfl rfl) $$ Hrec HG22 HO
  iintro ⟨HG22, HA2, HO⟩
  ihave HT2 := (out_first c 2 _).2 $$ [HA2 HB2]
  · iframe
  iapply (wpc_ret c)
  rw [debt_end]
  unfold held2 nine
  icases Hh with ⟨Hz, Hcp0, Hcp1, Hcp2, Hcp3, HS, HG00, HG01, HG02, HG10, HG11, HG12, HG20, HG21⟩
  iapply Hk $$ [Hz Hcp0 Hcp1 Hcp2 Hcp3 HS HG00 HG01 HG02 HG10 HG11 HG12 HG20 HG21 HG22] Hbufs [HT0 HT1 HT2] Hx HO
  · unfold held1 nine; iframe
  · iapply (Entails.of_eq (out_strips c (FIN (prodP X W))).symm); iframe

end Cert.Strips
end
-- ==== Proof.Deal.lean ====
/-
# `Deal`: what the launch deals each device

The cells of every device are opened at once, their tokens go to the devices that pay with them, and each device gets the
credit of the cells its neighbours owe.
-/
module

public import proofs.«01_k».proof.Proof.Body

@[expose] public section

noncomputable section

namespace Cert.Strips

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families taken apart -/

omit [FloatOps F] in
theorem four_eq (Φ : Fin 4 → sProp 𝕄) : bigSep Finset.univ Φ = iprop(Φ 0 ∗ Φ 1 ∗ Φ 2 ∗ Φ 3) :=
  bigSep_eq_bigSepL_of_eq [(0 : Fin 4), 1, 2, 3] (by decide) (by decide) _
omit [FloatOps F] in
theorem nine_sep (Φ Ψ : Fin 3 → Fin 3 → sProp 𝕄) : nine (fun p l => iprop(Φ p l ∗ Ψ p l)) = iprop(nine Φ ∗ nine Ψ) := by
  rw [← nine_eq, ← nine_eq, ← nine_eq]; exact bigSep_sep' _ _ _
omit [FloatOps F] in
theorem nine_mono {Φ Ψ : Fin 3 → Fin 3 → sProp 𝕄} (h : ∀ p l, Φ p l ⊢ Ψ p l) : nine Φ ⊢ nine Ψ := by
  rw [← nine_eq, ← nine_eq]; exact bigSep_mono fun x _ => h x.1 x.2
omit [FloatOps F] in
/-- A device's own cells: the local copies', and for each kind the nine. -/
theorem own_eq (Φ : OI → sProp 𝕄) :
    bigSep Finset.univ Φ = iprop((Φ (.inl 0) ∗ Φ (.inl 1) ∗ Φ (.inl 2) ∗ Φ (.inl 3))
      ∗ nine (fun p l => Φ (oS p l)) ∗ nine (fun p l => Φ (oR p l)) ∗ nine (fun p t => Φ (oA p t)) ∗ nine (fun p t => Φ (oG p t))) := by
  have h : bigSep Finset.univ Φ = iprop(bigSep Finset.univ (fun i : Fin 4 => Φ (.inl i)) ∗ bigSep Finset.univ (fun x : Fin 4 × Fin 3 × Fin 3 => Φ (.inr x))) :=
    bigSep_univ_sum Φ
  rw [h, four_eq, bigSep_univ_prod (fun x : Fin 4 × Fin 3 × Fin 3 => Φ (.inr x)), four_eq]
  rw [nine_eq (fun p l => Φ (.inr (0, p, l))), nine_eq (fun p l => Φ (.inr (1, p, l))), nine_eq (fun p l => Φ (.inr (2, p, l))), nine_eq (fun p l => Φ (.inr (3, p, l)))]
omit [FloatOps F] in
/-- The barrier's cell and the own ones. -/
theorem ci_eq (Φ : CI → sProp 𝕄) : bigSep Finset.univ Φ = iprop(Φ none ∗ bigSep Finset.univ (fun o : OI => Φ (some o))) := by
  have h : (Finset.univ : Finset CI) = insert none (Finset.univ.map Function.Embedding.some) := by decide
  rw [h, bigSep_insert (by decide), bigSep_map]; rfl

/-! ## The tokens -/

theorem kcell_injective : Function.Injective (kcell : Dev nD × CI → GSem nD τ sig) := by
  rintro ⟨c, k⟩ ⟨c', k'⟩ h
  obtain ⟨rfl, rfl⟩ := cell_injective h
  rfl
def allCells : Finset (GSem nD τ sig) := Finset.univ.map ⟨kcell, kcell_injective⟩

/-- A device's duties: three at its barrier, one at each own cell. -/
abbrev TI : Type := Fin 3 ⊕ OI
abbrev tokOf (x : Dev nD × TI) : GSem nD τ sig × ℕ × Fin 3 := match x.2 with
  | .inl q => (cell x.1 none, 0, q)
  | .inr o => (cell x.1 (some o), 0, 0)
theorem tokOf_injective : Function.Injective tokOf := by
  rintro ⟨c, j⟩ ⟨c', j'⟩ h
  rcases j with q | o <;> rcases j' with q' | o'
  · obtain ⟨rfl, -⟩ := cell_injective (congrArg Prod.fst h)
    have : q = q' := congrArg (fun x : GSem nD τ sig × ℕ × Fin 3 => x.2.2) h
    rw [this]
  · exact absurd (cell_injective (congrArg Prod.fst h)).2 (by simp)
  · exact absurd (cell_injective (congrArg Prod.fst h)).2 (by simp)
  · obtain ⟨rfl, h2⟩ := cell_injective (congrArg Prod.fst h)
    rw [Option.some.inj h2]
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

abbrev tokAt (c : Dev nD) (j : TI) : sProp 𝕄 := dutyTok ER (tokOf (c, j)).1 (tokOf (c, j)).2.1 (tokOf (c, j)).2.2
/-- Whose duty `j` a device pays. -/
def payee : TI → Dev nD ≃ Dev nD
  | .inl q => flipEquiv q
  | .inr (.inl _) => Equiv.refl _
  | .inr (.inr (k, p, t)) => if k = 1 ∨ k = 3 then flipEquiv (p + lvl k t) else Equiv.refl _

variable (P : Dev nD → OIdx → F .f32) (m : (ℓ : Loc nD τ sig) → Buf (Elt F) ℓ) (K : Dev nD × CI → ℕ) (c : Dev nD)

def posAt (c : Dev nD) : sProp 𝕄 := bigSep Finset.univ fun k : CI => atPos ER (kcell (c, k)) 0 ∅ 0
def reachAt (c : Dev nD) : sProp 𝕄 := bigSep Finset.univ fun k : CI => reached ER (kcell (c, k)) 0
def toks (c : Dev nD) : sProp 𝕄 := bigSep Finset.univ fun j : TI => tokAt c j
def payToks (c : Dev nD) : sProp 𝕄 := bigSep Finset.univ fun j : TI => tokAt (payee j c) j

/-- What the launch deals a device, and what it holds when the cells are open. -/
def G (c : Dev nD) : sProp 𝕄 :=
  iprop((bigSep Finset.univ fun k : CI => roundState ER (sched P m) (kcell (c, k)) 0) ∗ (posAt c ∗ reachAt c) ∗ toks c)
def cellsK : sProp 𝕄 := bigSep Finset.univ (fun ck : Dev nD × CI => iprop(cellInv ER (sched P m) (K ck) (kcell ck) ∗ reached ER (kcell ck) 0))
instance cellsK_persistent : BI.Persistent (cellsK P m K) := by unfold cellsK; infer_instance
def G' (c : Dev nD) : sProp 𝕄 := iprop(∃ K, cellsK P m K ∗ posAt c ∗ payToks c)

theorem deal_tokens : BI.own (ER (initOf allCells allToks)) ⊢ (|==> bigSep Finset.univ (G P m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (sched P m) allCells allToks) $$ HX with ⟨Hst, Hr, Hat, Htok⟩
  imodintro
  ihave Hst := (Entails.of_eq (hX fun g => roundState ER (sched P m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G posAt reachAt; simp only [bigSep_sep']
  isplitl [Hst]; · iexact Hst
  isplitl [Hat Hr]
  · isplitl [Hat] <;> iassumption
  iexact Htok

omit [FloatOps F] in
/-- The launch's one semaphore outside the kernel is the barrier's. -/
theorem unscopedSems0_eq (c : Dev nD) : (unscopedSems0 c : sProp 𝕄) = semVal (cell c none) 0 := by
  unfold unscopedSems0; rw [bigSep_eq_bigSepL_of_eq [SemLoc.reg barS] (by decide) (by decide)]; rfl
omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, ci_eq]
  unfold Pipeline.ownSems0
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G P m c)
      ⊢ |={Set.univ}=> iprop((bigSep Finset.univ fun k => iprop(∃ κ : ℕ, cellInv ER (sched P m) κ (kcell (c, k)))) ∗ (posAt c ∗ reachAt c) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (sched P m) (kcell (c, k)) 0)
      ⊢ (|={Set.univ}=> bigSep Finset.univ fun k => iprop(∃ κ : ℕ, cellInv ER (sched P m) κ (kcell (c, k))) : sProp 𝕄) from by
        rw [← bigSep_sep']
        exact (bigSep_mono fun k _ => (Rounds.body_intro ER (sched P m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Each token goes to the device that pays with it. -/
theorem toks_around : (bigSep Finset.univ fun c : Dev nD => (toks c : sProp 𝕄)) = bigSep Finset.univ fun c : Dev nD => payToks c := by
  unfold toks payToks
  rw [bigSep_univ_comm, bigSep_univ_comm (fun (c : Dev nD) (j : TI) => tokAt (F := F) (payee j c) j)]
  exact bigSep_congr fun j _ => (bigSep_univ_equiv (payee j) (fun c : Dev nD => tokAt (F := F) c j))

theorem regroup :
    (bigSep Finset.univ fun c : Dev nD => iprop((bigSep Finset.univ fun k => iprop(∃ κ : ℕ, cellInv ER (sched P m) κ (kcell (c, k))))
          ∗ (posAt c ∗ reachAt c) ∗ toks c) : sProp 𝕄)
      ⊢ bigSep Finset.univ (G' P m) := by
  rw [bigSep_sep', bigSep_sep', bigSep_sep', toks_around, ← bigSep_univ_prod (fun ck : Dev nD × CI => iprop(∃ κ : ℕ, cellInv ER (sched P m) κ (kcell ck)))]
  unfold reachAt
  rw [← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (sched P m) κ (kcell ck) : sProp 𝕄))) $$ HI
  icases HK with ⟨%K, #HI⟩
  ihave #HK : cellsK P m K $$ []
  · unfold cellsK
    rw [bigSep_sep']
    isplitl
    · iexact HI
    iexact HR
  ihave H := (Entails.of_eq (bigSep_sep' Finset.univ (posAt (F := F)) payToks).symm) $$ [Hat Htok]
  · isplitl [Hat] <;> iassumption
  iapply ((sep_mono_left (BI.bigSep_of_persistent Finset.univ (cellsK P m K))).trans
    ((Entails.of_eq (bigSep_sep' Finset.univ (fun _ : Dev nD => cellsK P m K) (fun c => iprop(posAt c ∗ payToks c))).symm).trans
      (bigSep_mono fun c _ => show iprop(cellsK P m K ∗ posAt c ∗ payToks c) ⊢ G' P m c from by
        unfold G'; iintro ⟨H1, H2, H3⟩; iexists K; iframe)))
  isplitr
  · iexact HK
  iexact H

theorem glob : (bigSep Finset.univ fun c => iprop(Pipeline.ownSems0 (Ix := Unit) (Name := ℕ) (U := UU) (Lvl := ℕ) (Val := Elt F) (τ := τ) osem c ∗ unscopedSems0 c ∗ G P m c) : sProp 𝕄)
    ⊢ |={Set.univ}=> bigSep Finset.univ (G' P m) :=
  ((bigSep_mono fun c _ => core_alloc P m c).trans (bigSep_fupd _ _)).trans (BI.fupd_mono (regroup P m))

/-! ## The credits -/

theorem trO_inj : ∀ i j : Fin 18, trO i.val = trO j.val → i = j := by decide

/-- What the devices together owe a device's cell in the transfers. -/
theorem owed_debt (c : Dev nD) (k : CI) : ∑ d : Dev nD, debt d 0 (cell c k) () = ∑ j ∈ Finset.Ico 0 18, if k = some (trO j) then amtO (trO j) else 0 := by
  unfold debt
  simp only [Finset.sum_apply, Finsupp.finset_sum_apply]
  rw [Finset.sum_comm]
  refine Finset.sum_congr rfl fun j _ => ?_
  unfold term
  have h : ∀ d : Dev nD, (tallyAt (cell (trD d j) (some (trO j))) () (amtO (trO j)) : CellTallies nD τ sig Unit) (cell c k) ()
      = if d = trD c j then (if k = some (trO j) then amtO (trO j) else 0) else 0 := by
    intro d
    rw [tallyAt_apply]
    by_cases hk : k = some (trO j)
    · by_cases hd : d = trD c j
      · rw [if_pos hd, if_pos hk, if_pos ⟨by rw [hk, hd]; unfold trD; rw [prt_prt], rfl⟩]
      · rw [if_neg hd, if_neg (fun h => hd (by rw [(cell_injective h.1).1]; unfold trD; rw [prt_prt]))]
    · rw [if_neg (fun h => hk (cell_injective h.1).2), if_neg hk, ite_self]
  rw [Finset.sum_congr rfl fun d _ => h d, Finset.sum_ite_eq' Finset.univ (trD c j), if_pos (Finset.mem_univ _)]

theorem owed_flip (c : Dev nD) (k : CI) (q : Fin 3) :
    ∑ d : Dev nD, (tallyAt (cell (flip d q) none) () 1 : CellTallies nD τ sig Unit) (cell c k) () = if k = none then 1 else 0 := by
  have h : ∀ d : Dev nD, (tallyAt (cell (flip d q) none) () 1 : CellTallies nD τ sig Unit) (cell c k) ()
      = if d = flip c q then (if k = none then 1 else 0) else 0 := by
    intro d
    rw [tallyAt_apply]
    by_cases hk : k = none
    · by_cases hd : d = flip c q
      · rw [if_pos hd, if_pos hk, if_pos ⟨by rw [hk, hd, flip_flip], rfl⟩]
      · rw [if_neg hd, if_neg (fun h => hd (by rw [(cell_injective h.1).1, flip_flip]))]
    · rw [if_neg (fun h => hk (cell_injective h.1).2), if_neg hk, ite_self]
  rw [Finset.sum_congr rfl fun d _ => h d, Finset.sum_ite_eq' Finset.univ (flip c q), if_pos (Finset.mem_univ _)]

theorem owed_all (c : Dev nD) (k : CI) : ∑ d : Dev nD, O₀ d (cell c k) ()
    = (∑ j ∈ Finset.Ico 0 18, if k = some (trO j) then amtO (trO j) else 0) + 3 * (if k = none then 1 else 0) := by
  unfold O₀ debt1 debt2
  simp only [Pi.add_apply, Finsupp.add_apply]
  rw [Finset.sum_add_distrib, Finset.sum_add_distrib, Finset.sum_add_distrib, owed_debt, owed_flip, owed_flip, owed_flip]
  omega

theorem launch_cell (c : Dev nD) (k : CI) (n : ℕ) (h : ∑ d : Dev nD, O₀ d (cell c k) () = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, h]

theorem owed_bar (c : Dev nD) : ∑ d : Dev nD, O₀ d (cell c none) () = 3 := by
  rw [owed_all, if_pos rfl, Finset.sum_eq_zero (fun j _ => if_neg (by simp))]
theorem owed_tr (c : Dev nD) (o : OI) (n : Fin 18) (h : trO n.val = o) : ∑ d : Dev nD, O₀ d (cell c (some o)) () = amtO o := by
  subst h
  rw [owed_all, if_neg (by simp), Nat.mul_zero, Nat.add_zero, Finset.sum_eq_single n.val, if_pos rfl]
  · intro j hj hne
    rw [Finset.mem_Ico] at hj
    exact if_neg fun h => hne (congrArg Fin.val (trO_inj ⟨j, hj.2⟩ n (Option.some.inj h).symm))
  · intro hn; exact absurd (Finset.mem_Ico.mpr ⟨Nat.zero_le _, n.isLt⟩) hn

theorem rs_num : ∀ p l : Fin 3, ∃ n : Fin 18, trO n.val = oR p l := by decide
theorem ag_num : ∀ p t : Fin 3, ∃ n : Fin 18, trO n.val = oG p t := by decide

omit [FloatOps F] in
theorem creds (c : Dev nD) :
    (Pipeline.launchCred O₀ c : sProp 𝕄) ⊢ iprop(cred (tallyAt (cell c none) () 3) ∗ nine (fun p l => crd c (oR p l)) ∗ nine (fun p t => crd c (oG p t))) := by
  have hc (o : OI) (n : Fin 18) (h : trO n.val = o) : cred (tallyOn (cell c (some o)) (launchCredit (Pipeline.owing O₀) 0 (cell c (some o)))) ⊢ (crd c o : sProp 𝕄) := by
    rw [launch_cell c (some o) _ (owed_tr c o n h)]
  have hs : (Finset.univ.map ⟨csem, csem_injective⟩ : Finset (SemLoc sig)) ⊆ Finset.univ := Finset.subset_univ _
  have h0 : (Pipeline.launchCred O₀ c : sProp 𝕄)
      ⊢ bigSep Finset.univ (fun k : CI => cred (tallyOn (cell c k) (launchCredit (Pipeline.owing O₀) 0 (cell c k)))) := by
    unfold Pipeline.launchCred
    exact (bigSep_subset hs).trans (Entails.of_eq (bigSep_map _))
  iintro H
  ihave H := h0 $$ H
  ihave H := (Entails.of_eq (ci_eq _)) $$ H
  icases H with ⟨HB, H⟩
  ihave H := (Entails.of_eq (own_eq _)) $$ H
  icases H with ⟨-, -, HR, -, HG⟩
  isplitl [HB]
  · iapply (Entails.of_eq (congrArg cred (launch_cell c none 3 (owed_bar c)))); iexact HB
  isplitl [HR]
  · iapply (nine_mono (fun p l => by obtain ⟨n, hn⟩ := rs_num p l; exact hc _ n hn)); iexact HR
  · iapply (nine_mono (fun p l => by obtain ⟨n, hn⟩ := ag_num p l; exact hc _ n hn)); iexact HG

end Cert.Strips
end
-- ==== Proof.Run.lean ====
/-
# `Run`: a run of the launch

From any memory every device runs, writes the sums of its directions' three strips, and leaves its arguments and its
counters as they were.
-/
module

public import proofs.«01_k».proof.Proof.Deal
public import Idealize.ShloMosaic.Lib.Pipeline.CollectiveSegs
public import Idealize.ShloMosaic.Lib.Pipeline.Value

@[expose] public section

noncomputable section

namespace Cert.Strips

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The landing buffer taken apart and put together -/

/-- The parts the partners write to, and the rest. -/
def comU : Finset S3x512x1024.Idx := Finset.univ.biUnion fun x : Fin 3 × Fin 3 => cbox x.2 x.1
def comPart (c : Dev nD) (p l : Fin 3) : sProp 𝕄 := iprop(∃ f, comP (F := F) c (cbox l p) f)
def comRest (c : Dev nD) : sProp 𝕄 := iprop(∃ f, comP (F := F) c (Finset.univ \ comU) f)

theorem cbox_apart (x : Fin 3 × Fin 3) (_ : x ∈ (Finset.univ : Finset (Fin 3 × Fin 3))) (y : Fin 3 × Fin 3) (_ : y ∈ (Finset.univ : Finset (Fin 3 × Fin 3))) (h : x ≠ y) :
    Disjoint (cbox x.2 x.1) (cbox y.2 y.1) :=
  cbox_disj (x.2, x.1) (y.2, y.1) fun e => h (Prod.ext (congrArg Prod.snd e) (congrArg Prod.fst e))

omit [FloatOps F] in
theorem mine_eq (c : Dev nD) : iprop(mine (F := F) c 0 ∗ mine (F := F) c 1 ∗ mine (F := F) c 2)
    = iprop((comPart (F := F) c 0 0 ∗ comPart c 1 2 ∗ comPart c 2 1) ∗ (comPart c 0 1 ∗ comPart c 1 0 ∗ comPart c 2 2) ∗ (comPart c 0 2 ∗ comPart c 1 1 ∗ comPart c 2 0)) := by
  unfold mine
  rw [three_eq, three_eq, three_eq]
  rfl

omit [FloatOps F] in
theorem comPart_intro (c : Dev nD) (p l : Fin 3) (f : S3x512x1024.Idx → F .f32) :
    ((c : Thread nD τ).loc cc0_scratch0 ↦[cbox l p]{fullShare} f : sProp 𝕄) ⊢ comPart (F := F) c p l := by
  unfold comPart comP
  iintro H; iexists f; iexact H

omit [FloatOps F] in
theorem com_split (c : Dev nD) (f : S3x512x1024.Idx → F .f32) :
    ((c : Thread nD τ).loc cc0_scratch0 ↦{fullShare} f : sProp 𝕄) ⊢ iprop(mine (F := F) c 0 ∗ mine (F := F) c 1 ∗ mine (F := F) c 2 ∗ comRest (F := F) c) := by
  have h1 : ((c : Thread nD τ).loc cc0_scratch0 ↦{fullShare} f : sProp 𝕄) ⊢ iprop(((c : Thread nD τ).loc cc0_scratch0 ↦[comU]{fullShare} f)
      ∗ ((c : Thread nD τ).loc cc0_scratch0 ↦[Finset.univ \ comU]{fullShare} f)) := (pointsTo_split_subset (Finset.subset_univ comU)).1
  have h2 : ((c : Thread nD τ).loc cc0_scratch0 ↦[comU]{fullShare} f : sProp 𝕄) ⊢ nine (comPart c) := by
    unfold comU
    rw [pointsTo_biUnion _ _ cbox_apart, ← nine_eq]
    exact bigSep_mono fun x _ => comPart_intro c x.1 x.2 f
  iintro H
  ihave H := h1 $$ H
  icases H with ⟨H, HR⟩
  ihave H := h2 $$ H
  ihave HR : comRest (F := F) c $$ [HR]
  · unfold comRest comP; iexists f; iexact HR
  unfold nine
  icases H with ⟨H00, H01, H02, H10, H11, H12, H20, H21, H22⟩
  ihave HM := (Entails.of_eq (mine_eq c).symm) $$ [H00 H01 H02 H10 H11 H12 H20 H21 H22]
  · iframe
  icases HM with ⟨HM0, HM1, HM2⟩
  iframe

omit [FloatOps F] in
theorem com_join (c : Dev nD) : nine (comPart (F := F) c) ⊢ iprop(comRest (F := F) c -∗ ∃ f, (c : Thread nD τ).loc cc0_scratch0 ↦{fullShare} f) := by
  rw [← nine_eq]
  unfold comPart comRest comP
  iintro H ⟨%g, HR⟩
  have : Nonempty (Buf (Elt F) ((c : Thread nD τ).loc cc0_scratch0)) := ⟨g⟩
  ihave H := (Idealize.SL.BI.bigSep_exists_pi Finset.univ (fun (x : Fin 3 × Fin 3) (f : Buf (Elt F) ((c : Thread nD τ).loc cc0_scratch0)) => ((c : Thread nD τ).loc cc0_scratch0 ↦[cbox x.2 x.1]{fullShare} f : sProp 𝕄))) $$ H
  icases H with ⟨%fs, H⟩
  ihave H := (pointsTo_biUnion_join (ℓ := (c : Thread nD τ).loc cc0_scratch0) Finset.univ (fun x : Fin 3 × Fin 3 => cbox x.2 x.1) fs g cbox_apart) $$ H
  icases H with ⟨%h, -, H⟩
  iexists (comU.piecewise h g)
  iapply (pointsTo_join_subset (Finset.subset_univ comU))
  isplitl [H]
  · iexact H
  · iexact HR

/-! ## What the pipeline holds -/

variable (m : (ℓ : Loc nD τ sig) → Buf (Elt F) ℓ) (ρ : Dev nD → PrngReg) (c : Dev nD)

/-- A device's activations; its context; the products the sums are of; what it writes. -/
def fx (c : Dev nD) : S1x1024x1024.Idx → F .f32 := m ((c : Thread nD τ).loc main_arg0)
def ctxK (c : Dev nD) : S1024x1024.Idx → F .f32 := ctxOf (k0_pay1 (fx m c) (WQ m c)) msk (KC m c) (VC m c)
def prods : Dev nD → OIdx → F .f32 := prodP (ctxK m) (WO m)
def outK : OIdx → F .f32 := FIN (prods m)

def xstg (c : Dev nD) : (cc0_stg0_0 : Ref sig .tc).ty.Contents (Elt F) := (win0_0.blk (0 : Fin 1)).view.read (Elt F) (m ((c : Thread nD τ).loc main_arg0))
theorem xstg_eq (c : Dev nD) : xstg m c = fx m c := by
  funext i
  show m ((c : Thread nD τ).loc main_arg0) ((win0_0.rect (0 : Fin 1)).idx i) = m ((c : Thread nD τ).loc main_arg0) i
  congr 1
  funext a
  refine Fin.ext ?_
  show win0_0.index (0 : Fin 1) a * win0_0.size a + 1 * (i a : ℕ) = (i a : ℕ)
  have h : win0_0.index (0 : Fin 1) a * win0_0.size a = 0 := by fin_cases a <;> decide
  omega
def ostg (c : Dev nD) : (cc0_stg1_0 : Ref sig .tc).ty.Contents (Elt F) := outK m

theorem rect_id (i : S1x1024x1024.Idx) : (win0_1.rect (0 : Fin 1)).idx i = i := by
  funext a
  refine Fin.ext ?_
  show win0_1.index (0 : Fin 1) a * win0_1.size a + 1 * (i a : ℕ) = (i a : ℕ)
  have h : win0_1.index (0 : Fin 1) a * win0_1.size a = 0 := by fin_cases a <;> decide
  omega

/-- What the body does not touch. -/
def rest (c : Dev nD) : sProp 𝕄 :=
  iprop(comRest c ∗ ((c : Thread nD τ).loc main_arg1 ↦[Finset.univ \ (wqM c).view.set]{fullShare} m ((c : Thread nD τ).loc main_arg1))
    ∗ ((c : Thread nD τ).loc main_arg4 ↦[Finset.univ \ (woM c).view.set]{fullShare} m ((c : Thread nD τ).loc main_arg4)))
def Φ₀ (c : Dev nD) : sProp 𝕄 := iprop((∃ K, recs (prods m) m K) ∗ held0 m c ∗ bufs c ∗ rest m c)
def Φ₁ (c : Dev nD) : sProp 𝕄 := iprop(held1 m c (prods m) ∗ bufs c ∗ rest m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => ostg m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by decide⟩
theorem fin_N (t : Fin cfg0.N) : t = t₀ := Fin.ext (by have := t.isLt; have := cfg0_N; show t.val = 0; omega)

theorem bigSep_W (Φ : Fin cfg0.W → sProp 𝕄) : bigSep Finset.univ Φ = iprop(Φ 0 ∗ Φ 1) := bigSep_W0 Φ
theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ m c ∗ (dats m ρ 0 c).owesAt () t₀.succ ∗ stg c cc0_stg0_0 (xstg m c) ∗ stg c cc0_stg1_0 (ostg m c))

theorem sound_body (c : Dev nD) : bodyPre m ρ c ⊢ wpc c (onBufs (cc0_body (F := F))) (fun _ => bodyPost m ρ c) := by
  unfold bodyPre Φ₀
  iintro ⟨⟨⟨%K, #Hrec⟩, Hh, Hb, Hr⟩, Ho, ⟨%d0, %g0, %hg0, Hx⟩, ⟨%d1, %g1, %hg1, Hout⟩⟩
  have hx : g0 = xstg m c := by rw [hg0]; unfold Dat.before; rw [if_pos (fetch_0 t₀)]; rfl
  subst hx
  unfold Dat.owesAt Pipeline.owesWithin
  icases Ho with ⟨%W, %hW, HO⟩
  ihave HO : Ow c (O₀ c) $$ [HO]
  · unfold Ow; iexists W; iexact HO
  ihave Hx := (Entails.of_eq (show ((c : Thread nD τ).loc cc0_stg0_0 ↦{fullShare} xstg m c : sProp 𝕄) = xP c (fx m c) by rw [xstg_eq]; rfl)) $$ Hx
  ihave Hout := (Entails.of_eq (show ((c : Thread nD τ).loc cc0_stg1_0 ↦{fullShare} g1 : sProp 𝕄) = outP c Finset.univ g1 from rfl)) $$ Hout
  iapply (body_run m K (ctxK m) (WO m) c (fx m c) g1 rfl rfl) $$ [] Hh Hb Hout Hx HO
  · iexact Hrec
  iintro Hh Hb Hout Hx HO
  ihave Hx := (Entails.of_eq (show xP c (fx m c) = ((c : Thread nD τ).loc cc0_stg0_0 ↦{fullShare} xstg m c : sProp 𝕄) by rw [xstg_eq]; rfl)) $$ Hx
  ihave Hout := (Entails.of_eq (show outP c Finset.univ (FIN (prodP (ctxK m) (WO m))) = ((c : Thread nD τ).loc cc0_stg1_0 ↦{fullShare} ostg m c : sProp 𝕄) from rfl)) $$ Hout
  unfold bodyPost Φ₁ Dat.owesAt Pipeline.owesWithin Ow
  icases HO with ⟨%W', HO⟩
  isplitl [Hh Hb Hr]
  · isplitl [Hh]; · iexact Hh
    isplitl [Hb] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 40000 in
/-- The body's obligation on a device. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ (onBufs (cc0_body (F := F))) (fun _ => bodyPost m ρ c)
  exact sound_body m ρ c

/-! ## The launch's sides -/

theorem ownSemFacts : Pipeline.OwnSemFacts cfg0.spec osem := by decide
theorem share_eq (c : Dev nD) (w : Fin cfg0.W) : (dats m ρ 0 c).share w = fullShare := by unfold Dat.share; split <;> rfl

theorem payee_same (k : Fin 4) (p t : Fin 3) (h : ¬(k = 1 ∨ k = 3)) : payee (.inr (.inr (k, p, t))) = Equiv.refl _ := if_neg h
theorem payee_other (k : Fin 4) (p t : Fin 3) (h : k = 1 ∨ k = 3) : payee (.inr (.inr (k, p, t))) = flipEquiv (p + lvl k t) := if_pos h

omit [FloatOps F] in
theorem pay_same (k : Fin 4) (p t : Fin 3) (h : ¬(k = 1 ∨ k = 3)) :
    tokAt (F := F) (payee (.inr (.inr (k, p, t))) c) (.inr (.inr (k, p, t))) = tok c (.inr (k, p, t)) := by
  rw [payee_same k p t h]; rfl
omit [FloatOps F] in
theorem pay_other (k : Fin 4) (p t : Fin 3) (h : k = 1 ∨ k = 3) :
    tokAt (F := F) (payee (.inr (.inr (k, p, t))) c) (.inr (.inr (k, p, t))) = tok (prt c p (lvl k t)) (.inr (k, p, t)) := by
  rw [payee_other k p t h]; rfl

omit [FloatOps F] in
/-- The tokens a device pays with. -/
theorem payToks_eq : payToks (F := F) c ⊢ iprop(dutyTok ER (cell (flip c 0) none) 0 0 ∗ dutyTok ER (cell (flip c 1) none) 0 1 ∗ dutyTok ER (cell (flip c 2) none) 0 2
    ∗ (tok c (.inl 0) ∗ tok c (.inl 1) ∗ tok c (.inl 2) ∗ tok c (.inl 3))
    ∗ nine (fun p l => tok c (oS p l)) ∗ nine (fun p l => tok (prt c p l) (oR p l)) ∗ nine (fun p t => tok c (oA p t))
    ∗ nine (fun p t => tok (prt c p (Fin.rev t)) (oG p t))) := by
  have h : payToks (F := F) c = iprop(bigSep Finset.univ (fun q : Fin 3 => tokAt (F := F) (payee (.inl q) c) (.inl q))
      ∗ bigSep Finset.univ (fun o : OI => tokAt (F := F) (payee (.inr o) c) (.inr o))) := bigSep_univ_sum _
  rw [h, three_eq, own_eq]
  iintro ⟨⟨H0, H1, H2⟩, HC, HS, HR, HA, HG⟩
  ihave HS := (nine_mono (fun p l => Entails.of_eq (pay_same c 0 p l (by decide)))) $$ HS
  ihave HR := (nine_mono (fun p l => Entails.of_eq (pay_other c 1 p l (by decide)))) $$ HR
  ihave HA := (nine_mono (fun p l => Entails.of_eq (pay_same c 2 p l (by decide)))) $$ HA
  ihave HG := (nine_mono (fun p l => Entails.of_eq (pay_other c 3 p l (by decide)))) $$ HG
  isplitl [H0]; · iexact H0
  isplitl [H1]; · iexact H1
  isplitl [H2]; · iexact H2
  isplitl [HC]; · iexact HC
  isplitl [HS]; · iexact HS
  isplitl [HR]; · iexact HR
  isplitl [HA]; · iexact HA
  iexact HG

omit [FloatOps F] in
theorem posAt_eq : posAt (F := F) c = iprop(atPos ER (cell c none) 0 ∅ 0 ∗ (at0 c (.inl 0) ∗ at0 c (.inl 1) ∗ at0 c (.inl 2) ∗ at0 c (.inl 3))
    ∗ nine (fun p l => at0 c (oS p l)) ∗ nine (fun p l => at0 c (oR p l)) ∗ nine (fun p t => at0 c (oA p t)) ∗ nine (fun p t => at0 c (oG p t))) := by
  unfold posAt
  rw [ci_eq, own_eq]

theorem rsPre_all : nine (rsPre (F := F) c) = iprop(nine (fun p l => tok c (oS p l)) ∗ nine (fun p l => tok (prt c p l) (oR p l)) ∗ nine (fun p l => at0 c (oS p l))
    ∗ nine (fun p l => at0 c (oR p l)) ∗ nine (fun p l => crd c (oR p l))) := by
  rw [← nine_sep, ← nine_sep, ← nine_sep, ← nine_sep]; rfl
theorem agSt_all : nine (fun p t => agSt (F := F) c p t 0) = iprop(nine (fun p t => tok c (oA p t)) ∗ nine (fun p t => tok (prt c p (Fin.rev t)) (oG p t)) ∗ nine (fun p t => at0 c (oA p t))
    ∗ nine (fun p t => at0 c (oG p t)) ∗ nine (fun p t => crd c (oG p t))) := by
  rw [← nine_sep, ← nine_sep, ← nine_sep, ← nine_sep]; rfl

/-- What a device starts with but its scratch buffers. -/
def start (c : Dev nD) : sProp 𝕄 :=
  iprop((∃ K, recs (prods m) m K) ∗ (dutyTok ER (cell (flip c 0) none) 0 0 ∗ dutyTok ER (cell (flip c 1) none) 0 1 ∗ dutyTok ER (cell (flip c 2) none) 0 2
      ∗ cred (tallyAt (cell c none) () 3) ∗ atPos ER (cell c none) 0 ∅ 0
      ∗ cpSt m c 0 0 ∗ cpSt m c 1 0 ∗ cpSt m c 2 0 ∗ cpSt m c 3 0 ∗ nine (rsPre c) ∗ nine (fun p t => agSt c p t 0))
    ∗ ((c : Thread nD τ).loc main_arg1 ↦[Finset.univ \ (wqM c).view.set]{fullShare} m ((c : Thread nD τ).loc main_arg1))
    ∗ ((c : Thread nD τ).loc main_arg4 ↦[Finset.univ \ (woM c).view.set]{fullShare} m ((c : Thread nD τ).loc main_arg4)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (prods m) m c)
      ⊢ |={Set.univ}=> iprop(start m c ∗ emp) := by
  rw [Pipeline.unscopedRestP_none, unscopedRest0_eq]
  iintro ⟨⟨H1, H2, H3, H4⟩, Hlev, Hcr, -, HG⟩
  ihave Hc := (creds (F := F) c) $$ Hcr
  icases Hc with ⟨Hc, HcR, HcG⟩
  unfold G'
  icases HG with ⟨%K, HK, Hpos, Htok⟩
  ihave Hpos := (Entails.of_eq (posAt_eq (F := F) c)) $$ Hpos
  ihave Htok := (payToks_eq (F := F) c) $$ Htok
  icases Hpos with ⟨HaB, ⟨Ha0, Ha1, Ha2, Ha3⟩, HaS, HaR, HaA, HaG⟩
  icases Htok with ⟨HB0, HB1, HB2, ⟨Ht0, Ht1, Ht2, Ht3⟩, HtS, HtR, HtA, HtG⟩
  ihave H1 := (pointsTo_split_subset (Finset.subset_univ (wqM c).view.set)).1 $$ H1
  icases H1 with ⟨H1, H1r⟩
  ihave H4 := (pointsTo_split_subset (Finset.subset_univ (woM c).view.set)).1 $$ H4
  icases H4 with ⟨H4, H4r⟩
  ihave H1 := (Entails.of_eq (show ((c : Thread nD τ).loc main_arg1 ↦[(wqM c).view.set]{fullShare} m ((c : Thread nD τ).loc main_arg1) : sProp 𝕄) = srcP m c 3 from rfl)) $$ H1
  ihave H2 := (Entails.of_eq (show ((c : Thread nD τ).loc main_arg2 ↦{fullShare} m ((c : Thread nD τ).loc main_arg2) : sProp 𝕄) = srcP m c 0 from rfl)) $$ H2
  ihave H3 := (Entails.of_eq (show ((c : Thread nD τ).loc main_arg3 ↦{fullShare} m ((c : Thread nD τ).loc main_arg3) : sProp 𝕄) = srcP m c 1 from rfl)) $$ H3
  ihave H4 := (Entails.of_eq (show ((c : Thread nD τ).loc main_arg4 ↦[(woM c).view.set]{fullShare} m ((c : Thread nD τ).loc main_arg4) : sProp 𝕄) = srcP m c 2 from rfl)) $$ H4
  imodintro
  isplitl
  · unfold start
    isplitl [HK Hlev]
    · iexists K
      unfold recs; unfold cellsK
      isplitl [HK]; · iexact HK
      iexact Hlev
    rw [rsPre_all, agSt_all]
    simp only [cpSt]
    isplitr [H1r H4r]
    · isplitl [HB0]; · iexact HB0
      isplitl [HB1]; · iexact HB1
      isplitl [HB2]; · iexact HB2
      isplitl [Hc]; · iexact Hc
      isplitl [HaB]; · iexact HaB
      isplitl [Ht0 Ha0 H2]
      · isplitl [Ht0]; · iexact Ht0
        isplitl [Ha0]; · iexact Ha0
        iexact H2
      isplitl [Ht1 Ha1 H3]
      · isplitl [Ht1]; · iexact Ht1
        isplitl [Ha1]; · iexact Ha1
        iexact H3
      isplitl [Ht2 Ha2 H4]
      · isplitl [Ht2]; · iexact Ht2
        isplitl [Ha2]; · iexact Ha2
        iexact H4
      isplitl [Ht3 Ha3 H1]
      · isplitl [Ht3]; · iexact Ht3
        isplitl [Ha3]; · iexact Ha3
        iexact H1
      isplitl [HtS HtR HaS HaR HcR]
      · isplitl [HtS]; · iexact HtS
        isplitl [HtR]; · iexact HtR
        isplitl [HaS]; · iexact HaS
        isplitl [HaR]; · iexact HaR
        iexact HcR
      isplitl [HtA]; · iexact HtA
      isplitl [HtG]; · iexact HtG
      isplitl [HaA]; · iexact HaA
      isplitl [HaG]; · iexact HaG
      iexact HcG
    isplitl [H1r]; · iexact H1r
    iexact H4r
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold start Φ₀ rest held0 bufs ctxP wqP kP vP woP
  iintro ⟨⟨HK, ⟨HB0, HB1, HB2, Hc, HaB, HC0, HC1, HC2, HC3, HR, HA⟩, H1r, H4r⟩, -, ⟨⟨%f, Hf⟩, HX, HQ, HK', HV, HW⟩⟩
  ihave Hf := (com_split c f) $$ Hf
  icases Hf with ⟨HM0, HM1, HM2, Hrest⟩
  isplitl [HK]; · iexact HK
  isplitr [HX HQ HK' HV HW H1r H4r Hrest]
  · isplitl [HB0]; · iexact HB0
    isplitl [HB1]; · iexact HB1
    isplitl [HB2]; · iexact HB2
    isplitl [HM0]; · iexact HM0
    isplitl [HM1]; · iexact HM1
    isplitl [HM2]; · iexact HM2
    isplitl [Hc]; · iexact Hc
    isplitl [HaB]; · iexact HaB
    isplitl [HC0]; · iexact HC0
    isplitl [HC1]; · iexact HC1
    isplitl [HC2]; · iexact HC2
    isplitl [HC3]; · iexact HC3
    isplitl [HR]; · iexact HR
    iexact HA
  isplitr [H1r H4r Hrest]
  · isplitl [HX]; · iexact HX
    isplitl [HQ]; · iexact HQ
    isplitl [HK']; · iexact HK'
    isplitl [HV]; · iexact HV
    iexact HW
  isplitl [Hrest]; · iexact Hrest
  isplitl [H1r]; · iexact H1r
  iexact H4r

/-- What a device's run leaves outside its staging and scratch buffers: the barrier's counter, and the arguments it read. -/
def leaves (c : Dev nD) : sProp 𝕄 :=
  iprop(unscopedSems0 c ∗ ((c : Thread nD τ).loc main_arg1 ↦{fullShare} m ((c : Thread nD τ).loc main_arg1))
    ∗ ((c : Thread nD τ).loc main_arg2 ↦{fullShare} m ((c : Thread nD τ).loc main_arg2))
    ∗ ((c : Thread nD τ).loc main_arg3 ↦{fullShare} m ((c : Thread nD τ).loc main_arg3))
    ∗ ((c : Thread nD τ).loc main_arg4 ↦{fullShare} m ((c : Thread nD τ).loc main_arg4)))

theorem rsEnd_all (P : Dev nD → OIdx → F .f32) : nine (fun p l => rsSt P c p l 5)
    = iprop(nine (fun p l => zer (F := F) c (oS p l)) ∗ nine (fun p l => zer (F := F) c (oR p l)) ∗ nine (comPart (F := F) c)) := by
  rw [← nine_sep, ← nine_sep]; rfl
theorem agEnd_all : nine (fun p t => agSt (F := F) c p t 3)
    = iprop(nine (fun p t => zer (F := F) c (oA p t)) ∗ nine (fun p t => zer (F := F) c (oG p t))) := by
  rw [← nine_sep]; rfl

omit [FloatOps F] in
theorem split_join {ℓ : Loc nD τ sig} (S : Finset ℓ.ty.Idx) (f : Buf (Elt F) ℓ) :
    (ℓ ↦[S]{fullShare} f : sProp 𝕄) ⊢ iprop((ℓ ↦[Finset.univ \ S]{fullShare} f) -∗ ℓ ↦{fullShare} f) := by
  iintro H1 H2
  iapply (pointsTo_split_subset (Finset.subset_univ S)).2
  isplitl [H1] <;> iassumption

theorem phi1_exit (c : Dev nD) :
    (dats m ρ 0 c).Φ (Fin.last cfg0.N) ⊢ iprop(leaves m c ∗ Pipeline.ownSems0 osem c ∗ Pipeline.scopedRest cfg0.spec c) := by
  rw [show (dats m ρ 0 c).Φ (Fin.last cfg0.N) = Φ₁ m c from rfl, scopedRest0_eq]
  unfold Pipeline.ownSems0
  rw [own_eq]
  unfold leaves Φ₁ rest held1 bufs ctxP wqP kP vP woP
  rw [unscopedSems0_eq, rsEnd_all, agEnd_all]
  simp only [cpSt]
  iintro ⟨⟨HB, ⟨Hz0, Hs0⟩, ⟨Hz1, Hs1⟩, ⟨Hz2, Hs2⟩, ⟨Hz3, Hs3⟩, ⟨HS, HR, HM⟩, HA, HG⟩, ⟨HX, HQ, HK, HV, HW⟩, Hcom, H1r, H4r⟩
  ihave Hcom := (com_join c) $$ HM Hcom
  ihave Hs0 := (Entails.of_eq (show srcP m c 0 = ((c : Thread nD τ).loc main_arg2 ↦{fullShare} m ((c : Thread nD τ).loc main_arg2) : sProp 𝕄) from rfl)) $$ Hs0
  ihave Hs1 := (Entails.of_eq (show srcP m c 1 = ((c : Thread nD τ).loc main_arg3 ↦{fullShare} m ((c : Thread nD τ).loc main_arg3) : sProp 𝕄) from rfl)) $$ Hs1
  ihave Hs2 := (Entails.of_eq (show srcP m c 2 = ((c : Thread nD τ).loc main_arg4 ↦[(woM c).view.set]{fullShare} m ((c : Thread nD τ).loc main_arg4) : sProp 𝕄) from rfl)) $$ Hs2
  ihave Hs3 := (Entails.of_eq (show srcP m c 3 = ((c : Thread nD τ).loc main_arg1 ↦[(wqM c).view.set]{fullShare} m ((c : Thread nD τ).loc main_arg1) : sProp 𝕄) from rfl)) $$ Hs3
  ihave Hs2 := (split_join (F := F) (ℓ := (c : Thread nD τ).loc main_arg4) (woM c).view.set _) $$ Hs2 H4r
  ihave Hs3 := (split_join (F := F) (ℓ := (c : Thread nD τ).loc main_arg1) (wqM c).view.set _) $$ Hs3 H1r
  isplitl [HB Hs0 Hs1 Hs2 Hs3]
  · isplitl [HB]; · iexact HB
    isplitl [Hs3]; · iexact Hs3
    isplitl [Hs0]; · iexact Hs0
    isplitl [Hs1]; · iexact Hs1
    iexact Hs2
  isplitr [HX HQ HK HV HW Hcom]
  · isplitl [Hz0 Hz1 Hz2 Hz3]
    · isplitl [Hz0]; · iexact Hz0
      isplitl [Hz1]; · iexact Hz1
      isplitl [Hz2]; · iexact Hz2
      iexact Hz3
    isplitl [HS]; · iexact HS
    isplitl [HR]; · iexact HR
    isplitl [HA]; · iexact HA
    iexact HG
  isplitl [Hcom]; · iexact Hcom
  isplitl [HX]; · iexact HX
  isplitl [HQ]; · iexact HQ
  isplitl [HK]; · iexact HK
  isplitl [HV]; · iexact HV
  iexact HW

theorem waits (c : Dev nD) : (levAts L lv : sProp 𝕄) ⊢ Pipeline.cellsWaits cfgs (dats m ρ) () 0 c :=
  Pipeline.cellsWaits_intro cfgs (dats m ρ) () 0 c fun w s t =>
    mayWait_of c _ _ 0 (by fin_cases w <;> fin_cases s <;> exact Nat.le_of_eq rfl) (by
      rcases t with ⟨_ | _, ht⟩
      · exact fun g u hg => by obtain ⟨c', k, h, hk⟩ := O₀_pos hg; exact ⟨c', k, h, by omega⟩
      · exact fun g u hg => absurd hg (lt_irrefl _))

/-! ## The run -/

def finalA (c : Dev nD) (w : Fin cfg0.W) : Buf (Elt F) ((cfg0.win w).arr.view.loc (c : Thread nD τ)) := (dats m ρ 0 c).arrAt w cfg0.N

/-- The arguments the body copies itself are as they were. -/
def Kept (s : MemSt nD τ sig (Elt F)) (c : Dev nD) : Prop :=
  s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)

omit [FloatOps F] in
theorem read_whole {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  icombine HSI H gives %h
  isplitr
  · ipureintro; exact Buf.eq_of_forall_mem_univ h
  iexact HSI

theorem leaves_read (c : Dev nD) (s' : Phys nD τ sig (Elt F)) :
    iprop(leaves m c ∗ emp ∗ SI s') ⊢ |={Set.univ}=> (iprop(⌜Kept m s'.mem c ∧ ∀ sm : SemLoc sig, sm.isScoped .tc = false → s'.mem.sem ((c.tc : Thread nD τ), sm) = 0⌝ ∗ SI s') : sProp 𝕄) := by
  unfold leaves
  iintro ⟨⟨Hu, H1, H2, H3, H4⟩, -, HSI⟩
  ihave H := (read_whole (F := F) _ s') $$ [H1 HSI]
  · isplitl [H1] <;> iassumption
  icases H with ⟨%h1, HSI⟩
  ihave H := (read_whole (F := F) _ s') $$ [H2 HSI]
  · isplitl [H2] <;> iassumption
  icases H with ⟨%h2, HSI⟩
  ihave H := (read_whole (F := F) _ s') $$ [H3 HSI]
  · isplitl [H3] <;> iassumption
  icases H with ⟨%h3, HSI⟩
  ihave H := (read_whole (F := F) _ s') $$ [H4 HSI]
  · isplitl [H4] <;> iassumption
  icases H with ⟨%h4, HSI⟩
  imod (Pipeline.unscopedSems0_read (X := unscopedSems0 c) (c := c) fupd_intro s') $$ [Hu HSI] with ⟨%hu, HSI⟩
  · isplitl [Hu] <;> iassumption
  imodintro
  isplitr
  · ipureintro; exact ⟨⟨h1, h2, h3, h4⟩, hu⟩
  iexact HSI

def QC : PUnit × MemSt nD τ sig (Elt F) → Prop := fun r =>
  ∀ c : Dev nD, (∀ w : Fin cfg0.W, r.2.mem ((cfg0.win w).arr.view.loc (c : Thread nD τ)) = finalA m ρ c w) ∧ Kept m r.2 c

set_option maxRecDepth 8000 in
/-- For any float values and any memory, every fair execution of the launch ends, each device's windows are as its run leaves
    them, its other arguments as they were, and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (prods m) m) (G' := G' (prods m) m) (u₀ := u₀)
    (hu₀ := by
      unfold u₀
      iintro Hu
      ihave H := (ownU_pair _ _) $$ Hu
      icases H with ⟨HP, HX⟩
      imod (deal_tokens (prods m) m) $$ HX with HG
      imodintro
      isplitl [HP] <;> iassumption)
    (hglob := glob (prods m) m)
    (hA := fun _ _ => rfl) (hpf := fun _ k => k.elim0)
    (X := start m) (Y := leaves m) (Z := fun _ => iprop(emp))
    (hX := start_intro m ρ) (hin := phi0_intro m ρ) (hout := phi1_exit m ρ)
    (QY := fun c s => Kept m s c ∧ ∀ sm : SemLoc sig, sm.isScoped .tc = false → s.sem ((c.tc : Thread nD τ), sm) = 0)
    (hY := leaves_read m)
    (hQ := fun _ h hs => ⟨fun c => ⟨(h c).1, (h c).2.2.1⟩, sem_eq_zero hs fun c => (h c).2.2.2⟩)

/-- The activations after the run. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result after the run. -/
theorem finalA_o (c : Dev nD) : finalA m ρ c (1 : Fin 2) = outK m := by
  refine (dats (F := F) m ρ 0 c).arrAt_eq_of_cover 1 (outK m) (fun t _ => ?_) fun i => ⟨t₀, rfl, ?_⟩
  · obtain rfl := fin_N t
    funext i
    show outK m i = outK m ((win0_1.rect (0 : Fin 1)).idx i)
    rw [rect_id]
  · show i ∈ ((View.whole main_v1).slice (win0_1.rect (0 : Fin 1))).set
    rw [View.set_slice_whole]
    exact (rect_id i) ▸ LoadRect.idx_mem (win0_1.rect (0 : Fin 1)).toLoadRect i

end Cert.Strips
end
-- ==== Proof.Weigh.lean ====
/-
Sums of extended reals, and the two ways of weighing values: by the exponentials over their sum, and by the
exponentials less the greatest score, each over the sum of those.
-/
module

public import Idealize.ShloMosaic.Lib.Pointwise
public import Idealize.ShloMosaic.Lib.FinSumWindow
public import Mathlib.Analysis.SpecialFunctions.Exp

@[expose] public section

noncomputable section

namespace Cert.Strips
open Idealize.ShloMosaic

theorem ereal_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite factor that is not negative goes into a sum. -/
theorem sum_mul_pos {ι : Type*} (s : Finset ι) (f : ι → EReal) {c : ℝ} (hc : 0 ≤ c) : (∑ i ∈ s, f i) * (c : EReal) = ∑ i ∈ s, f i * c := by
  classical
  induction s using Finset.induction_on with
  | empty => simp
  | insert a s ha ih =>
    rw [Finset.sum_insert ha, Finset.sum_insert ha,
      EReal.right_distrib_of_nonneg_of_ne_top (by exact_mod_cast hc) (EReal.coe_ne_top _), ih]

/-- The greatest of finitely many scores, some of them left out as minus infinity. -/
theorem fold_max_coe {n : ℕ} (M : Fin n → Prop) [DecidablePred M] (s : Fin n → ℝ) (j₀ : Fin n) (h₀ : M j₀) :
    ∃ μ : ℝ, Finset.univ.fold max (⊥ : EReal) (fun j => if M j then (s j : EReal) else ⊥) = μ := by
  have hlt : ∀ S : Finset (Fin n), S.fold max (⊥ : EReal) (fun j => if M j then (s j : EReal) else ⊥) ≠ ⊤ := by
    intro S
    classical
    induction S using Finset.induction_on with
    | empty => simp
    | insert a S ha ih =>
      rw [Finset.fold_insert ha]
      rcases max_choice (if M a then (s a : EReal) else ⊥) (S.fold max (⊥ : EReal) (fun j => if M j then (s j : EReal) else ⊥)) with h | h
      · rw [h]; split <;> simp
      · rw [h]; exact ih
  have hge : (s j₀ : EReal) ≤ Finset.univ.fold max (⊥ : EReal) (fun j => if M j then (s j : EReal) else ⊥) := by
    rw [Finset.le_fold_max]
    exact .inr ⟨j₀, Finset.mem_univ _, by rw [if_pos h₀]⟩
  have hbot : Finset.univ.fold max (⊥ : EReal) (fun j => if M j then (s j : EReal) else ⊥) ≠ ⊥ := by
    intro h; rw [h] at hge; exact absurd (le_bot_iff.1 hge) (EReal.coe_ne_bot _)
  exact ⟨_, (EReal.coe_toReal (hlt _) hbot).symm⟩

/-- The weight of a score, nothing where it is left out. -/
def wt {n : ℕ} (M : Fin n → Prop) [DecidablePred M] (s : Fin n → ℝ) (j : Fin n) : ℝ := if M j then Real.exp (s j) else 0

theorem wt_nonneg {n : ℕ} (M : Fin n → Prop) [DecidablePred M] (s : Fin n → ℝ) (j : Fin n) : 0 ≤ wt M s j := by
  unfold wt; split
  · exact (Real.exp_pos _).le
  · exact le_rfl
theorem wt_sum_pos {n : ℕ} (M : Fin n → Prop) [DecidablePred M] (s : Fin n → ℝ) (j₀ : Fin n) (h₀ : M j₀) : 0 < ∑ j, wt M s j :=
  Finset.sum_pos' (fun j _ => wt_nonneg M s j) ⟨j₀, Finset.mem_univ _, by unfold wt; rw [if_pos h₀]; exact Real.exp_pos _⟩

theorem div_pos {x : EReal} {d : ℝ} (hd : 0 < d) : Ideal.div x (d : EReal) = x * ((1 / d : ℝ) : EReal) := Ideal.div_coe hd.ne' x

/-- The weighted sum over the weights' sum, each product over the sum apart. -/
theorem weigh_over {n : ℕ} (M : Fin n → Prop) [DecidablePred M] (s : Fin n → ℝ) (v : Fin n → EReal) (j₀ : Fin n) (h₀ : M j₀) :
    Ideal.div (∑ j, (wt M s j : EReal) * v j) (∑ j, (wt M s j : EReal)) = ∑ j, v j * ((wt M s j / ∑ j, wt M s j : ℝ) : EReal) := by
  have hd := wt_sum_pos M s j₀ h₀
  rw [← ereal_sum, div_pos hd, sum_mul_pos _ _ (by positivity)]
  refine Finset.sum_congr rfl fun j _ => ?_
  rw [mul_comm (wt M s j : EReal) (v j), mul_assoc, ← EReal.coe_mul, mul_one_div]

/-- The exponential of a score less the greatest, and its share of the sum of those. -/
theorem weigh_max {n : ℕ} (M : Fin n → Prop) [DecidablePred M] (s : Fin n → ℝ) (j₀ : Fin n) (h₀ : M j₀) (t : Fin n → EReal)
    (ht : ∀ j, t j = if M j then (s j : EReal) else ⊥) (j : Fin n) :
    Ideal.div (Ideal.exp (t j - Finset.univ.fold max (⊥ : EReal) t))
        (∑ k, Ideal.exp (t k - Finset.univ.fold max (⊥ : EReal) t))
      = ((wt M s j / ∑ j, wt M s j : ℝ) : EReal) := by
  obtain rfl : t = fun j => if M j then (s j : EReal) else ⊥ := funext ht
  obtain ⟨μ, hμ⟩ := fold_max_coe M s j₀ h₀
  have he : ∀ k, Ideal.exp ((if M k then (s k : EReal) else ⊥) - (μ : EReal)) = ((wt M s k * Real.exp (-μ) : ℝ) : EReal) := by
    intro k
    unfold wt
    by_cases h : M k
    · rw [if_pos h, if_pos h, ← EReal.coe_sub, ← Real.exp_add, ← sub_eq_add_neg]; rfl
    · rw [if_neg h, if_neg h, EReal.bot_sub, zero_mul]; rfl
  rw [hμ]
  simp only [he]
  rw [← ereal_sum, ← Finset.sum_mul, div_pos (mul_pos (wt_sum_pos M s j₀ h₀) (Real.exp_pos _)), ← EReal.coe_mul]
  congr 1
  have := (wt_sum_pos M s j₀ h₀).ne'
  have := (Real.exp_pos (-μ)).ne'
  field_simp

/-- A choice by a bit. -/
theorem select_if {α : Type} (c : BitVec 1) (a b : α) : Scalar.select c a b = if c = 1#1 then a else b := by
  rcases BitVec.eq_zero_or_eq_one c with rfl | rfl <;> rfl

end Cert.Strips

end

end
-- ==== Proof.KerValue.lean ====
/-
The kernel's result over the extended reals, read at an index.
-/
module

public import proofs.«01_k».proof.Proof.Run
public import proofs.«01_k».proof.Proof.Weigh

@[expose] public section

noncomputable section

namespace Cert.Strips

open Cert.KernelIdeal Cert.KernelIdeal.Gen Idealize.ShloMosaic Idealize.ShloMosaic.TcCoe
open Idealize.ShloMosaic.Pointwise

set_option maxRecDepth 16384

/-! ## The exchange's sum -/

/-- The devices whose products meet at device `c`, the strip's directions from `q` on. -/
def meet (c : Dev nD) (q : Fin 3) : List (Dev nD) :=
  [c, flip c q, flip c (q + 1), flip (flip c (q + 1)) q, flip c (q + 2), flip (flip c (q + 2)) q,
    flip (flip c (q + 2)) (q + 1), flip (flip (flip c (q + 2)) (q + 1)) q]
theorem meet_all : ∀ (c : Dev nD) (q : Fin 3), (meet c q).Perm (List.finRange 8) := by decide +kernel

/-- After the three steps a device holds the sum over all devices. -/
theorem R_all (P : Dev nD → OIdx → Ideal .f32) (c : Dev nD) (i : OIdx) : R P 3 c i = ∑ d : Fin 8, P d i := by
  have h : R P 3 c i = ((meet c (stripOf (i 2))).map fun d => P d i).sum := by
    simp only [meet, List.map_cons, List.map_nil, List.sum_cons, List.sum_nil, add_zero]
    show ((P _ i + P _ i) + (P _ i + P _ i)) + ((P _ i + P _ i) + (P _ i + P _ i)) = _
    have e0 : stripOf (i 2) + Fin.ofNat 3 0 = stripOf (i 2) := add_zero _
    simp only [add_assoc, e0]
    rfl
  rw [h, ((meet_all c (stripOf (i 2))).map _).sum_eq, ← List.ofFn_eq_map, List.sum_ofFn]

theorem FIN_all (P : Dev nD → OIdx → Ideal .f32) (i : OIdx) : FIN P i = ∑ d : Fin 8, P d i := R_all P _ i

/-! ## A device's product -/

theorem rows_at (f : S1024x1024.Idx → Ideal .f32) (i d : Fin 1024) (y : S512x1024.Idx) (h0 : (y 0 : ℕ) = i.val % 512) (h1 : (y 1 : ℕ) = d.val) :
    rowsOf f (i.val / 512 * 512) y = f (ix2 i d) :=
  congrArg f (sqi_eq (ix2 i d) _ _ (by show i.val = _; omega) h1.symm)
theorem cols_at (p : Fin 3) (f : S1024x1024.Idx → Ideal .f32) (n d : Fin 1024) (y : (colS p).Idx) (h0 : (y 0 : ℕ) = d.val) (h1 : c0 p + (y 1 : ℕ) = n.val) :
    colsOf p f y = f (ix2 d n) :=
  congrArg f (sqi_eq (ix2 d n) _ _ h0.symm h1.symm)

theorem prodP_at (X W : Dev nD → S1024x1024.Idx → Ideal .f32) (c : Dev nD) (i n : Fin 1024) :
    prodP X W c (ix3 0 i n) = ∑ d : Fin 1024, X c (ix2 i d) * W c (ix2 d n) := by
  have key : ∀ p : Fin 3, c0 p ≤ n.val → n.val < c0 p + cw p → prdAt p (X c) (W c) i n = ∑ d : Fin 1024, X c (ix2 i d) * W c (ix2 d n) := by
    intro p h1 h2
    have hm : mulP p (rowsOf (X c) (i.val / 512 * 512)) (colsOf p (W c)) (boxIx p (i.val % 512) (n.val - c0 p))
        = ∑ d : Fin 1024, rowsOf (X c) (i.val / 512 * 512) (ix2 ⟨i.val % 512, Nat.mod_lt _ (by decide)⟩ d)
          * colsOf p (W c) (ix2 d ⟨(n.val - c0 p) % cw p, Nat.mod_lt _ (cw_pos p)⟩) := by
      generalize rowsOf (X c) (i.val / 512 * 512) = A
      generalize colsOf p (W c) = B
      fin_cases p
      all_goals
        pointwise [mulP, k0_pay85, k0_pay86, k0_pay87]
        refine Finset.sum_congr rfl fun d _ => congrArg₂ _ (congrArg A ?_) (congrArg B ?_)
        · exact congrArg (fun a => ix2 a d) (Fin.ext (Nat.mod_mod _ _))
        · exact congrArg (fun a => ix2 d a) (Fin.ext rfl)
    unfold prdAt
    rw [hm]
    refine Finset.sum_congr rfl fun d _ => ?_
    rw [rows_at (X c) i d _ rfl rfl, cols_at p (W c) n d _ rfl (by show c0 p + (n.val - c0 p) % cw p = n.val; rw [Nat.mod_eq_of_lt (by omega)]; omega)]
  have hs : ∀ n : Fin 1024, c0 (stripOf n.val) ≤ n.val ∧ n.val < c0 (stripOf n.val) + cw (stripOf n.val) := by decide +kernel
  exact key _ (hs n).1 (hs n).2

/-! ## The attention -/

theorem pay1_at (x : FVec Ideal S1x1024x1024 .f32) (w : FVec Ideal S1024x1024 .f32) (i d : Fin 1024) :
    k0_pay1 x w (ix2 i d) = (∑ e : Fin 1024, x (ix3 0 i e) * w (ix2 e d)) * Ideal.ofBits .f32 0x3DB504F3#32 := by
  pointwise [k0_pay1]

/-- A position's block of 64, as the kernel computes it. -/
def kblk (n : ℕ) : BitVec 32 :=
  Scalar.select (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 n) 64#32) 0#32))
    (IntOp.subi (IntOp.divsi ArithUnit.vector (BitVec.ofNat 32 n) 64#32) 1#32)
    (IntOp.divsi ArithUnit.vector (BitVec.ofNat 32 n) 64#32)
theorem kblk_eq : ∀ n : Fin 1024, kblk n.val = BitVec.ofNat 32 (n.val / 64) := by decide +kernel
theorem kblk_le : ∀ (q b : Fin 4) (a : Fin 16), IntOp.cmpi CmpIPredicate.sle (BitVec.ofNat 32 a.val)
    (IntOp.addi (BitVec.ofNat 32 (4 * q.val)) (BitVec.ofNat 32 b.val)) = 1#1 ↔ a.val ≤ 4 * q.val + b.val := by decide +kernel
theorem seen_iff (q : Fin 4) (r : ℕ) (hr : r < 256) (j : ℕ) (hj : j < 1024) : IntOp.cmpi CmpIPredicate.sle (kblk j)
    (IntOp.addi (BitVec.ofNat 32 (4 * q.val)) (kblk r)) = 1#1 ↔ j / 64 ≤ (256 * q.val + r) / 64 := by
  rw [kblk_eq ⟨j, hj⟩, kblk_eq ⟨r, by omega⟩]
  refine (kblk_le q ⟨r / 64, by omega⟩ ⟨j / 64, by omega⟩).trans ?_
  show j / 64 ≤ 4 * q.val + r / 64 ↔ _
  omega

/-- A block's key among all keys. -/
def key (q : Fin 4) (j : Fin (kl q)) : Fin 1024 := ⟨j.val, by have := j.isLt; have := q.isLt; simp only [kl] at *; omega⟩

theorem msk_at (q : Fin 4) (r : Fin 256) (j : Fin (kl q)) : msk q (ix2 r j) = 1#1 ↔ (key q j).val / 64 ≤ (256 * q.val + r.val) / 64 := by
  refine Iff.trans ?_ (seen_iff q r.val r.isLt (key q j).val (key q j).isLt)
  fin_cases q
  · pointwise [msk, k0_pay4, k0_pay2, k0_pay3]; exact Iff.rfl
  · pointwise [msk, k0_pay7, k0_pay5, k0_pay6]; exact Iff.rfl
  · pointwise [msk, k0_pay14, k0_pay10, k0_pay8, k0_pay9, k0_pay11, k0_pay12, k0_pay13]; exact Iff.rfl
  · pointwise [msk, k0_pay19, k0_pay15, k0_pay16, k0_pay17, k0_pay18]; exact Iff.rfl

theorem attW_at (q : Fin 4) (h : Fin 8) (Qv : FVec Ideal S1024x1024 .f32) (Mk : IVec (sS q) 1) (kc : KIdx → Ideal .f32) (r : Fin 256) (j : Fin (kl q)) :
    attW q h Qv Mk (head2 h kc) (ix2 r j) = if Mk (ix2 r j) = 1#1 then
      Ideal.exp (∑ d : Fin 128, Qv (ix2 ⟨256 * q.val + r.val, by omega⟩ ⟨128 * h.val + d.val, by omega⟩) * kc (ix4 0 (key q j) h d))
      else 0 := by
  fin_cases q
  all_goals
    pointwise [attW, head2, headf, dotQK, keys]
    rw [select_if]
    rfl

theorem attO_at (q : Fin 4) (h : Fin 8) (w : FVec Ideal (sS q) .f32) (vc : KIdx → Ideal .f32) (r : Fin 256) (d : Fin 128) :
    attO q w (head2 h vc) (ix2 r d) = Ideal.div
      (∑ j : Fin (kl q), w (ix2 r j) * vc (ix4 0 (key q j) h d))
      (∑ j : Fin (kl q), w (ix2 r j)) := by
  fin_cases q
  all_goals
    pointwise [attO, head2, headf, dotPV, keys]
    rfl

end Cert.Strips

end

end
-- ==== Proof.RefValue.lean ====
/-
The reference's result as its steps, each read at an index over the extended reals.
-/
module

public import proofs.«01_k».proof.Proof.Weigh
public import proofs.«01_k».proof.Proof.Gen.ReferenceIdeal.Run
public import Idealize.ShloMosaic.Lib.Routing.OpsOrder

@[expose] public section

noncomputable section

namespace Cert.RefVal

open Cert.ReferenceIdeal Cert.ReferenceIdeal.Gen Idealize.ShloMosaic Idealize.ShloMosaic.TcCoe
open Idealize.ShloMosaic.Pointwise
open Cert.Strips (select_if)

/-! ## The steps -/

/-- Every position's block of 64. -/
def blk : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32))))
        (broadcastInDim S1024 ![] bcast_S_S1024 (constantI S_ 32 0#32))))
    (subi (Host.divsi (iotaInDim S1024 32 0) (broadcastInDim S1024 ![] bcast_S_S1024 (id (constantI S_ 32 64#32))))
      (broadcastInDim S1024 ![] bcast_S_S1024 (constantI S_ 32 1#32)))
    (Host.divsi (iotaInDim S1024 32 0) (broadcastInDim S1024 ![] bcast_S_S1024 (id (constantI S_ 32 64#32))))
/-- Which keys a query sees. -/
def sees : IVec S1024x1024 1 :=
  cmpi .sle (broadcastInDim S1024x1024 ![0, 1] bcast_S1x1024_S1024x1024_0_1 (broadcastInDim S1x1024 ![1] bcast_S1024_S1x1024_1 blk))
    (broadcastInDim S1024x1024 ![0, 1] bcast_S1024x1_S1024x1024_0_1 (broadcastInDim S1024x1 ![0] bcast_S1024_S1024x1_0 blk))
/-- Which queries see a key. -/
def keep : IVec S1024 1 := Host.reduce IntOp.ori sees (constantI S_ 1 0#1) reducesTo_S1024x1024_S1024_d1 h_S_

variable (x : FVec Ideal S1x1024x1024 .f32) (wq : FVec Ideal S1024x8192 .f32) (k v : FVec Ideal S1x1024x64x128 .f32) (wo : FVec Ideal S8192x1024 .f32)

def qry : FVec Ideal S1x1024x64x128 .f32 :=
  shapeCast S1x1024x64x128 (Host.dotGeneral dot_S1x1024x1024_S1024x8192_S1x1024x8192_2_0_01_1_n_n none x wq) shapeCasts_S1x1024x8192_S1x1024x64x128
def scores (q : FVec Ideal S1x1024x64x128 .f32) : FVec Ideal S1x64x1024x1024 .f32 :=
  select (broadcastInDim S1x64x1024x1024 ![0, 1, 2, 3] bcast_S1x1x1024x1024_S1x64x1024x1024_0_1_2_3 (broadcastInDim S1x1x1024x1024 ![2, 3] bcast_S1024x1024_S1x1x1024x1024_2_3 sees))
    (mulf (Host.dotGeneral dot_S1x1024x64x128_S1x1024x64x128_S1x64x1024x1024_3_3_1_1_02_02 none q k)
      (broadcastInDim S1x64x1024x1024 ![] bcast_S_S1x64x1024x1024 (constant S_ .f32 0x3DB504F3#32)))
    (broadcastInDim S1x64x1024x1024 ![] bcast_S_S1x64x1024x1024 (id (constant S_ .f32 0xFF800000#32)))
def most (s : FVec Ideal S1x64x1024x1024 .f32) : FVec Ideal S1x64x1024 .f32 :=
  Host.reduce FloatOps.maximumf s (constant S_ .f32 0xFF800000#32) reducesTo_S1x64x1024x1024_S1x64x1024_d3 h_S_
def expo (s : FVec Ideal S1x64x1024x1024 .f32) : FVec Ideal S1x64x1024x1024 .f32 :=
  Host.exp (subf s (broadcastInDim S1x64x1024x1024 ![0, 1, 2, 3] bcast_S1x64x1024x1_S1x64x1024x1024_0_1_2_3
    (broadcastInDim S1x64x1024x1 ![0, 1, 2] bcast_S1x64x1024_S1x64x1024x1_0_1_2 (most s))))
def total (e : FVec Ideal S1x64x1024x1024 .f32) : FVec Ideal S1x64x1024x1 .f32 :=
  select (broadcastInDim S1x64x1024x1 ![0, 1, 2, 3] bcast_S1x1x1024x1_S1x64x1024x1_0_1_2_3 (broadcastInDim S1x1x1024x1 ![2] bcast_S1024_S1x1x1024x1_2 keep))
    (broadcastInDim S1x64x1024x1 ![0, 1, 2] bcast_S1x64x1024_S1x64x1024x1_0_1_2 (Host.reduceAdd e (constant S_ .f32 0x00000000#32) reducesTo_S1x64x1024x1024_S1x64x1024_d3 h_S_))
    (broadcastInDim S1x64x1024x1 ![] bcast_S_S1x64x1024x1 (id (constant S_ .f32 0x3F800000#32)))
def weights (e : FVec Ideal S1x64x1024x1024 .f32) : FVec Ideal S1x64x1024x1024 .f32 :=
  select (broadcastInDim S1x64x1024x1024 ![0, 1, 2, 3] bcast_S1x1x1024x1_S1x64x1024x1024_0_1_2_3 (broadcastInDim S1x1x1024x1 ![2] bcast_S1024_S1x1x1024x1_2 keep))
    (Host.divf e (broadcastInDim S1x64x1024x1024 ![0, 1, 2, 3] bcast_S1x64x1024x1_S1x64x1024x1024_0_1_2_3 (total e)))
    (broadcastInDim S1x64x1024x1024 ![] bcast_S_S1x64x1024x1024 (id (constant S_ .f32 0x00000000#32)))
def mixed (w : FVec Ideal S1x64x1024x1024 .f32) : FVec Ideal S1x1024x8192 .f32 :=
  shapeCast S1x1024x8192 (transpose S1x1024x64x128 [0, 3, 1, 2]
    (Host.dotGeneral dot_S1x1024x64x128_S1x64x1024x1024_S1x64x128x1024_1_3_3_2_02_01 none v w) transposes_S1x64x128x1024_S1x1024x64x128_0_3_1_2)
    shapeCasts_S1x1024x64x128_S1x1024x8192
def out (z : FVec Ideal S1x1024x8192 .f32) : FVec Ideal S1x1024x1024 .f32 :=
  Host.dotGeneral dot_S1x1024x8192_S8192x1024_S1x1024x1024_2_0_01_1_n_n none z wo

/-- The reference's attention, the heads side by side. -/
def ctx : FVec Ideal S1x1024x8192 .f32 := mixed v (weights (expo (scores k (qry x wq))))

theorem res_eq (m : (ℓ : Loc nD τ sig) → Buf (Elt Ideal) ℓ) (c : Dev nD) :
    Value.res_main_v33 m c = out (m ((c.tc : Thread nD τ).loc main_arg4)) (ctx (m ((c.tc : Thread nD τ).loc main_arg0))
      (m ((c.tc : Thread nD τ).loc main_arg1)) (m ((c.tc : Thread nD τ).loc main_arg2)) (m ((c.tc : Thread nD τ).loc main_arg3))) := rfl

/-! ## The steps at an index -/

set_option maxRecDepth 16384

theorem out_at (z : FVec Ideal S1x1024x8192 .f32) (i : Fin 1024) (n : Fin 1024) :
    out wo z (ix3 0 i n) = ∑ d : Fin 8192, z (ix3 0 i d) * wo (ix2 d n) := by
  pointwise [out]

theorem mixed_at (w : FVec Ideal S1x64x1024x1024 .f32) (i : Fin 1024) (h : Fin 64) (d : Fin 128) :
    mixed v w (ix3 0 i ⟨h.val * 128 + d.val, by omega⟩) = ∑ j : Fin 1024, v (ix4 0 j h d) * w (ix4 0 h i j) := by
  pointwise [mixed]

theorem qry_at (i : Fin 1024) (h : Fin 64) (d : Fin 128) :
    qry x wq (ix4 0 i h d) = ∑ e : Fin 1024, x (ix3 0 i e) * wq (ix2 e ⟨h.val * 128 + d.val, by omega⟩) := by
  pointwise [qry]

theorem neg_inf : Ideal.ofBits .f32 0xFF800000#32 = ⊥ := by simp [Ideal.ofBits, Ideal.ieee]

theorem scores_at (q : FVec Ideal S1x1024x64x128 .f32) (h : Fin 64) (i j : Fin 1024) :
    scores k q (ix4 0 h i j) = if sees (ix2 i j) = 1#1 then (∑ d : Fin 128, q (ix4 0 i h d) * k (ix4 0 j h d)) * Ideal.ofBits .f32 0x3DB504F3#32 else ⊥ := by
  pointwise [scores]
  rw [select_if, ← neg_inf]; rfl
theorem most_at (s : FVec Ideal S1x64x1024x1024 .f32) (h : Fin 64) (i : Fin 1024) :
    most s (ix3 0 h i) = Finset.univ.fold max (⊥ : EReal) fun j : Fin 1024 => s (ix4 0 h i j) := by
  pointwise [most]
  rw [neg_inf]
theorem expo_at (s : FVec Ideal S1x64x1024x1024 .f32) (h : Fin 64) (i j : Fin 1024) :
    expo s (ix4 0 h i j) = Ideal.exp (s (ix4 0 h i j) - most s (ix3 0 h i)) := by
  pointwise [expo]

theorem block_word : ∀ i : Fin 1024, Scalar.select (IntOp.andi
        (IntOp.cmpi CmpIPredicate.ne
          (if BitVec.ofNat 32 i.val = 0 then (0 : BitVec 32) else if (BitVec.ofNat 32 i.val).msb = true then -1 else 1)
          (if 64#32 = 0 then (0 : BitVec 32) else if (64#32).msb = true then -1 else 1))
        (IntOp.cmpi CmpIPredicate.ne (IntOp.remsi ArithUnit.host (BitVec.ofNat 32 i.val) 64#32) 0#32))
      (IntOp.subi (IntOp.divsi ArithUnit.host (BitVec.ofNat 32 i.val) 64#32) 1#32)
      (IntOp.divsi ArithUnit.host (BitVec.ofNat 32 i.val) 64#32) = BitVec.ofNat 32 (i.val / 64) := by decide +kernel
theorem blk_at (i : Fin 1024) : blk (ix1 i) = BitVec.ofNat 32 (i.val / 64) := by
  pointwise [blk]
  exact block_word i
theorem block_le : ∀ a b : Fin 16, IntOp.cmpi CmpIPredicate.sle (BitVec.ofNat 32 b.val) (BitVec.ofNat 32 a.val) = 1#1 ↔ b.val ≤ a.val := by
  decide +kernel
theorem sees_at (i j : Fin 1024) : sees (ix2 i j) = 1#1 ↔ j.val / 64 ≤ i.val / 64 := by
  pointwise [sees]
  rw [blk_at, blk_at]
  exact block_le ⟨i.val / 64, by omega⟩ ⟨j.val / 64, by omega⟩
theorem keep_at (i : Fin 1024) : keep (ix1 i) = 1#1 := by
  pointwise [keep]
  rw [Routing.fold_ori]
  exact ⟨i, Finset.mem_univ _, (sees_at i i).2 le_rfl⟩

theorem total_at (e : FVec Ideal S1x64x1024x1024 .f32) (h : Fin 64) (i : Fin 1024) :
    total e (ix4 0 h i 0) = ∑ j : Fin 1024, e (ix4 0 h i j) := by
  pointwise [total]
  rw [select_if, if_pos (keep_at i)]
theorem weights_at (e : FVec Ideal S1x64x1024x1024 .f32) (h : Fin 64) (i j : Fin 1024) :
    weights e (ix4 0 h i j) = Ideal.div (e (ix4 0 h i j)) (∑ j : Fin 1024, e (ix4 0 h i j)) := by
  pointwise [weights]
  rw [select_if, if_pos (keep_at i), total_at]

end Cert.RefVal

end

end
-- ==== Proof.Equal.lean ====
/-
The kernel's result and the reference's are the same, for finite inputs, queries' weights and keys.
-/
module

public import proofs.«01_k».proof.Proof.KerValue
public import proofs.«01_k».proof.Proof.RefValue
public import proofs.«01_k».proof.Pre_finite_KernelIdeal
public import Idealize.ShloMosaic.Lib.Layout
public import Idealize.ShloMosaic.Lib.ReduceAll

@[expose] public section

noncomputable section

namespace Cert.Strips

open Cert.KernelIdeal Cert.KernelIdeal.Gen Idealize.ShloMosaic Idealize.ShloMosaic.TcCoe
open Idealize.ShloMosaic.Pointwise

set_option maxRecDepth 16384

/-! ## One head's attention -/

/-- Which keys a query sees: those of its own block of 64 and of the blocks before it. -/
def near (i : Fin 1024) (j : Fin 1024) : Prop := j.val / 64 ≤ i.val / 64
instance (i : Fin 1024) : DecidablePred (near i) := fun j => inferInstanceAs (Decidable (_ ≤ _))

/-- The values weighed by the exponentials of the scores of the keys the query sees. -/
def weighed (i : Fin 1024) (s : Fin 1024 → ℝ) (v : Fin 1024 → EReal) : EReal :=
  ∑ j, v j * ((wt (near i) s j / ∑ j, wt (near i) s j : ℝ) : EReal)

/-- A sum over the keys a block reaches is the sum over all keys, when the others give nothing. -/
theorem sum_key (q : Fin 4) (f : Fin 1024 → EReal) (hf : ∀ j : Fin 1024, kl q ≤ j.val → f j = 0) : ∑ j : Fin (kl q), f (key q j) = ∑ j, f j := by
  have hk : kl q ≤ 1024 := by have := q.isLt; simp only [kl]; omega
  rw [FinSumWindow.sum_window 0 (by omega : 0 + kl q ≤ 1024) f fun P hP => hf P (by omega)]
  exact Finset.sum_congr rfl fun j _ => congrArg f (Fin.ext (Nat.zero_add _).symm)

theorem ker_head (x : FVec Ideal S1x1024x1024 .f32) (w : FVec Ideal S1024x1024 .f32) (kc vc : KIdx → Ideal .f32) (i : Fin 1024) (h : Fin 8) (d : Fin 128)
    (s : Fin 1024 → ℝ)
    (hs : ∀ j, ∑ d : Fin 128, k0_pay1 x w (ix2 i ⟨128 * h.val + d.val, by omega⟩) * kc (ix4 0 j h d) = (s j : EReal)) :
    ctxOf (k0_pay1 x w) msk kc vc (ix2 i ⟨128 * h.val + d.val, by omega⟩) = weighed i s fun j => vc (ix4 0 j h d) := by
  have hi := i.isLt
  obtain ⟨q, hq⟩ : ∃ q : Fin 4, q.val = i.val / 256 := ⟨⟨i.val / 256, by omega⟩, rfl⟩
  obtain ⟨r, hr⟩ : ∃ r : Fin 256, r.val = i.val % 256 := ⟨⟨i.val % 256, by omega⟩, rfl⟩
  have hqr : i.val = 256 * q.val + r.val := by omega
  have hW : ∀ j : Fin (kl q), attW q h (k0_pay1 x w) (msk q) (head2 h kc) (ix2 r j) = ((wt (near i) s (key q j) : ℝ) : EReal) := by
    intro j
    rw [attW_at]
    have hrow : (⟨256 * q.val + r.val, by omega⟩ : Fin 1024) = i := Fin.ext hqr.symm
    rw [hrow, hs (key q j)]
    unfold wt
    by_cases hm : near i (key q j)
    · rw [if_pos hm, if_pos ((msk_at q r j).2 (by rw [← hqr]; exact hm))]; rfl
    · rw [if_neg hm, if_neg fun hc => hm (by have := (msk_at q r j).1 hc; rw [← hqr] at this; exact this)]; rfl
  have hz : ∀ j : Fin 1024, kl q ≤ j.val → wt (near i) s j = 0 := by
    intro j hj
    refine if_neg fun hm => ?_
    simp only [near, kl] at hm hj
    omega
  rw [ctxOf_blk _ _ _ _ q h (ix2 r d) (ix2 i ⟨128 * h.val + d.val, by omega⟩) hqr rfl]
  unfold attB
  rw [attO_at]
  simp only [hW]
  rw [sum_key q (fun j => ((wt (near i) s j : ℝ) : EReal) * vc (ix4 0 j h d)) fun j hj => by rw [hz j hj, EReal.coe_zero, zero_mul],
    sum_key q (fun j => ((wt (near i) s j : ℝ) : EReal)) fun j hj => by rw [hz j hj, EReal.coe_zero]]
  exact weigh_over (near i) s _ i (le_refl (i.val / 64))

theorem ref_head (x : FVec Ideal Cert.ReferenceIdeal.S1x1024x1024 .f32) (wq : FVec Ideal Cert.ReferenceIdeal.S1024x8192 .f32)
    (k v : FVec Ideal Cert.ReferenceIdeal.S1x1024x64x128 .f32) (i : Fin 1024) (h : Fin 64) (d : Fin 128) (s : Fin 1024 → ℝ)
    (hs : ∀ j, (∑ d : Fin 128, RefVal.qry x wq (ix4 0 i h d) * k (ix4 0 j h d)) * Ideal.ofBits .f32 0x3DB504F3#32 = (s j : EReal)) :
    RefVal.ctx x wq k v (ix3 0 i ⟨h.val * 128 + d.val, by omega⟩) = weighed i s fun j => v (ix4 0 j h d) := by
  unfold RefVal.ctx
  rw [RefVal.mixed_at]
  refine Finset.sum_congr rfl fun j _ => congrArg _ ?_
  rw [RefVal.weights_at]
  simp only [RefVal.expo_at, RefVal.most_at]
  refine weigh_max (near i) s i (le_refl (i.val / 64)) (fun j => RefVal.scores k (RefVal.qry x wq) (ix4 0 h i j)) (fun j => ?_) j
  show RefVal.scores k (RefVal.qry x wq) (ix4 0 h i j) = _
  rw [RefVal.scores_at, hs j]
  by_cases hm : near i j
  · rw [if_pos hm, if_pos ((RefVal.sees_at i j).2 hm)]
  · rw [if_neg hm, if_neg fun hc => hm ((RefVal.sees_at i j).1 hc)]

/-! ## The scores -/

theorem scale_real : ∃ S : ℝ, Ideal.ofBits .f32 0x3DB504F3#32 = (S : EReal) := ⟨_, by simp [Ideal.ofBits, Ideal.ieee]; rfl⟩

/-- With finite factors the scale may multiply each query or each score. -/
theorem score_eq {S : ℝ} (a : Fin 1024 → ℝ) (b : Fin 1024 → Fin 128 → ℝ) (k : Fin 128 → ℝ) :
    (∑ d : Fin 128, ((∑ e : Fin 1024, (a e : EReal) * (b e d : EReal)) * (S : EReal)) * (k d : EReal)
        = ((((∑ d : Fin 128, (∑ e : Fin 1024, a e * b e d) * k d) * S : ℝ)) : EReal))
      ∧ ((∑ d : Fin 128, (∑ e : Fin 1024, (a e : EReal) * (b e d : EReal)) * (k d : EReal)) * (S : EReal)
        = ((((∑ d : Fin 128, (∑ e : Fin 1024, a e * b e d) * k d) * S : ℝ)) : EReal)) := by
  have hq : ∀ d : Fin 128, (∑ e : Fin 1024, (a e : EReal) * (b e d : EReal)) = ((∑ e : Fin 1024, a e * b e d : ℝ) : EReal) := fun d => by
    rw [ereal_sum]; exact Finset.sum_congr rfl fun e _ => (EReal.coe_mul _ _).symm
  constructor
  · rw [Finset.sum_mul, ereal_sum]
    refine Finset.sum_congr rfl fun d _ => ?_
    rw [hq, ← EReal.coe_mul, ← EReal.coe_mul, mul_right_comm]
  · rw [EReal.coe_mul, ereal_sum]
    refine congrArg (· * (S : EReal)) (Finset.sum_congr rfl fun d _ => ?_)
    rw [hq, ← EReal.coe_mul]

/-! ## The devices' parts of the arguments -/

theorem off1 : ∀ c : Dev nD, k0_off1 c 0 = 0 ∧ k0_off1 c 1 = 1024 * c.val := by decide +kernel
theorem off2 : ∀ c : Dev nD, k0_off2 c 0 = 1024 * c.val ∧ k0_off2 c 1 = 0 := by decide +kernel

variable (m : (ℓ : Loc nD τ sig) → Buf (Elt Ideal) ℓ)

theorem dev_lt (c : Dev nD) : c.val < 8 := c.isLt

/-- A device's column of the queries' weights, its row of the output weights, and its head, in the whole arrays. -/
def lane (c : Dev nD) (d : Fin 1024) : Fin 8192 := ⟨1024 * c.val + d.val, by have := dev_lt c; omega⟩
def head (c : Dev nD) (h : Fin 8) : Fin 64 := ⟨8 * c.val + h.val, by have := dev_lt c; omega⟩

theorem WQ_at (c : Dev nD) (e d : Fin 1024) : WQ m c (ix2 e d) = m ((c : Thread nD τ).loc main_arg1) (ix2 e (lane c d)) := by
  refine congrArg (m ((c : Thread nD τ).loc main_arg1)) ?_
  funext a
  fin_cases a
  · exact Fin.ext (by show k0_off1 c 0 + 1 * e.val = e.val; rw [(off1 c).1]; omega)
  · exact Fin.ext (by show k0_off1 c 1 + 1 * d.val = 1024 * c.val + d.val; rw [(off1 c).2]; omega)
theorem WO_at (c : Dev nD) (d n : Fin 1024) : WO m c (ix2 d n) = m ((c : Thread nD τ).loc main_arg4) (ix2 (lane c d) n) := by
  refine congrArg (m ((c : Thread nD τ).loc main_arg4)) ?_
  funext a
  fin_cases a
  · exact Fin.ext (by show k0_off2 c 0 + 1 * d.val = 1024 * c.val + d.val; rw [(off2 c).1]; omega)
  · exact Fin.ext (by show k0_off2 c 1 + 1 * n.val = n.val; rw [(off2 c).2]; omega)

theorem heads_at (c : Dev nD) (f : Cert.ReferenceIdeal.S1x1024x64x128.Idx → Ideal .f32) (j : Fin 1024) (h : Fin 8) (d : Fin 128) :
    Layout.block ⟨4, ![1, 1024, 8, 128]⟩ ⟨4, ![1, 1024, 64, 128]⟩ 2 8 c f (by decide) (ix4 0 j h d) = f (ix4 0 j (head c h) d) := by
  refine congrArg f ?_
  funext a
  fin_cases a
  · rfl
  · rfl
  · exact Fin.ext (by show c.val * 8 + h.val = 8 * c.val + h.val; omega)
  · rfl

/-- A sum over all lanes is the devices' sums added up. -/
theorem lanes_sum (f : Fin 8192 → EReal) : ∑ D : Fin 8192, f D = ∑ c : Fin 8, ∑ d : Fin 1024, f (lane c d) := by
  rw [← Fintype.sum_prod_type']
  refine (Fintype.sum_equiv (finProdFinEquiv (m := 8) (n := 1024)) _ _ fun p => congrArg f (Fin.ext ?_)).symm
  show 1024 * p.1.val + p.2.val = p.2.val + 1024 * p.1.val
  omega

/-! ## The results -/

/-- The two results at once: with the queries' inputs, their weights and the keys finite. -/
theorem out_eq (x : FVec Ideal S1x1024x1024 .f32) (wq : FVec Ideal S1024x8192 .f32) (k v : FVec Ideal Cert.ReferenceIdeal.S1x1024x64x128 .f32)
    (wo : FVec Ideal S8192x1024 .f32)
    (h0 : ∀ c : Dev nD, m ((c : Thread nD τ).loc main_arg0) = x) (h1 : ∀ c : Dev nD, m ((c : Thread nD τ).loc main_arg1) = wq)
    (h2 : ∀ c : Dev nD, m ((c : Thread nD τ).loc main_arg2) = Layout.block ⟨4, ![1, 1024, 8, 128]⟩ ⟨4, ![1, 1024, 64, 128]⟩ 2 8 c k (by decide))
    (h3 : ∀ c : Dev nD, m ((c : Thread nD τ).loc main_arg3) = Layout.block ⟨4, ![1, 1024, 8, 128]⟩ ⟨4, ![1, 1024, 64, 128]⟩ 2 8 c v (by decide))
    (h4 : ∀ c : Dev nD, m ((c : Thread nD τ).loc main_arg4) = wo)
    (fx : ∀ i, ∃ r : ℝ, x i = (r : EReal)) (fw : ∀ i, ∃ r : ℝ, wq i = (r : EReal)) (fk : ∀ i, ∃ r : ℝ, k i = (r : EReal)) :
    outK m = RefVal.out wo (RefVal.ctx x wq k v) := by
  choose xr hx using fx
  choose wr hw using fw
  choose kr hk using fk
  obtain ⟨S, hS⟩ := scale_real
  funext y
  obtain ⟨b, i, n, rfl⟩ : ∃ (b : Fin 1) (i n : Fin 1024), y = ix3 b i n := ⟨y 0, y 1, y 2, eq_ix3 y⟩
  obtain rfl : b = 0 := Subsingleton.elim _ _
  rw [RefVal.out_at, lanes_sum]
  unfold outK
  rw [FIN_all]
  refine Finset.sum_congr rfl fun c _ => ?_
  unfold prods
  rw [prodP_at]
  refine Finset.sum_congr rfl fun d _ => ?_
  rw [WO_at, h4]
  refine congrArg (· * wo (ix2 (lane c d) n)) ?_
  have hd := d.isLt
  obtain ⟨h, hh⟩ : ∃ h : Fin 8, h.val = d.val / 128 := ⟨⟨d.val / 128, by omega⟩, rfl⟩
  obtain ⟨l, hl⟩ : ∃ l : Fin 128, l.val = d.val % 128 := ⟨⟨d.val % 128, by omega⟩, rfl⟩
  have ed : d = ⟨128 * h.val + l.val, by omega⟩ := Fin.ext (by show d.val = 128 * h.val + l.val; omega)
  have eD : lane c d = ⟨(head c h).val * 128 + l.val, by have := (head c h).isLt; omega⟩ :=
    Fin.ext (by show 1024 * c.val + d.val = (8 * c.val + h.val) * 128 + l.val; omega)
  rw [eD]
  let s : Fin 1024 → ℝ := fun j =>
    (∑ d : Fin 128, (∑ e : Fin 1024, xr (ix3 0 i e) * wr (ix2 e ⟨(head c h).val * 128 + d.val, by have := (head c h).isLt; omega⟩)) * kr (ix4 0 j (head c h) d)) * S
  rw [ref_head x wq k v i (head c h) l s fun j => ?_, ed]
  · unfold ctxK
    rw [ker_head (Strips.fx m c) (WQ m c) (KC m c) (VC m c) i h l s fun j => ?_]
    · refine congrArg (weighed i s) (funext fun j => ?_)
      show m ((c : Thread nD τ).loc main_arg3) (ix4 0 j h l) = _
      rw [h3, heads_at]
    · rw [← (score_eq (S := S) _ _ _).1]
      refine Finset.sum_congr rfl fun d _ => ?_
      rw [pay1_at, hS]
      refine congrArg₂ _ (congrArg (· * (S : EReal)) (Finset.sum_congr rfl fun e _ => ?_)) ?_
      · rw [WQ_at, h1]
        rw [show Strips.fx m c = x from h0 c, hx, hw]
        refine congrArg (fun a => ((xr (ix3 0 i e) : ℝ) : EReal) * ((wr (ix2 e a) : ℝ) : EReal)) (Fin.ext ?_)
        show 1024 * c.val + (128 * h.val + d.val) = (8 * c.val + h.val) * 128 + d.val
        omega
      · show m ((c : Thread nD τ).loc main_arg2) (ix4 0 j h d) = _
        rw [h2, heads_at, hk]
  · rw [← (score_eq (S := S) _ _ _).2, hS]
    refine congrArg (· * (S : EReal)) (Finset.sum_congr rfl fun d _ => ?_)
    rw [RefVal.qry_at, hk]
    exact congrArg (· * _) (Finset.sum_congr rfl fun e _ => by rw [hx, hw])

/-! ## What the precondition says -/

theorem real_of_small (a : EReal) (h : Ideal.cmp .olt (max a (-a)) (Ideal.ofBits .f32 0x7F800000#32) = 1#1) : ∃ r : ℝ, a = (r : EReal) := by
  have ht : Ideal.ofBits .f32 0x7F800000#32 = ⊤ := by simp [Ideal.ofBits, Ideal.ieee]
  rw [ht] at h
  induction a using EReal.rec with
  | bot => simp [Ideal.cmp] at h
  | coe r => exact ⟨r, rfl⟩
  | top => simp [Ideal.cmp] at h

theorem finite_args [Cert.Pre_finite_KernelIdeal.Facts] (x : FVec Ideal S1x1024x1024 .f32) (wq : FVec Ideal S1024x8192 .f32)
    (k v : FVec Ideal S1x1024x8x128 .f32) (wo : FVec Ideal S8192x1024 .f32)
    (h : Cert.Pre_finite_KernelIdeal.fn (F := Ideal) x wq k v wo = fun _ => 1#1) :
    (∀ i, ∃ r : ℝ, x i = (r : EReal)) ∧ (∀ i, ∃ r : ℝ, wq i = (r : EReal)) ∧ (∀ i, ∃ r : ℝ, k i = (r : EReal)) := by
  haveI : Subsingleton (Cert.Pre_finite_KernelIdeal.S_).Idx := ⟨fun a b => funext fun z => z.elim0⟩
  have e := congrFun h (fun z => z.elim0)
  obtain ⟨e1, e2⟩ := IntOp.andi_eq_one.1 e
  obtain ⟨e0, e1⟩ := IntOp.andi_eq_one.1 e1
  exact ⟨fun i => real_of_small _ (Host.reduce_andi_all _ _ _ _ _ e0 i), fun i => real_of_small _ (Host.reduce_andi_all _ _ _ _ _ e1 i),
    fun i => real_of_small _ (Host.reduce_andi_all _ _ _ _ _ e2 i)⟩

/-- Keys finite on every device are finite. -/
theorem whole_finite (k : FVec Ideal Cert.ReferenceIdeal.S1x1024x64x128 .f32)
    (h : ∀ (c : Dev nD) i, ∃ r : ℝ, Layout.block ⟨4, ![1, 1024, 8, 128]⟩ ⟨4, ![1, 1024, 64, 128]⟩ 2 8 c k (by decide) i = (r : EReal)) (i) :
    ∃ r : ℝ, k i = (r : EReal) := by
  obtain ⟨b, j, H, d, rfl⟩ : ∃ (b : Fin 1) (j : Fin 1024) (H : Fin 64) (d : Fin 128), i = ix4 b j H d := ⟨i 0, i 1, i 2, i 3, eq_ix4 i⟩
  obtain rfl : b = 0 := Subsingleton.elim _ _
  have hH := H.isLt
  obtain ⟨c, hc⟩ : ∃ c : Dev nD, c.val = H.val / 8 := ⟨⟨H.val / 8, by show _ < 8; omega⟩, rfl⟩
  obtain ⟨g, hg⟩ : ∃ g : Fin 8, g.val = H.val % 8 := ⟨⟨H.val % 8, by omega⟩, rfl⟩
  have e : head c g = H := Fin.ext (by show 8 * c.val + g.val = H.val; omega)
  obtain ⟨r, hr⟩ := h c (ix4 0 j g d)
  exact ⟨r, by rw [← hr, heads_at, e]⟩

end Cert.Strips
-- ==== Proof.lean ====
/-
The claims' proofs: every program runs and leaves its arguments and its counters as they were, and for finite scores the
kernel and the reference leave one result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Equal
public import Idealize.ShloMosaic.Adequacy
public import Idealize.ShloMosaic.Init

@[expose] public section

noncomputable section

namespace Cert.Proof

open Idealize.ShloMosaic Idealize.SL.Sem

/-- What a run of the kernel leaves: every argument as it was, every counter at zero. -/
theorem kernel_kept {F : FTy → Type} [FloatOps F] (m : (ℓ : Loc Cert.KernelIdeal.nD Cert.KernelIdeal.τ Cert.KernelIdeal.sig) → Buf (Elt F) ℓ) (ρ : Dev Cert.KernelIdeal.nD → PrngReg)
    (r : PUnit × MemSt Cert.KernelIdeal.nD Cert.KernelIdeal.τ Cert.KernelIdeal.sig (Elt F)) (h : Cert.Strips.QC m ρ r ∧ r.2.sem = fun _ => 0) :
    (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0 :=
  ⟨fun c => ⟨((h.1 c).1 (0 : Fin 2)).trans (Cert.Strips.finalA_x m ρ c), (h.1 c).2.1, (h.1 c).2.2.1, (h.1 c).2.2.2.1, (h.1 c).2.2.2.2⟩, h.2⟩

/-- The kernel's body and the body it is read at the ideal instance with are one program. -/
theorem same_body : @Cert.Kernel.cc0_body Bits _ _ = @Cert.KernelIdeal.cc0_body Bits _ _ := rfl
theorem same_bodies : Cert.Kernel.defs₀ (F := Bits) = Cert.KernelIdeal.defs₀ (F := Bits) := by
  unfold Cert.Kernel.defs₀ Cert.KernelIdeal.defs₀
  refine congrArg (Defs.onTc (nD := 8)) ?_
  funext l a
  match l with
  | 0 => rfl
theorem same_defs : Cert.Kernel.defs (F := Bits) = Cert.KernelIdeal.defs (F := Bits) :=
  congrArg (Pipeline.defs (Cert.KernelIdeal.pcfgs (F := Bits))) same_bodies

theorem frame_kernel : Cert.quiescent_Kernel := fun m ρ _ => by
  rw [same_defs]
  exact (θ_run Cert.KernelIdeal.defs _ _).mono (fun r h => kernel_kept (F := Bits) m ρ r h) (Cert.Strips.run_main (F := Bits) m ρ)
theorem frame_ideal : Cert.quiescent_KernelIdeal := fun m ρ _ =>
  (θ_run Cert.KernelIdeal.defs _ _).mono (fun r h => kernel_kept (F := Ideal) m ρ r h) (Cert.Strips.run_main (F := Ideal) m ρ)
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The precondition's side conditions, over a device's blocks and over the whole arrays. -/
theorem pre_facts : Cert.Pre_finite_KernelIdeal.Facts := by constructor <;> decide
theorem pre_facts_whole : Cert.Pre_finite_ReferenceIdeal.Facts := by constructor <;> decide

/-- For finite inputs, queries' weights and keys, every device of the kernel ends with the reference's result. -/
theorem same_result [Cert.Pre_finite_KernelIdeal.Facts] : Cert.algebraic_KernelIdeal_ReferenceIdeal_pre_finite_KernelIdeal := by
  intro m ρ m' ρ' hpre hargs
  have hfin := fun c => Cert.Strips.finite_args _ _ _ _ _ (hpre c)
  have heq := Cert.Strips.out_eq m _ _ _ _ _ (fun c => (hargs c).1) (fun c => (hargs c).2.1) (fun c => (hargs c).2.2.1) (fun c => (hargs c).2.2.2.1)
    (fun c => (hargs c).2.2.2.2) (by rw [← (hargs 0).1]; exact (hfin 0).1) (by rw [← (hargs 0).2.1]; exact (hfin 0).2.1)
    (Cert.Strips.whole_finite _ fun c => by rw [← (hargs c).2.2.1]; exact (hfin c).2.2)
  refine ⟨Cert.ReferenceIdeal.Value.res_main_v33 m' 0, (θ_run Cert.KernelIdeal.defs _ _).mono (fun r h c => ?_) (Cert.Strips.run_main (F := Ideal) m ρ),
    (θ_run Cert.ReferenceIdeal.defs _ _).mono (fun r h => h 0) (Cert.ReferenceIdeal.Value.run (F := Ideal) m' ρ')⟩
  refine ⟨?_, (kernel_kept m ρ r h).1 c⟩
  exact (((h.1 c).1 (1 : Fin 2)).trans (Cert.Strips.finalA_o m ρ c)).trans (heq.trans (Cert.RefVal.res_eq m' 0).symm)

theorem claim : Cert.Claim :=
  ⟨Cert.Kernel.Gen.facts, Cert.KernelIdeal.Gen.facts, Cert.ReferenceIdeal.Gen.facts, pre_facts, pre_facts_whole,
    frame_kernel, frame_ideal, fun m ρ _ => frame_ideal m ρ trivial, frame_reference, fun m ρ _ => frame_reference m ρ trivial, trivial,
    @same_result pre_facts⟩

end Cert.Proof

end
